-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v191_1)) (v1 : (c : Dev Cert.KernelIdeal.nD) → Buf (Elt Ideal) ((c.tc : Thread Cert.KernelIdeal.nD Cert.KernelIdeal.τ).loc Cert.KernelIdeal.main_v191_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v191_1) = v0 c
          ∧ r.2.mem ((c.tc : Thread Cert.KernelIdeal.nD Cert.KernelIdeal.τ).loc Cert.KernelIdeal.main_v191_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x64 : Shape := ⟨2, ![8, 64]⟩
abbrev S1000000x64 : Shape := ⟨2, ![1000000, 64]⟩
abbrev S1000000 : Shape := ⟨1, ![1000000]⟩
abbrev S_ : Shape := ⟨0, ![]⟩

class Facts : Prop where
  bcast_S_S8x64 : S_.BroadcastsInDim S8x64 (![] : Fin 0 → Fin S8x64.rank)
  reducesTo_S8x64_S_d0_1 : S8x64.ReducesTo [0, 1] S_
  h_S_ : 0 < S_.numel
  bcast_S_S1000000x64 : S_.BroadcastsInDim S1000000x64 (![] : Fin 0 → Fin S1000000x64.rank)
  reducesTo_S1000000x64_S_d0_1 : S1000000x64.ReducesTo [0, 1] S_
  bcast_S_S1000000 : S_.BroadcastsInDim S1000000 (![] : Fin 0 → Fin S1000000.rank)
  reducesTo_S1000000_S_d0 : S1000000.ReducesTo [0] S_

variable [Facts]

def fn {F : FTy → Type} [FloatOps F] (main_arg0 : FVec F S8x64 .f32) (main_arg1 : FVec F S1000000x64 .f32) (main_arg2 : FVec F S1000000 .f32) : IVec S_ 1 :=
  let main_v0 : FVec F S8x64 .f32 := Host.absf main_arg0
  let main_cst : FVec F S_ .f32 := constant S_ .f32 0x7F800000#32
  let main_v1 : FVec F S8x64 .f32 := broadcastInDim S8x64 ![] bcast_S_S8x64 main_cst
  let main_v2 : IVec S8x64 1 := cmpf .olt main_v0 main_v1
  let main_c : IVec S_ 1 := constantI S_ 1 1#1
  let main_v3 : IVec S_ 1 := (fun x v => Host.reduce IntOp.andi x v reducesTo_S8x64_S_d0_1 h_S_) main_v2 main_c
  let main_v4 : FVec F S1000000x64 .f32 := Host.absf main_arg1
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  let main_v9 : FVec F S1000000 .f32 := Host.absf main_arg2
  let main_cst_2 : FVec F S_ .f32 := constant S_ .f32 0x7F800000#32
  let main_v10 : FVec F S1000000 .f32 := broadcastInDim S1000000 ![] bcast_S_S1000000 main_cst_2
  let main_v11 : IVec S1000000 1 := cmpf .olt main_v9 main_v10
  let main_c_3 : IVec S_ 1 := constantI S_ 1 1#1
  let main_v12 : IVec S_ 1 := (fun x v => Host.reduce IntOp.andi x v reducesTo_S1000000_S_d0 h_S_) main_v11 main_c_3
  let main_v13 : IVec S_ 1 := andi main_v8 main_v12
  main_v13
-- ==== Kernel.lean ====
abbrev S8x64 : Shape := ⟨2, ![8, 64]⟩
abbrev S1000000x64 : Shape := ⟨2, ![1000000, 64]⟩
abbrev S1000000 : Shape := ⟨1, ![1000000]⟩
abbrev S8000000 : Shape := ⟨1, ![8000000]⟩
abbrev S_ : Shape := ⟨0, ![]⟩
abbrev S8x1000000 : Shape := ⟨2, ![8, 1000000]⟩
abbrev S64x1000000 : Shape := ⟨2, ![64, 1000000]⟩
abbrev S1x1000000 : Shape := ⟨2, ![1, 1000000]⟩
abbrev S8x1000001 : Shape := ⟨2, ![8, 1000001]⟩
abbrev S64x32768 : Shape := ⟨2, ![64, 32768]⟩
abbrev S1x32768 : Shape := ⟨2, ![1, 32768]⟩
abbrev S8x32768 : Shape := ⟨2, ![8, 32768]⟩
abbrev S8x1015808 : Shape := ⟨2, ![8, 1015808]⟩
abbrev S8x1 : Shape := ⟨2, ![8, 1]⟩
abbrev S8 : Shape := ⟨1, ![8]⟩

abbrev nBuf : Space → Nat
  | .hbm => 260
  | .vmem => 17
  | .smem => 0
  | _ => 0

abbrev hbmTy0_0 (i : Nat) : BufTy := match i % 128 with
  | 0 => ⟨S8x64, .f32⟩
  | 1 => ⟨S1000000x64, .f32⟩
  | 2 => ⟨S1000000, .f32⟩
  | 3 => ⟨S8000000, .i32⟩
  | 4 => ⟨S8000000, .i32⟩
  | 5 => ⟨S_, .i32⟩
  | 6 => ⟨S8000000, .i32⟩
  | 7 => ⟨S8000000, .i32⟩
  | 8 => ⟨S8000000, .i32⟩
  | 9 => ⟨S_, .i32⟩
  | 10 => ⟨S8000000, .i32⟩
  | 11 => ⟨S8000000, .i32⟩
  | 12 => ⟨S_, .i32⟩
  | 13 => ⟨S8000000, .i32⟩
  | 14 => ⟨S8000000, .i32⟩
  | 15 => ⟨S8000000, .i32⟩
  | 16 => ⟨S8000000, .i32⟩
  | 17 => ⟨S8000000, .i32⟩
  | 18 => ⟨S_, .i32⟩
  | 19 => ⟨S8000000, .i32⟩
  | 20 => ⟨S8000000, .i32⟩
  | 21 => ⟨S_, .i32⟩
  | 22 => ⟨S8000000, .i32⟩
  | 23 => ⟨S8000000, .i32⟩
  | 24 => ⟨S8000000, .i32⟩
  | 25 => ⟨S8000000, .i32⟩
  | 26 => ⟨S8000000, .i32⟩
  | 27 => ⟨S_, .i32⟩
  | 28 => ⟨S8000000, .i32⟩
  | 29 => ⟨S8000000, .i32⟩
  | 30 => ⟨S_, .i32⟩
  | 31 => ⟨S8000000, .i32⟩
  | 32 => ⟨S8000000, .i32⟩
  | 33 => ⟨S8000000, .i32⟩
  | 34 => ⟨S8000000, .i32⟩
  | 35 => ⟨S8000000, .i32⟩
  | 36 => ⟨S_, .i32⟩
  | 37 => ⟨S8000000, .i32⟩
  | 38 => ⟨S8000000, .i32⟩
  | 39 => ⟨S_, .i32⟩
  | 40 => ⟨S8000000, .i32⟩
  | 41 => ⟨S8000000, .i32⟩
  | 42 => ⟨S8000000, .i32⟩
  | 43 => ⟨S8000000, .i32⟩
  | 44 => ⟨S_, .i32⟩
  | 45 => ⟨S8000000, .i32⟩
  | 46 => ⟨S8000000, .i32⟩
  | 47 => ⟨S_, .i32⟩
  | 48 => ⟨S8000000, .i32⟩
  | 49 => ⟨S8000000, .i32⟩
  | 50 => ⟨S_, .i32⟩
  | 51 => ⟨S8000000, .i32⟩
  | 52 => ⟨S8000000, .i32⟩
  | 53 => ⟨S8000000, .i32⟩
  | 54 => ⟨S_, .i32⟩
  | 55 => ⟨S8000000, .i32⟩
  | 56 => ⟨S8000000, .i32⟩
  | 57 => ⟨S_, .i32⟩
  | 58 => ⟨S8000000, .i32⟩
  | 59 => ⟨S8000000, .i32⟩
  | 60 => ⟨S8000000, .i32⟩
  | 61 => ⟨S8000000, .i32⟩
  | 62 => ⟨S8000000, .i32⟩
  | 63 => ⟨S_, .i32⟩
  | 64 => ⟨S8000000, .i32⟩
  | 65 => ⟨S8000000, .i32⟩
  | 66 => ⟨S_, .i32⟩
  | 67 => ⟨S8000000, .i32⟩
  | 68 => ⟨S8000000, .i32⟩
  | 69 => ⟨S8000000, .i32⟩
  | 70 => ⟨S8000000, .i32⟩
  | 71 => ⟨S8000000, .i32⟩
  | 72 => ⟨S_, .i32⟩
  | 73 => ⟨S8000000, .i32⟩
  | 74 => ⟨S8000000, .i32⟩
  | 75 => ⟨S_, .i32⟩
  | 76 => ⟨S8000000, .i32⟩
  | 77 => ⟨S8000000, .i32⟩
  | 78 => ⟨S8000000, .i32⟩
  | 79 => ⟨S8000000, .i32⟩
  | 80 => ⟨S8000000, .i32⟩
  | 81 => ⟨S_, .i32⟩
  | 82 => ⟨S8000000, .i32⟩
  | 83 => ⟨S8000000, .i32⟩
  | 84 => ⟨S_, .i32⟩
  | 85 => ⟨S8000000, .i32⟩
  | 86 => ⟨S8000000, .i32⟩
  | 87 => ⟨S8000000, .i32⟩
  | 88 => ⟨S8000000, .i32⟩
  | 89 => ⟨S_, .i32⟩
  | 90 => ⟨S8000000, .i32⟩
  | 91 => ⟨S8000000, .i32⟩
  | 92 => ⟨S_, .i32⟩
  | 93 => ⟨S8000000, .i32⟩
  | 94 => ⟨S8000000, .i32⟩
  | 95 => ⟨S_, .i32⟩
  | 96 => ⟨S8000000, .i32⟩
  | 97 => ⟨S8000000, .i32⟩
  | 98 => ⟨S8000000, .i32⟩
  | 99 => ⟨S_, .i32⟩
  | 100 => ⟨S8000000, .i32⟩
  | 101 => ⟨S8000000, .i32⟩
  | 102 => ⟨S_, .i32⟩
  | 103 => ⟨S8000000, .i32⟩
  | 104 => ⟨S8000000, .i32⟩
  | 105 => ⟨S8000000, .i32⟩
  | 106 => ⟨S8000000, .i32⟩
  | 107 => ⟨S8000000, .i32⟩
  | 108 => ⟨S_, .i32⟩
  | 109 => ⟨S8000000, .i32⟩
  | 110 => ⟨S8000000, .i32⟩
  | 111 => ⟨S_, .i32⟩
  | 112 => ⟨S8000000, .i32⟩
  | 113 => ⟨S8000000, .i32⟩
  | 114 => ⟨S8000000, .i32⟩
  | 115 => ⟨S8000000, .i32⟩
  | 116 => ⟨S8000000, .i32⟩
  | 117 => ⟨S_, .i32⟩
  | 118 => ⟨S8000000, .i32⟩
  | 119 => ⟨S8000000, .i32⟩
  | 120 => ⟨S_, .i32⟩
  | 121 => ⟨S8000000, .i32⟩
  | 122 => ⟨S8000000, .i32⟩
  | 123 => ⟨S8000000, .i32⟩
  | 124 => ⟨S8000000, .i32⟩
  | 125 => ⟨S8000000, .i32⟩
  | 126 => ⟨S_, .i32⟩
  | 127 => ⟨S8000000, .i32⟩
  | _ => ⟨S8x64, .f32⟩

abbrev hbmTy0_1 (i : Nat) : BufTy := match i % 128 with
  | 0 => ⟨S8000000, .i32⟩
  | 1 => ⟨S_, .i32⟩
  | 2 => ⟨S8000000, .i32⟩
  | 3 => ⟨S8000000, .i32⟩
  | 4 => ⟨S8000000, .i32⟩
  | 5 => ⟨S8000000, .i32⟩
  | 6 => ⟨S_, .i32⟩
  | 7 => ⟨S8000000, .i32⟩
  | 8 => ⟨S8000000, .i32⟩
  | 9 => ⟨S_, .i32⟩
  | 10 => ⟨S8000000, .i32⟩
  | 11 => ⟨S8000000, .i32⟩
  | 12 => ⟨S_, .i32⟩
  | 13 => ⟨S8000000, .i32⟩
  | 14 => ⟨S8000000, .i32⟩
  | 15 => ⟨S8000000, .i32⟩
  | 16 => ⟨S_, .i32⟩
  | 17 => ⟨S8000000, .i32⟩
  | 18 => ⟨S8000000, .i32⟩
  | 19 => ⟨S_, .i32⟩
  | 20 => ⟨S8000000, .i32⟩
  | 21 => ⟨S8000000, .i32⟩
  | 22 => ⟨S8000000, .i32⟩
  | 23 => ⟨S8000000, .i32⟩
  | 24 => ⟨S8000000, .i32⟩
  | 25 => ⟨S_, .i32⟩
  | 26 => ⟨S8000000, .i32⟩
  | 27 => ⟨S8000000, .i32⟩
  | 28 => ⟨S_, .i32⟩
  | 29 => ⟨S8000000, .i32⟩
  | 30 => ⟨S8000000, .i32⟩
  | 31 => ⟨S8000000, .i32⟩
  | 32 => ⟨S8000000, .i32⟩
  | 33 => ⟨S8000000, .i32⟩
  | 34 => ⟨S_, .i32⟩
  | 35 => ⟨S8000000, .i32⟩
  | 36 => ⟨S8000000, .i32⟩
  | 37 => ⟨S_, .i32⟩
  | 38 => ⟨S8000000, .i32⟩
  | 39 => ⟨S8000000, .i32⟩
  | 40 => ⟨S8000000, .i32⟩
  | 41 => ⟨S8000000, .i32⟩
  | 42 => ⟨S8000000, .i32⟩
  | 43 => ⟨S_, .i32⟩
  | 44 => ⟨S8000000, .i32⟩
  | 45 => ⟨S8000000, .i32⟩
  | 46 => ⟨S_, .i32⟩
  | 47 => ⟨S8000000, .i32⟩
  | 48 => ⟨S8000000, .i32⟩
  | 49 => ⟨S8000000, .i32⟩
  | 50 => ⟨S8000000, .i32⟩
  | 51 => ⟨S_, .i32⟩
  | 52 => ⟨S8000000, .i32⟩
  | 53 => ⟨S8000000, .i32⟩
  | 54 => ⟨S_, .i32⟩
  | 55 => ⟨S8000000, .i32⟩
  | 56 => ⟨S8000000, .i32⟩
  | 57 => ⟨S_, .i32⟩
  | 58 => ⟨S8000000, .i32⟩
  | 59 => ⟨S8000000, .i32⟩
  | 60 => ⟨S8000000, .i32⟩
  | 61 => ⟨S_, .i32⟩
  | 62 => ⟨S8000000, .i32⟩
  | 63 => ⟨S8000000, .i32⟩
  | 64 => ⟨S_, .i32⟩
  | 65 => ⟨S8000000, .i32⟩
  | 66 => ⟨S8000000, .i32⟩
  | 67 => ⟨S8000000, .i32⟩
  | 68 => ⟨S8000000, .i32⟩
  | 69 => ⟨S8000000, .i32⟩
  | 70 => ⟨S_, .i32⟩
  | 71 => ⟨S8000000, .i32⟩
  | 72 => ⟨S8000000, .i32⟩
  | 73 => ⟨S_, .i32⟩
  | 74 => ⟨S8000000, .i32⟩
  | 75 => ⟨S8000000, .i32⟩
  | 76 => ⟨S8000000, .i32⟩
  | 77 => ⟨S8000000, .i32⟩
  | 78 => ⟨S8000000, .i32⟩
  | 79 => ⟨S_, .i32⟩
  | 80 => ⟨S8000000, .i32⟩
  | 81 => ⟨S8000000, .i32⟩
  | 82 => ⟨S_, .i32⟩
  | 83 => ⟨S8000000, .i32⟩
  | 84 => ⟨S8000000, .i32⟩
  | 85 => ⟨S8000000, .i32⟩
  | 86 => ⟨S8000000, .i32⟩
  | 87 => ⟨S8000000, .i32⟩
  | 88 => ⟨S_, .i32⟩
  | 89 => ⟨S8000000, .i32⟩
  | 90 => ⟨S8000000, .i32⟩
  | 91 => ⟨S_, .i32⟩
  | 92 => ⟨S8000000, .i32⟩
  | 93 => ⟨S8000000, .i32⟩
  | 94 => ⟨S8000000, .i32⟩
  | 95 => ⟨S8000000, .i32⟩
  | 96 => ⟨S_, .i32⟩
  | 97 => ⟨S8000000, .i32⟩
  | 98 => ⟨S8000000, .i32⟩
  | 99 => ⟨S_, .i32⟩
  | 100 => ⟨S8000000, .i32⟩
  | 101 => ⟨S8000000, .i32⟩
  | 102 => ⟨S_, .i32⟩
  | 103 => ⟨S8000000, .i32⟩
  | 104 => ⟨S8000000, .i32⟩
  | 105 => ⟨S8000000, .i32⟩
  | 106 => ⟨S_, .i32⟩
  | 107 => ⟨S8000000, .i32⟩
  | 108 => ⟨S8000000, .i32⟩
  | 109 => ⟨S_, .i32⟩
  | 110 => ⟨S8000000, .i32⟩
  | 111 => ⟨S8000000, .i32⟩
  | 112 => ⟨S8000000, .f32⟩
  | 113 => ⟨S_, .f32⟩
  | 114 => ⟨S8000000, .f32⟩
  | 115 => ⟨S8000000, .f32⟩
  | 116 => ⟨S_, .f32⟩
  | 117 => ⟨S_, .f32⟩
  | 118 => ⟨S_, .f32⟩
  | 119 => ⟨S8000000, .f32⟩
  | 120 => ⟨S8000000, .f32⟩
  | 121 => ⟨S_, .f32⟩
  | 122 => ⟨S8000000, .f32⟩
  | 123 => ⟨S8000000, .f32⟩
  | 124 => ⟨S_, .f32⟩
  | 125 => ⟨S8000000, .f32⟩
  | 126 => ⟨S8000000, .f32⟩
  | 127 => ⟨S8x1000000, .f32⟩
  | _ => ⟨S8x64, .f32⟩

abbrev hbmTy0_2 (i : Nat) : BufTy := match i % 128 with
  | 0 => ⟨S64x1000000, .f32⟩
  | 1 => ⟨S1x1000000, .f32⟩
  | 2 => ⟨S8x1000000, .f32⟩
  | 3 => ⟨S8x1000001, .f32⟩
  | _ => ⟨S8x64, .f32⟩

abbrev hbmTy (i : Nat) : BufTy := match i / 128 with
  | 0 => hbmTy0_0 i
  | 1 => hbmTy0_1 i
  | 2 => hbmTy0_2 i
  | _ => ⟨S8x64, .f32⟩

abbrev bufTy : (tb : Table) → Fin (tcTables nBuf tb) → BufTy
  | .hbm, ⟨i, _⟩ => hbmTy i
  | .local _ .vmem, ⟨0, _⟩ => ⟨S8x64, .f32⟩
  | .local _ .vmem, ⟨1, _⟩ => ⟨S64x32768, .f32⟩
  | .local _ .vmem, ⟨2, _⟩ => ⟨S64x32768, .f32⟩
  | .local _ .vmem, ⟨3, _⟩ => ⟨S1x32768, .f32⟩
  | .local _ .vmem, ⟨4, _⟩ => ⟨S1x32768, .f32⟩
  | .local _ .vmem, ⟨5, _⟩ => ⟨S8x32768, .f32⟩
  | .local _ .vmem, ⟨6, _⟩ => ⟨S8x32768, .f32⟩
  | .local _ .vmem, ⟨7, _⟩ => ⟨S8x32768, .f32⟩
  | .local _ .vmem, ⟨8, _⟩ => ⟨S8x32768, .f32⟩
  | .local _ .vmem, ⟨9, _⟩ => ⟨S8x32768, .f32⟩
  | .local _ .vmem, ⟨10, _⟩ => ⟨S8x32768, .f32⟩
  | .local _ .vmem, ⟨11, _⟩ => ⟨S8x1015808, .f32⟩
  | .local _ .vmem, ⟨12, _⟩ => ⟨S8x1, .f32⟩
  | .local _ .vmem, ⟨13, _⟩ => ⟨S8x1, .f32⟩
  | .local _ .vmem, ⟨14, _⟩ => ⟨S8x1, .f32⟩
  | .local _ .vmem, ⟨15, _⟩ => ⟨S8x1, .f32⟩
  | .local _ .vmem, ⟨16, _⟩ => ⟨S8x1, .i32⟩
  | _, _ => ⟨S8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_c_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_1 : Ref sig .tc := ⟨.hbm, 9, rfl⟩
abbrev main_v4 : Ref sig .tc := ⟨.hbm, 10, rfl⟩
abbrev main_v5 : Ref sig .tc := ⟨.hbm, 11, rfl⟩
abbrev main_c_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_3 : Ref sig .tc := ⟨.hbm, 18, rfl⟩
abbrev main_v11 : Ref sig .tc := ⟨.hbm, 19, rfl⟩
abbrev main_v12 : Ref sig .tc := ⟨.hbm, 20, rfl⟩
abbrev main_c_4 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_5 : Ref sig .tc := ⟨.hbm, 27, rfl⟩
abbrev main_v18 : Ref sig .tc := ⟨.hbm, 28, rfl⟩
abbrev main_v19 : Ref sig .tc := ⟨.hbm, 29, rfl⟩
abbrev main_c_6 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_7 : Ref sig .tc := ⟨.hbm, 36, rfl⟩
abbrev main_v25 : Ref sig .tc := ⟨.hbm, 37, rfl⟩
abbrev main_v26 : Ref sig .tc := ⟨.hbm, 38, rfl⟩
abbrev main_c_8 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_9 : Ref sig .tc := ⟨.hbm, 44, rfl⟩
abbrev main_v31 : Ref sig .tc := ⟨.hbm, 45, rfl⟩
abbrev main_v32 : Ref sig .tc := ⟨.hbm, 46, rfl⟩
abbrev main_c_10 : Ref sig .tc := ⟨.hbm, 47, rfl⟩
abbrev main_v33 : Ref sig .tc := ⟨.hbm, 48, rfl⟩
abbrev main_v34 : Ref sig .tc := ⟨.hbm, 49, rfl⟩
abbrev main_c_11 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_12 : Ref sig .tc := ⟨.hbm, 54, rfl⟩
abbrev main_v38 : Ref sig .tc := ⟨.hbm, 55, rfl⟩
abbrev main_v39 : Ref sig .tc := ⟨.hbm, 56, rfl⟩
abbrev main_c_13 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_14 : Ref sig .tc := ⟨.hbm, 63, rfl⟩
abbrev main_v45 : Ref sig .tc := ⟨.hbm, 64, rfl⟩
abbrev main_v46 : Ref sig .tc := ⟨.hbm, 65, rfl⟩
abbrev main_c_15 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c_16 : Ref sig .tc := ⟨.hbm, 72, rfl⟩
abbrev main_v52 : Ref sig .tc := ⟨.hbm, 73, rfl⟩
abbrev main_v53 : Ref sig .tc := ⟨.hbm, 74, rfl⟩
abbrev main_c_17 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_c_18 : Ref sig .tc := ⟨.hbm, 81, rfl⟩
abbrev main_v59 : Ref sig .tc := ⟨.hbm, 82, rfl⟩
abbrev main_v60 : Ref sig .tc := ⟨.hbm, 83, rfl⟩
abbrev main_c_19 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_20 : Ref sig .tc := ⟨.hbm, 89, rfl⟩
abbrev main_v65 : Ref sig .tc := ⟨.hbm, 90, rfl⟩
abbrev main_v66 : Ref sig .tc := ⟨.hbm, 91, rfl⟩
abbrev main_c_21 : Ref sig .tc := ⟨.hbm, 92, rfl⟩
abbrev main_v67 : Ref sig .tc := ⟨.hbm, 93, rfl⟩
abbrev main_v68 : Ref sig .tc := ⟨.hbm, 94, rfl⟩
abbrev main_c_22 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_23 : Ref sig .tc := ⟨.hbm, 99, rfl⟩
abbrev main_v72 : Ref sig .tc := ⟨.hbm, 100, rfl⟩
abbrev main_v73 : Ref sig .tc := ⟨.hbm, 101, rfl⟩
abbrev main_c_24 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_c_25 : Ref sig .tc := ⟨.hbm, 108, rfl⟩
abbrev main_v79 : Ref sig .tc := ⟨.hbm, 109, rfl⟩
abbrev main_v80 : Ref sig .tc := ⟨.hbm, 110, rfl⟩
abbrev main_c_26 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_c_27 : Ref sig .tc := ⟨.hbm, 117, rfl⟩
abbrev main_v86 : Ref sig .tc := ⟨.hbm, 118, rfl⟩
abbrev main_v87 : Ref sig .tc := ⟨.hbm, 119, rfl⟩
abbrev main_c_28 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_c_29 : Ref sig .tc := ⟨.hbm, 126, rfl⟩
abbrev main_v93 : Ref sig .tc := ⟨.hbm, 127, rfl⟩
abbrev main_v94 : Ref sig .tc := ⟨.hbm, 128, rfl⟩
abbrev main_c_30 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_c_31 : Ref sig .tc := ⟨.hbm, 134, rfl⟩
abbrev main_v99 : Ref sig .tc := ⟨.hbm, 135, rfl⟩
abbrev main_v100 : Ref sig .tc := ⟨.hbm, 136, rfl⟩
abbrev main_c_32 : Ref sig .tc := ⟨.hbm, 137, rfl⟩
abbrev main_v101 : Ref sig .tc := ⟨.hbm, 138, rfl⟩
abbrev main_v102 : Ref sig .tc := ⟨.hbm, 139, rfl⟩
abbrev main_c_33 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_c_34 : Ref sig .tc := ⟨.hbm, 144, rfl⟩
abbrev main_v106 : Ref sig .tc := ⟨.hbm, 145, rfl⟩
abbrev main_v107 : Ref sig .tc := ⟨.hbm, 146, rfl⟩
abbrev main_c_35 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_c_36 : Ref sig .tc := ⟨.hbm, 153, rfl⟩
abbrev main_v113 : Ref sig .tc := ⟨.hbm, 154, rfl⟩
abbrev main_v114 : Ref sig .tc := ⟨.hbm, 155, rfl⟩
abbrev main_c_37 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_c_38 : Ref sig .tc := ⟨.hbm, 162, rfl⟩
abbrev main_v120 : Ref sig .tc := ⟨.hbm, 163, rfl⟩
abbrev main_v121 : Ref sig .tc := ⟨.hbm, 164, rfl⟩
abbrev main_c_39 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_c_40 : Ref sig .tc := ⟨.hbm, 171, rfl⟩
abbrev main_v127 : Ref sig .tc := ⟨.hbm, 172, rfl⟩
abbrev main_v128 : Ref sig .tc := ⟨.hbm, 173, rfl⟩
abbrev main_c_41 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_c_42 : Ref sig .tc := ⟨.hbm, 179, rfl⟩
abbrev main_v133 : Ref sig .tc := ⟨.hbm, 180, rfl⟩
abbrev main_v134 : Ref sig .tc := ⟨.hbm, 181, rfl⟩
abbrev main_c_43 : Ref sig .tc := ⟨.hbm, 182, rfl⟩
abbrev main_v135 : Ref sig .tc := ⟨.hbm, 183, rfl⟩
abbrev main_v136 : Ref sig .tc := ⟨.hbm, 184, rfl⟩
abbrev main_c_44 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_c_45 : Ref sig .tc := ⟨.hbm, 189, rfl⟩
abbrev main_v140 : Ref sig .tc := ⟨.hbm, 190, rfl⟩
abbrev main_v141 : Ref sig .tc := ⟨.hbm, 191, rfl⟩
abbrev main_c_46 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_c_47 : Ref sig .tc := ⟨.hbm, 198, rfl⟩
abbrev main_v147 : Ref sig .tc := ⟨.hbm, 199, rfl⟩
abbrev main_v148 : Ref sig .tc := ⟨.hbm, 200, rfl⟩
abbrev main_c_48 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_c_49 : Ref sig .tc := ⟨.hbm, 207, rfl⟩
abbrev main_v154 : Ref sig .tc := ⟨.hbm, 208, rfl⟩
abbrev main_v155 : Ref sig .tc := ⟨.hbm, 209, rfl⟩
abbrev main_c_50 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_c_51 : Ref sig .tc := ⟨.hbm, 216, rfl⟩
abbrev main_v161 : Ref sig .tc := ⟨.hbm, 217, rfl⟩
abbrev main_v162 : Ref sig .tc := ⟨.hbm, 218, rfl⟩
abbrev main_c_52 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_c_53 : Ref sig .tc := ⟨.hbm, 224, rfl⟩
abbrev main_v167 : Ref sig .tc := ⟨.hbm, 225, rfl⟩
abbrev main_v168 : Ref sig .tc := ⟨.hbm, 226, rfl⟩
abbrev main_c_54 : Ref sig .tc := ⟨.hbm, 227, rfl⟩
abbrev main_v169 : Ref sig .tc := ⟨.hbm, 228, rfl⟩
abbrev main_v170 : Ref sig .tc := ⟨.hbm, 229, rfl⟩
abbrev main_c_55 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_c_56 : Ref sig .tc := ⟨.hbm, 234, rfl⟩
abbrev main_v174 : Ref sig .tc := ⟨.hbm, 235, rfl⟩
abbrev main_v175 : Ref sig .tc := ⟨.hbm, 236, rfl⟩
abbrev main_c_57 : Ref sig .tc := ⟨.hbm, 237, rfl⟩
abbrev main_v176 : Ref sig .tc := ⟨.hbm, 238, rfl⟩
abbrev main_v177 : Ref sig .tc := ⟨.hbm, 239, rfl⟩
abbrev main_v178 : Ref sig .tc := ⟨.hbm, 240, rfl⟩
abbrev main_cst : Ref sig .tc := ⟨.hbm, 241, rfl⟩
abbrev main_v179 : Ref sig .tc := ⟨.hbm, 242, rfl⟩
abbrev main_v180 : Ref sig .tc := ⟨.hbm, 243, rfl⟩
abbrev main_cst_58 : Ref sig .tc := ⟨.hbm, 244, rfl⟩
abbrev main_cst_59 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_cst_60 : Ref sig .tc := ⟨.hbm, 249, rfl⟩
abbrev main_v184 : Ref sig .tc := ⟨.hbm, 250, rfl⟩
abbrev main_v185 : Ref sig .tc := ⟨.hbm, 251, rfl⟩
abbrev main_cst_61 : Ref sig .tc := ⟨.hbm, 252, rfl⟩
abbrev main_v186 : Ref sig .tc := ⟨.hbm, 253, rfl⟩
abbrev main_v187 : Ref sig .tc := ⟨.hbm, 254, rfl⟩
abbrev main_v188 : Ref sig .tc := ⟨.hbm, 255, rfl⟩
abbrev main_v189 : Ref sig .tc := ⟨.hbm, 256, rfl⟩
abbrev main_v190 : Ref sig .tc := ⟨.hbm, 257, rfl⟩
abbrev main_v191_0 : Ref sig .tc := ⟨.hbm, 258, rfl⟩
abbrev main_v191_1 : Ref sig .tc := ⟨.hbm, 259, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![62], ![false]⟩

def k0_cond1 (i : grid0.Coords) : BitVec 1 :=
  let arg0 : BitVec 32 := BitVec.ofNat 32 (i 0).val
  let c31_i32 : BitVec 32 := 31#32
  let v0 : BitVec 1 := Scalar.cmpi .slt arg0 c31_i32
  let v1 : BitVec 32 := Scalar.extui v0
  let c0_i32 : BitVec 32 := 0#32
  let v2 : BitVec 1 := Scalar.cmpi .ne v1 c0_i32
  v2

def k0_off1 (i : grid0.Coords) : Fin 2 → Nat :=
  let c0_7 : Index := 0#32
  let arg0 : BitVec 32 := BitVec.ofNat 32 (i 0).val
  let c32768_i32 : BitVec 32 := 32768#32
  let v14 : BitVec 32 := Scalar.muli arg0 c32768_i32
  let v15 : Index := Scalar.indexCast v14
  ![0, v15.toNat]
def k0_cond5 (i : grid0.Coords) : BitVec 1 :=
  let arg0 : BitVec 32 := BitVec.ofNat 32 (i 0).val
  let c31_i32_0 : BitVec 32 := 31#32
  let v3 : BitVec 1 := Scalar.cmpi .sge arg0 c31_i32_0
  let v4 : BitVec 32 := Scalar.extui v3
  let c0_i32_1 : BitVec 32 := 0#32
  let v5 : BitVec 1 := Scalar.cmpi .ne v4 c0_i32_1
  v5

def k0_off2 (i : grid0.Coords) : Fin 2 → Nat :=
  let c0 : Index := 0#32
  let arg0 : BitVec 32 := BitVec.ofNat 32 (i 0).val
  let c31_i32_2 : BitVec 32 := 31#32
  let v6 : BitVec 32 := Scalar.subi arg0 c31_i32_2
  let c32768_i32 : BitVec 32 := 32768#32
  let v7 : BitVec 32 := Scalar.muli v6 c32768_i32
  let v8 : Index := Scalar.indexCast v7
  ![0, v8.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c30_i32 : BitVec 32 := 30#32
  let v0 : BitVec 32 := Scalar.minsi arg0 c30_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c30_i32 : BitVec 32 := 30#32
  let v0 : BitVec 32 := Scalar.minsi arg0 c30_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c30_i32 : BitVec 32 := 30#32
  let v0 : BitVec 32 := Scalar.minsi arg0 c30_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c31_i32 : BitVec 32 := 31#32
  let v0 : BitVec 32 := Scalar.subi arg0 c31_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_5 (i : grid0.Coords) : Fin 2 → Nat :=
  let arg0 : BitVec 32 := BitVec.ofNat 32 (i 0).val
  let c31_i32 : BitVec 32 := 31#32
  let v0 : BitVec 32 := Scalar.subi arg0 c31_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 1 → Memref sig .tc .vmem S8x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S64x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x32768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x32768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x32768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S8x64 : Shape := ⟨2, ![8, 64]⟩
abbrev S1000000x64 : Shape := ⟨2, ![1000000, 64]⟩
abbrev S1000000 : Shape := ⟨1, ![1000000]⟩
abbrev S64x1000000 : Shape := ⟨2, ![64, 1000000]⟩
abbrev S8x1000000 : Shape := ⟨2, ![8, 1000000]⟩
abbrev S1x1000000 : Shape := ⟨2, ![1, 1000000]⟩
abbrev S_ : Shape := ⟨0, ![]⟩
abbrev S8 : Shape := ⟨1, ![8]⟩
abbrev S8x1 : Shape := ⟨2, ![8, 1]⟩
abbrev S1 : Shape := ⟨1, ![1]⟩
abbrev S2 : Shape := ⟨1, ![2]⟩
abbrev S1x1 : Shape := ⟨2, ![1, 1]⟩
abbrev S8x1000001 : Shape := ⟨2, ![8, 1000001]⟩

abbrev nBuf : Space → Nat
  | .hbm => 318
  | .vmem => 0
  | .smem => 0
  | _ => 0

abbrev hbmTy0_0 (i : Nat) : BufTy := match i % 128 with
  | 0 => ⟨S8x64, .f32⟩
  | 1 => ⟨S1000000x64, .f32⟩
  | 2 => ⟨S1000000, .f32⟩
  | 3 => ⟨S64x1000000, .f32⟩
  | 4 => ⟨S8x1000000, .f32⟩
  | 5 => ⟨S1x1000000, .f32⟩
  | 6 => ⟨S8x1000000, .f32⟩
  | 7 => ⟨S8x1000000, .f32⟩
  | 8 => ⟨S_, .f32⟩
  | 9 => ⟨S8, .f32⟩
  | 10 => ⟨S_, .f32⟩
  | 11 => ⟨S8, .f32⟩
  | 12 => ⟨S8, .f32⟩
  | 13 => ⟨S8x1, .f32⟩
  | 14 => ⟨S8x1000000, .f32⟩
  | 15 => ⟨S8x1000000, .f32⟩
  | 16 => ⟨S8x1000000, .f32⟩
  | 17 => ⟨S_, .f32⟩
  | 18 => ⟨S8, .f32⟩
  | 19 => ⟨S8x1, .f32⟩
  | 20 => ⟨S8x1, .f32⟩
  | 21 => ⟨S8x1000000, .f32⟩
  | 22 => ⟨S8x1000000, .f32⟩
  | 23 => ⟨S_, .i32⟩
  | 24 => ⟨S_, .i32⟩
  | 25 => ⟨S_, .i32⟩
  | 26 => ⟨S_, .i32⟩
  | 27 => ⟨S1, .i32⟩
  | 28 => ⟨S_, .i32⟩
  | 29 => ⟨S_, .i32⟩
  | 30 => ⟨S_, .i32⟩
  | 31 => ⟨S1, .i32⟩
  | 32 => ⟨S2, .i32⟩
  | 33 => ⟨S_, .f32⟩
  | 34 => ⟨S_, .f32⟩
  | 35 => ⟨S_, .f32⟩
  | 36 => ⟨S1x1, .f32⟩
  | 37 => ⟨S1x1, .f32⟩
  | 38 => ⟨S1, .i32⟩
  | 39 => ⟨S_, .i32⟩
  | 40 => ⟨S1, .i32⟩
  | 41 => ⟨S_, .i32⟩
  | 42 => ⟨S8x1000000, .i64⟩
  | 43 => ⟨S8x1000000, .i64⟩
  | 44 => ⟨S_, .i64⟩
  | 45 => ⟨S8x1000000, .i64⟩
  | 46 => ⟨S8x1000000, .i64⟩
  | 47 => ⟨S_, .i64⟩
  | 48 => ⟨S8x1000000, .i64⟩
  | 49 => ⟨S8x1000000, .i64⟩
  | 50 => ⟨S8x1000000, .i64⟩
  | 51 => ⟨S_, .i64⟩
  | 52 => ⟨S8x1000000, .i64⟩
  | 53 => ⟨S8x1000000, .i64⟩
  | 54 => ⟨S8x1000000, .i32⟩
  | 55 => ⟨S8x1000000, .i32⟩
  | 56 => ⟨S_, .i32⟩
  | 57 => ⟨S_, .i32⟩
  | 58 => ⟨S_, .i32⟩
  | 59 => ⟨S8x1000000, .i32⟩
  | 60 => ⟨S8x1000000, .i32⟩
  | 61 => ⟨S8x1000000, .i32⟩
  | 62 => ⟨S8x1000000, .i32⟩
  | 63 => ⟨S8x1000000, .i32⟩
  | 64 => ⟨S_, .i32⟩
  | 65 => ⟨S8x1000000, .i32⟩
  | 66 => ⟨S8x1000000, .i32⟩
  | 67 => ⟨S_, .i32⟩
  | 68 => ⟨S8x1000000, .i32⟩
  | 69 => ⟨S8x1000000, .i32⟩
  | 70 => ⟨S8x1000000, .i32⟩
  | 71 => ⟨S8x1000000, .i32⟩
  | 72 => ⟨S8x1000000, .i32⟩
  | 73 => ⟨S_, .i32⟩
  | 74 => ⟨S8x1000000, .i32⟩
  | 75 => ⟨S8x1000000, .i32⟩
  | 76 => ⟨S_, .i32⟩
  | 77 => ⟨S8x1000000, .i32⟩
  | 78 => ⟨S8x1000000, .i32⟩
  | 79 => ⟨S8x1000000, .i32⟩
  | 80 => ⟨S8x1000000, .i32⟩
  | 81 => ⟨S8x1000000, .i32⟩
  | 82 => ⟨S_, .i32⟩
  | 83 => ⟨S8x1000000, .i32⟩
  | 84 => ⟨S8x1000000, .i32⟩
  | 85 => ⟨S_, .i32⟩
  | 86 => ⟨S8x1000000, .i32⟩
  | 87 => ⟨S8x1000000, .i32⟩
  | 88 => ⟨S8x1000000, .i32⟩
  | 89 => ⟨S8x1000000, .i32⟩
  | 90 => ⟨S8x1000000, .i32⟩
  | 91 => ⟨S_, .i32⟩
  | 92 => ⟨S8x1000000, .i32⟩
  | 93 => ⟨S8x1000000, .i32⟩
  | 94 => ⟨S_, .i32⟩
  | 95 => ⟨S8x1000000, .i32⟩
  | 96 => ⟨S8x1000000, .i32⟩
  | 97 => ⟨S8x1000000, .i32⟩
  | 98 => ⟨S8x1000000, .i32⟩
  | 99 => ⟨S8x1000000, .i32⟩
  | 100 => ⟨S8x1000000, .i32⟩
  | 101 => ⟨S8x1000000, .i32⟩
  | 102 => ⟨S8x1000000, .i32⟩
  | 103 => ⟨S_, .i32⟩
  | 104 => ⟨S8x1000000, .i32⟩
  | 105 => ⟨S8x1000000, .i32⟩
  | 106 => ⟨S8x1000000, .i32⟩
  | 107 => ⟨S_, .i32⟩
  | 108 => ⟨S8x1000000, .i32⟩
  | 109 => ⟨S8x1000000, .i32⟩
  | 110 => ⟨S_, .i32⟩
  | 111 => ⟨S8x1000000, .i32⟩
  | 112 => ⟨S8x1000000, .i32⟩
  | 113 => ⟨S8x1000000, .i32⟩
  | 114 => ⟨S8x1000000, .i32⟩
  | 115 => ⟨S8x1000000, .i32⟩
  | 116 => ⟨S_, .i32⟩
  | 117 => ⟨S8x1000000, .i32⟩
  | 118 => ⟨S8x1000000, .i32⟩
  | 119 => ⟨S_, .i32⟩
  | 120 => ⟨S8x1000000, .i32⟩
  | 121 => ⟨S8x1000000, .i32⟩
  | 122 => ⟨S8x1000000, .i32⟩
  | 123 => ⟨S8x1000000, .i32⟩
  | 124 => ⟨S8x1000000, .i32⟩
  | 125 => ⟨S_, .i32⟩
  | 126 => ⟨S8x1000000, .i32⟩
  | 127 => ⟨S8x1000000, .i32⟩
  | _ => ⟨S8x64, .f32⟩

abbrev hbmTy0_1 (i : Nat) : BufTy := match i % 128 with
  | 0 => ⟨S_, .i32⟩
  | 1 => ⟨S8x1000000, .i32⟩
  | 2 => ⟨S8x1000000, .i32⟩
  | 3 => ⟨S8x1000000, .i32⟩
  | 4 => ⟨S8x1000000, .i32⟩
  | 5 => ⟨S8x1000000, .i32⟩
  | 6 => ⟨S_, .i32⟩
  | 7 => ⟨S8x1000000, .i32⟩
  | 8 => ⟨S8x1000000, .i32⟩
  | 9 => ⟨S_, .i32⟩
  | 10 => ⟨S8x1000000, .i32⟩
  | 11 => ⟨S8x1000000, .i32⟩
  | 12 => ⟨S8x1000000, .i32⟩
  | 13 => ⟨S8x1000000, .i32⟩
  | 14 => ⟨S8x1000000, .i32⟩
  | 15 => ⟨S8x1000000, .i32⟩
  | 16 => ⟨S8x1000000, .i32⟩
  | 17 => ⟨S8x1000000, .i32⟩
  | 18 => ⟨S_, .i32⟩
  | 19 => ⟨S8x1000000, .i32⟩
  | 20 => ⟨S8x1000000, .i32⟩
  | 21 => ⟨S8x1000000, .i32⟩
  | 22 => ⟨S_, .i32⟩
  | 23 => ⟨S8x1000000, .i32⟩
  | 24 => ⟨S8x1000000, .i32⟩
  | 25 => ⟨S_, .i32⟩
  | 26 => ⟨S8x1000000, .i32⟩
  | 27 => ⟨S8x1000000, .i32⟩
  | 28 => ⟨S8x1000000, .i32⟩
  | 29 => ⟨S8x1000000, .i32⟩
  | 30 => ⟨S8x1000000, .i32⟩
  | 31 => ⟨S_, .i32⟩
  | 32 => ⟨S8x1000000, .i32⟩
  | 33 => ⟨S8x1000000, .i32⟩
  | 34 => ⟨S_, .i32⟩
  | 35 => ⟨S8x1000000, .i32⟩
  | 36 => ⟨S8x1000000, .i32⟩
  | 37 => ⟨S8x1000000, .i32⟩
  | 38 => ⟨S8x1000000, .i32⟩
  | 39 => ⟨S8x1000000, .i32⟩
  | 40 => ⟨S_, .i32⟩
  | 41 => ⟨S8x1000000, .i32⟩
  | 42 => ⟨S8x1000000, .i32⟩
  | 43 => ⟨S_, .i32⟩
  | 44 => ⟨S8x1000000, .i32⟩
  | 45 => ⟨S8x1000000, .i32⟩
  | 46 => ⟨S8x1000000, .i32⟩
  | 47 => ⟨S8x1000000, .i32⟩
  | 48 => ⟨S8x1000000, .i32⟩
  | 49 => ⟨S_, .i32⟩
  | 50 => ⟨S8x1000000, .i32⟩
  | 51 => ⟨S8x1000000, .i32⟩
  | 52 => ⟨S_, .i32⟩
  | 53 => ⟨S8x1000000, .i32⟩
  | 54 => ⟨S8x1000000, .i32⟩
  | 55 => ⟨S8x1000000, .i32⟩
  | 56 => ⟨S8x1000000, .i32⟩
  | 57 => ⟨S8x1000000, .i32⟩
  | 58 => ⟨S8x1000000, .i32⟩
  | 59 => ⟨S8x1000000, .i32⟩
  | 60 => ⟨S8x1000000, .i32⟩
  | 61 => ⟨S_, .i32⟩
  | 62 => ⟨S8x1000000, .i32⟩
  | 63 => ⟨S8x1000000, .i32⟩
  | 64 => ⟨S8x1000000, .i32⟩
  | 65 => ⟨S_, .i32⟩
  | 66 => ⟨S8x1000000, .i32⟩
  | 67 => ⟨S8x1000000, .i32⟩
  | 68 => ⟨S_, .i32⟩
  | 69 => ⟨S8x1000000, .i32⟩
  | 70 => ⟨S8x1000000, .i32⟩
  | 71 => ⟨S8x1000000, .i32⟩
  | 72 => ⟨S8x1000000, .i32⟩
  | 73 => ⟨S8x1000000, .i32⟩
  | 74 => ⟨S_, .i32⟩
  | 75 => ⟨S8x1000000, .i32⟩
  | 76 => ⟨S8x1000000, .i32⟩
  | 77 => ⟨S_, .i32⟩
  | 78 => ⟨S8x1000000, .i32⟩
  | 79 => ⟨S8x1000000, .i32⟩
  | 80 => ⟨S8x1000000, .i32⟩
  | 81 => ⟨S8x1000000, .i32⟩
  | 82 => ⟨S8x1000000, .i32⟩
  | 83 => ⟨S_, .i32⟩
  | 84 => ⟨S8x1000000, .i32⟩
  | 85 => ⟨S8x1000000, .i32⟩
  | 86 => ⟨S_, .i32⟩
  | 87 => ⟨S8x1000000, .i32⟩
  | 88 => ⟨S8x1000000, .i32⟩
  | 89 => ⟨S8x1000000, .i32⟩
  | 90 => ⟨S8x1000000, .i32⟩
  | 91 => ⟨S8x1000000, .i32⟩
  | 92 => ⟨S_, .i32⟩
  | 93 => ⟨S8x1000000, .i32⟩
  | 94 => ⟨S8x1000000, .i32⟩
  | 95 => ⟨S_, .i32⟩
  | 96 => ⟨S8x1000000, .i32⟩
  | 97 => ⟨S8x1000000, .i32⟩
  | 98 => ⟨S8x1000000, .i32⟩
  | 99 => ⟨S8x1000000, .i32⟩
  | 100 => ⟨S8x1000000, .i32⟩
  | 101 => ⟨S8x1000000, .i32⟩
  | 102 => ⟨S8x1000000, .i32⟩
  | 103 => ⟨S8x1000000, .i32⟩
  | 104 => ⟨S_, .i32⟩
  | 105 => ⟨S8x1000000, .i32⟩
  | 106 => ⟨S8x1000000, .i32⟩
  | 107 => ⟨S8x1000000, .i32⟩
  | 108 => ⟨S_, .i32⟩
  | 109 => ⟨S8x1000000, .i32⟩
  | 110 => ⟨S8x1000000, .i32⟩
  | 111 => ⟨S_, .i32⟩
  | 112 => ⟨S8x1000000, .i32⟩
  | 113 => ⟨S8x1000000, .i32⟩
  | 114 => ⟨S8x1000000, .i32⟩
  | 115 => ⟨S8x1000000, .i32⟩
  | 116 => ⟨S8x1000000, .i32⟩
  | 117 => ⟨S_, .i32⟩
  | 118 => ⟨S8x1000000, .i32⟩
  | 119 => ⟨S8x1000000, .i32⟩
  | 120 => ⟨S_, .i32⟩
  | 121 => ⟨S8x1000000, .i32⟩
  | 122 => ⟨S8x1000000, .i32⟩
  | 123 => ⟨S8x1000000, .i32⟩
  | 124 => ⟨S8x1000000, .i32⟩
  | 125 => ⟨S8x1000000, .i32⟩
  | 126 => ⟨S_, .i32⟩
  | 127 => ⟨S8x1000000, .i32⟩
  | _ => ⟨S8x64, .f32⟩

abbrev hbmTy0_2 (i : Nat) : BufTy := match i % 128 with
  | 0 => ⟨S8x1000000, .i32⟩
  | 1 => ⟨S_, .i32⟩
  | 2 => ⟨S8x1000000, .i32⟩
  | 3 => ⟨S8x1000000, .i32⟩
  | 4 => ⟨S8x1000000, .i32⟩
  | 5 => ⟨S8x1000000, .i32⟩
  | 6 => ⟨S8x1000000, .i32⟩
  | 7 => ⟨S_, .i32⟩
  | 8 => ⟨S8x1000000, .i32⟩
  | 9 => ⟨S8x1000000, .i32⟩
  | 10 => ⟨S_, .i32⟩
  | 11 => ⟨S8x1000000, .i32⟩
  | 12 => ⟨S8x1000000, .i32⟩
  | 13 => ⟨S8x1000000, .i32⟩
  | 14 => ⟨S8x1000000, .i32⟩
  | 15 => ⟨S8x1000000, .i32⟩
  | 16 => ⟨S8x1000000, .i32⟩
  | 17 => ⟨S8x1000000, .i32⟩
  | 18 => ⟨S8x1000000, .i32⟩
  | 19 => ⟨S_, .i32⟩
  | 20 => ⟨S8x1000000, .i32⟩
  | 21 => ⟨S8x1000000, .i32⟩
  | 22 => ⟨S8x1000000, .i32⟩
  | 23 => ⟨S_, .i32⟩
  | 24 => ⟨S8x1000000, .i32⟩
  | 25 => ⟨S8x1000000, .i32⟩
  | 26 => ⟨S_, .i32⟩
  | 27 => ⟨S8x1000000, .i32⟩
  | 28 => ⟨S8x1000000, .i32⟩
  | 29 => ⟨S8x1000000, .f32⟩
  | 30 => ⟨S_, .f32⟩
  | 31 => ⟨S8x1000000, .f32⟩
  | 32 => ⟨S8x1000000, .f32⟩
  | 33 => ⟨S1x1, .f32⟩
  | 34 => ⟨S8x1000000, .f32⟩
  | 35 => ⟨S8x1000000, .f32⟩
  | 36 => ⟨S8x1000000, .f32⟩
  | 37 => ⟨S8x1000000, .f32⟩
  | 38 => ⟨S8x1000000, .f32⟩
  | 39 => ⟨S8x1000000, .f32⟩
  | 40 => ⟨S8x1000000, .f32⟩
  | 41 => ⟨S8x1000000, .f32⟩
  | 42 => ⟨S8x1000000, .f32⟩
  | 43 => ⟨S8x1000000, .f32⟩
  | 44 => ⟨S8x1000000, .f32⟩
  | 45 => ⟨S8x1000000, .i32⟩
  | 46 => ⟨S_, .f32⟩
  | 47 => ⟨S_, .i32⟩
  | 48 => ⟨S8, .f32⟩
  | 49 => ⟨S8, .i32⟩
  | 50 => ⟨S8x1, .i32⟩
  | 51 => ⟨S1x1000000, .i32⟩
  | 52 => ⟨S8x1000000, .i32⟩
  | 53 => ⟨S8x1000000, .i32⟩
  | 54 => ⟨S8x1000000, .i1⟩
  | 55 => ⟨S8x1000000, .f32⟩
  | 56 => ⟨S_, .f32⟩
  | 57 => ⟨S8x1, .f32⟩
  | 58 => ⟨S_, .f32⟩
  | 59 => ⟨S8x1, .f32⟩
  | 60 => ⟨S8x1, .f32⟩
  | 61 => ⟨S8x1000001, .f32⟩
  | _ => ⟨S8x64, .f32⟩

abbrev hbmTy (i : Nat) : BufTy := match i / 128 with
  | 0 => hbmTy0_0 i
  | 1 => hbmTy0_1 i
  | 2 => hbmTy0_2 i
  | _ => ⟨S8x64, .f32⟩

abbrev bufTy : (tb : Table) → Fin (tcTables nBuf tb) → BufTy
  | .hbm, ⟨i, _⟩ => hbmTy i
  | _, _ => ⟨S8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_cst : Ref sig .tc := ⟨.hbm, 8, rfl⟩
abbrev main_call0_v0 : Ref sig .tc := ⟨.hbm, 9, rfl⟩
abbrev main_call0_cst_0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_cst_1 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_v5 : Ref sig .tc := ⟨.hbm, 22, rfl⟩
abbrev main_c : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_c_1 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_call1_cst : Ref sig .tc := ⟨.hbm, 33, rfl⟩
abbrev main_call1_cst_0 : Ref sig .tc := ⟨.hbm, 34, rfl⟩
abbrev main_call1_call0_v0 : Ref sig .tc := ⟨.hbm, 35, rfl⟩
abbrev main_call1_call0_v1 : Ref sig .tc := ⟨.hbm, 36, rfl⟩
abbrev main_call1_call0_v2 : Ref sig .tc := ⟨.hbm, 37, rfl⟩
abbrev main_call1_call0_v3 : Ref sig .tc := ⟨.hbm, 38, rfl⟩
abbrev main_call1_call0_v4 : Ref sig .tc := ⟨.hbm, 39, rfl⟩
abbrev main_call1_call0_v5 : Ref sig .tc := ⟨.hbm, 40, rfl⟩
abbrev main_call1_call0_v6 : Ref sig .tc := ⟨.hbm, 41, rfl⟩
abbrev main_call1_call0_v7 : Ref sig .tc := ⟨.hbm, 42, rfl⟩
abbrev main_call1_call0_v8 : Ref sig .tc := ⟨.hbm, 43, rfl⟩
abbrev main_call1_call0_c : Ref sig .tc := ⟨.hbm, 44, rfl⟩
abbrev main_call1_call0_v9 : Ref sig .tc := ⟨.hbm, 45, rfl⟩
abbrev main_call1_call0_v10 : Ref sig .tc := ⟨.hbm, 46, rfl⟩
abbrev main_call1_call0_c_0 : Ref sig .tc := ⟨.hbm, 47, rfl⟩
abbrev main_call1_call0_v11 : Ref sig .tc := ⟨.hbm, 48, rfl⟩
abbrev main_call1_call0_v12 : Ref sig .tc := ⟨.hbm, 49, rfl⟩
abbrev main_call1_call0_v13 : Ref sig .tc := ⟨.hbm, 50, rfl⟩
abbrev main_call1_call0_c_1 : Ref sig .tc := ⟨.hbm, 51, rfl⟩
abbrev main_call1_call0_v14 : Ref sig .tc := ⟨.hbm, 52, rfl⟩
abbrev main_call1_call0_v15 : Ref sig .tc := ⟨.hbm, 53, rfl⟩
abbrev main_call1_call0_v16 : Ref sig .tc := ⟨.hbm, 54, rfl⟩
abbrev main_call1_call0_v17 : Ref sig .tc := ⟨.hbm, 55, rfl⟩
abbrev main_call1_call0_call0_v0 : Ref sig .tc := ⟨.hbm, 56, rfl⟩
abbrev main_call1_call0_call0_c : Ref sig .tc := ⟨.hbm, 57, rfl⟩
abbrev main_call1_call0_call0_v1 : Ref sig .tc := ⟨.hbm, 58, rfl⟩
abbrev main_call1_call0_call0_v2 : Ref sig .tc := ⟨.hbm, 59, rfl⟩
abbrev main_call1_call0_call0_v3 : Ref sig .tc := ⟨.hbm, 60, rfl⟩
abbrev main_call1_call0_call0_v4 : Ref sig .tc := ⟨.hbm, 61, rfl⟩
abbrev main_call1_call0_call0_v5 : Ref sig .tc := ⟨.hbm, 62, rfl⟩
abbrev main_call1_call0_call0_v6 : Ref sig .tc := ⟨.hbm, 63, rfl⟩
abbrev main_call1_call0_call0_c_0 : Ref sig .tc := ⟨.hbm, 64, rfl⟩
abbrev main_call1_call0_call0_v7 : Ref sig .tc := ⟨.hbm, 65, rfl⟩
abbrev main_call1_call0_call0_v8 : Ref sig .tc := ⟨.hbm, 66, rfl⟩
abbrev main_call1_call0_call0_c_1 : Ref sig .tc := ⟨.hbm, 67, rfl⟩
abbrev main_call1_call0_call0_v9 : Ref sig .tc := ⟨.hbm, 68, rfl⟩
abbrev main_call1_call0_call0_v10 : Ref sig .tc := ⟨.hbm, 69, rfl⟩
abbrev main_call1_call0_call0_v11 : Ref sig .tc := ⟨.hbm, 70, rfl⟩
abbrev main_call1_call0_call0_v12 : Ref sig .tc := ⟨.hbm, 71, rfl⟩
abbrev main_call1_call0_call0_v13 : Ref sig .tc := ⟨.hbm, 72, rfl⟩
abbrev main_call1_call0_call0_c_2 : Ref sig .tc := ⟨.hbm, 73, rfl⟩
abbrev main_call1_call0_call0_v14 : Ref sig .tc := ⟨.hbm, 74, rfl⟩
abbrev main_call1_call0_call0_v15 : Ref sig .tc := ⟨.hbm, 75, rfl⟩
abbrev main_call1_call0_call0_c_3 : Ref sig .tc := ⟨.hbm, 76, rfl⟩
abbrev main_call1_call0_call0_v16 : Ref sig .tc := ⟨.hbm, 77, rfl⟩
abbrev main_call1_call0_call0_v17 : Ref sig .tc := ⟨.hbm, 78, rfl⟩
abbrev main_call1_call0_call0_v18 : Ref sig .tc := ⟨.hbm, 79, rfl⟩
abbrev main_call1_call0_call0_v19 : Ref sig .tc := ⟨.hbm, 80, rfl⟩
abbrev main_call1_call0_call0_v20 : Ref sig .tc := ⟨.hbm, 81, rfl⟩
abbrev main_call1_call0_call0_c_4 : Ref sig .tc := ⟨.hbm, 82, rfl⟩
abbrev main_call1_call0_call0_v21 : Ref sig .tc := ⟨.hbm, 83, rfl⟩
abbrev main_call1_call0_call0_v22 : Ref sig .tc := ⟨.hbm, 84, rfl⟩
abbrev main_call1_call0_call0_c_5 : Ref sig .tc := ⟨.hbm, 85, rfl⟩
abbrev main_call1_call0_call0_v23 : Ref sig .tc := ⟨.hbm, 86, rfl⟩
abbrev main_call1_call0_call0_v24 : Ref sig .tc := ⟨.hbm, 87, rfl⟩
abbrev main_call1_call0_call0_v25 : Ref sig .tc := ⟨.hbm, 88, rfl⟩
abbrev main_call1_call0_call0_v26 : Ref sig .tc := ⟨.hbm, 89, rfl⟩
abbrev main_call1_call0_call0_v27 : Ref sig .tc := ⟨.hbm, 90, rfl⟩
abbrev main_call1_call0_call0_c_6 : Ref sig .tc := ⟨.hbm, 91, rfl⟩
abbrev main_call1_call0_call0_v28 : Ref sig .tc := ⟨.hbm, 92, rfl⟩
abbrev main_call1_call0_call0_v29 : Ref sig .tc := ⟨.hbm, 93, rfl⟩
abbrev main_call1_call0_call0_c_7 : Ref sig .tc := ⟨.hbm, 94, rfl⟩
abbrev main_call1_call0_call0_v30 : Ref sig .tc := ⟨.hbm, 95, rfl⟩
abbrev main_call1_call0_call0_v31 : Ref sig .tc := ⟨.hbm, 96, rfl⟩
abbrev main_call1_call0_call0_v32 : Ref sig .tc := ⟨.hbm, 97, rfl⟩
abbrev main_call1_call0_call0_v33 : Ref sig .tc := ⟨.hbm, 98, rfl⟩
abbrev main_call1_call0_call0_v34 : Ref sig .tc := ⟨.hbm, 99, rfl⟩
abbrev main_call1_call0_call0_v35 : Ref sig .tc := ⟨.hbm, 100, rfl⟩
abbrev main_call1_call0_call0_v36 : Ref sig .tc := ⟨.hbm, 101, rfl⟩
abbrev main_call1_call0_call0_v37 : Ref sig .tc := ⟨.hbm, 102, rfl⟩
abbrev main_call1_call0_call0_c_8 : Ref sig .tc := ⟨.hbm, 103, rfl⟩
abbrev main_call1_call0_call0_v38 : Ref sig .tc := ⟨.hbm, 104, rfl⟩
abbrev main_call1_call0_call0_v39 : Ref sig .tc := ⟨.hbm, 105, rfl⟩
abbrev main_call1_call0_call0_v40 : Ref sig .tc := ⟨.hbm, 106, rfl⟩
abbrev main_call1_call0_call0_c_9 : Ref sig .tc := ⟨.hbm, 107, rfl⟩
abbrev main_call1_call0_call0_v41 : Ref sig .tc := ⟨.hbm, 108, rfl⟩
abbrev main_call1_call0_call0_v42 : Ref sig .tc := ⟨.hbm, 109, rfl⟩
abbrev main_call1_call0_call0_c_10 : Ref sig .tc := ⟨.hbm, 110, rfl⟩
abbrev main_call1_call0_call0_v43 : Ref sig .tc := ⟨.hbm, 111, rfl⟩
abbrev main_call1_call0_call0_v44 : Ref sig .tc := ⟨.hbm, 112, rfl⟩
abbrev main_call1_call0_call0_v45 : Ref sig .tc := ⟨.hbm, 113, rfl⟩
abbrev main_call1_call0_call0_v46 : Ref sig .tc := ⟨.hbm, 114, rfl⟩
abbrev main_call1_call0_call0_v47 : Ref sig .tc := ⟨.hbm, 115, rfl⟩
abbrev main_call1_call0_call0_c_11 : Ref sig .tc := ⟨.hbm, 116, rfl⟩
abbrev main_call1_call0_call0_v48 : Ref sig .tc := ⟨.hbm, 117, rfl⟩
abbrev main_call1_call0_call0_v49 : Ref sig .tc := ⟨.hbm, 118, rfl⟩
abbrev main_call1_call0_call0_c_12 : Ref sig .tc := ⟨.hbm, 119, rfl⟩
abbrev main_call1_call0_call0_v50 : Ref sig .tc := ⟨.hbm, 120, rfl⟩
abbrev main_call1_call0_call0_v51 : Ref sig .tc := ⟨.hbm, 121, rfl⟩
abbrev main_call1_call0_call0_v52 : Ref sig .tc := ⟨.hbm, 122, rfl⟩
abbrev main_call1_call0_call0_v53 : Ref sig .tc := ⟨.hbm, 123, rfl⟩
abbrev main_call1_call0_call0_v54 : Ref sig .tc := ⟨.hbm, 124, rfl⟩
abbrev main_call1_call0_call0_c_13 : Ref sig .tc := ⟨.hbm, 125, rfl⟩
abbrev main_call1_call0_call0_v55 : Ref sig .tc := ⟨.hbm, 126, rfl⟩
abbrev main_call1_call0_call0_v56 : Ref sig .tc := ⟨.hbm, 127, rfl⟩
abbrev main_call1_call0_call0_c_14 : Ref sig .tc := ⟨.hbm, 128, rfl⟩
abbrev main_call1_call0_call0_v57 : Ref sig .tc := ⟨.hbm, 129, rfl⟩
abbrev main_call1_call0_call0_v58 : Ref sig .tc := ⟨.hbm, 130, rfl⟩
abbrev main_call1_call0_call0_v59 : Ref sig .tc := ⟨.hbm, 131, rfl⟩
abbrev main_call1_call0_call0_v60 : Ref sig .tc := ⟨.hbm, 132, rfl⟩
abbrev main_call1_call0_call0_v61 : Ref sig .tc := ⟨.hbm, 133, rfl⟩
abbrev main_call1_call0_call0_c_15 : Ref sig .tc := ⟨.hbm, 134, rfl⟩
abbrev main_call1_call0_call0_v62 : Ref sig .tc := ⟨.hbm, 135, rfl⟩
abbrev main_call1_call0_call0_v63 : Ref sig .tc := ⟨.hbm, 136, rfl⟩
abbrev main_call1_call0_call0_c_16 : Ref sig .tc := ⟨.hbm, 137, rfl⟩
abbrev main_call1_call0_call0_v64 : Ref sig .tc := ⟨.hbm, 138, rfl⟩
abbrev main_call1_call0_call0_v65 : Ref sig .tc := ⟨.hbm, 139, rfl⟩
abbrev main_call1_call0_call0_v66 : Ref sig .tc := ⟨.hbm, 140, rfl⟩
abbrev main_call1_call0_call0_v67 : Ref sig .tc := ⟨.hbm, 141, rfl⟩
abbrev main_call1_call0_call0_v68 : Ref sig .tc := ⟨.hbm, 142, rfl⟩
abbrev main_call1_call0_call0_v69 : Ref sig .tc := ⟨.hbm, 143, rfl⟩
abbrev main_call1_call0_call0_v70 : Ref sig .tc := ⟨.hbm, 144, rfl⟩
abbrev main_call1_call0_call0_v71 : Ref sig .tc := ⟨.hbm, 145, rfl⟩
abbrev main_call1_call0_call0_c_17 : Ref sig .tc := ⟨.hbm, 146, rfl⟩
abbrev main_call1_call0_call0_v72 : Ref sig .tc := ⟨.hbm, 147, rfl⟩
abbrev main_call1_call0_call0_v73 : Ref sig .tc := ⟨.hbm, 148, rfl⟩
abbrev main_call1_call0_call0_v74 : Ref sig .tc := ⟨.hbm, 149, rfl⟩
abbrev main_call1_call0_call0_c_18 : Ref sig .tc := ⟨.hbm, 150, rfl⟩
abbrev main_call1_call0_call0_v75 : Ref sig .tc := ⟨.hbm, 151, rfl⟩
abbrev main_call1_call0_call0_v76 : Ref sig .tc := ⟨.hbm, 152, rfl⟩
abbrev main_call1_call0_call0_c_19 : Ref sig .tc := ⟨.hbm, 153, rfl⟩
abbrev main_call1_call0_call0_v77 : Ref sig .tc := ⟨.hbm, 154, rfl⟩
abbrev main_call1_call0_call0_v78 : Ref sig .tc := ⟨.hbm, 155, rfl⟩
abbrev main_call1_call0_call0_v79 : Ref sig .tc := ⟨.hbm, 156, rfl⟩
abbrev main_call1_call0_call0_v80 : Ref sig .tc := ⟨.hbm, 157, rfl⟩
abbrev main_call1_call0_call0_v81 : Ref sig .tc := ⟨.hbm, 158, rfl⟩
abbrev main_call1_call0_call0_c_20 : Ref sig .tc := ⟨.hbm, 159, rfl⟩
abbrev main_call1_call0_call0_v82 : Ref sig .tc := ⟨.hbm, 160, rfl⟩
abbrev main_call1_call0_call0_v83 : Ref sig .tc := ⟨.hbm, 161, rfl⟩
abbrev main_call1_call0_call0_c_21 : Ref sig .tc := ⟨.hbm, 162, rfl⟩
abbrev main_call1_call0_call0_v84 : Ref sig .tc := ⟨.hbm, 163, rfl⟩
abbrev main_call1_call0_call0_v85 : Ref sig .tc := ⟨.hbm, 164, rfl⟩
abbrev main_call1_call0_call0_v86 : Ref sig .tc := ⟨.hbm, 165, rfl⟩
abbrev main_call1_call0_call0_v87 : Ref sig .tc := ⟨.hbm, 166, rfl⟩
abbrev main_call1_call0_call0_v88 : Ref sig .tc := ⟨.hbm, 167, rfl⟩
abbrev main_call1_call0_call0_c_22 : Ref sig .tc := ⟨.hbm, 168, rfl⟩
abbrev main_call1_call0_call0_v89 : Ref sig .tc := ⟨.hbm, 169, rfl⟩
abbrev main_call1_call0_call0_v90 : Ref sig .tc := ⟨.hbm, 170, rfl⟩
abbrev main_call1_call0_call0_c_23 : Ref sig .tc := ⟨.hbm, 171, rfl⟩
abbrev main_call1_call0_call0_v91 : Ref sig .tc := ⟨.hbm, 172, rfl⟩
abbrev main_call1_call0_call0_v92 : Ref sig .tc := ⟨.hbm, 173, rfl⟩
abbrev main_call1_call0_call0_v93 : Ref sig .tc := ⟨.hbm, 174, rfl⟩
abbrev main_call1_call0_call0_v94 : Ref sig .tc := ⟨.hbm, 175, rfl⟩
abbrev main_call1_call0_call0_v95 : Ref sig .tc := ⟨.hbm, 176, rfl⟩
abbrev main_call1_call0_call0_c_24 : Ref sig .tc := ⟨.hbm, 177, rfl⟩
abbrev main_call1_call0_call0_v96 : Ref sig .tc := ⟨.hbm, 178, rfl⟩
abbrev main_call1_call0_call0_v97 : Ref sig .tc := ⟨.hbm, 179, rfl⟩
abbrev main_call1_call0_call0_c_25 : Ref sig .tc := ⟨.hbm, 180, rfl⟩
abbrev main_call1_call0_call0_v98 : Ref sig .tc := ⟨.hbm, 181, rfl⟩
abbrev main_call1_call0_call0_v99 : Ref sig .tc := ⟨.hbm, 182, rfl⟩
abbrev main_call1_call0_call0_v100 : Ref sig .tc := ⟨.hbm, 183, rfl⟩
abbrev main_call1_call0_call0_v101 : Ref sig .tc := ⟨.hbm, 184, rfl⟩
abbrev main_call1_call0_call0_v102 : Ref sig .tc := ⟨.hbm, 185, rfl⟩
abbrev main_call1_call0_call0_v103 : Ref sig .tc := ⟨.hbm, 186, rfl⟩
abbrev main_call1_call0_call0_v104 : Ref sig .tc := ⟨.hbm, 187, rfl⟩
abbrev main_call1_call0_call0_v105 : Ref sig .tc := ⟨.hbm, 188, rfl⟩
abbrev main_call1_call0_call0_c_26 : Ref sig .tc := ⟨.hbm, 189, rfl⟩
abbrev main_call1_call0_call0_v106 : Ref sig .tc := ⟨.hbm, 190, rfl⟩
abbrev main_call1_call0_call0_v107 : Ref sig .tc := ⟨.hbm, 191, rfl⟩
abbrev main_call1_call0_call0_v108 : Ref sig .tc := ⟨.hbm, 192, rfl⟩
abbrev main_call1_call0_call0_c_27 : Ref sig .tc := ⟨.hbm, 193, rfl⟩
abbrev main_call1_call0_call0_v109 : Ref sig .tc := ⟨.hbm, 194, rfl⟩
abbrev main_call1_call0_call0_v110 : Ref sig .tc := ⟨.hbm, 195, rfl⟩
abbrev main_call1_call0_call0_c_28 : Ref sig .tc := ⟨.hbm, 196, rfl⟩
abbrev main_call1_call0_call0_v111 : Ref sig .tc := ⟨.hbm, 197, rfl⟩
abbrev main_call1_call0_call0_v112 : Ref sig .tc := ⟨.hbm, 198, rfl⟩
abbrev main_call1_call0_call0_v113 : Ref sig .tc := ⟨.hbm, 199, rfl⟩
abbrev main_call1_call0_call0_v114 : Ref sig .tc := ⟨.hbm, 200, rfl⟩
abbrev main_call1_call0_call0_v115 : Ref sig .tc := ⟨.hbm, 201, rfl⟩
abbrev main_call1_call0_call0_c_29 : Ref sig .tc := ⟨.hbm, 202, rfl⟩
abbrev main_call1_call0_call0_v116 : Ref sig .tc := ⟨.hbm, 203, rfl⟩
abbrev main_call1_call0_call0_v117 : Ref sig .tc := ⟨.hbm, 204, rfl⟩
abbrev main_call1_call0_call0_c_30 : Ref sig .tc := ⟨.hbm, 205, rfl⟩
abbrev main_call1_call0_call0_v118 : Ref sig .tc := ⟨.hbm, 206, rfl⟩
abbrev main_call1_call0_call0_v119 : Ref sig .tc := ⟨.hbm, 207, rfl⟩
abbrev main_call1_call0_call0_v120 : Ref sig .tc := ⟨.hbm, 208, rfl⟩
abbrev main_call1_call0_call0_v121 : Ref sig .tc := ⟨.hbm, 209, rfl⟩
abbrev main_call1_call0_call0_v122 : Ref sig .tc := ⟨.hbm, 210, rfl⟩
abbrev main_call1_call0_call0_c_31 : Ref sig .tc := ⟨.hbm, 211, rfl⟩
abbrev main_call1_call0_call0_v123 : Ref sig .tc := ⟨.hbm, 212, rfl⟩
abbrev main_call1_call0_call0_v124 : Ref sig .tc := ⟨.hbm, 213, rfl⟩
abbrev main_call1_call0_call0_c_32 : Ref sig .tc := ⟨.hbm, 214, rfl⟩
abbrev main_call1_call0_call0_v125 : Ref sig .tc := ⟨.hbm, 215, rfl⟩
abbrev main_call1_call0_call0_v126 : Ref sig .tc := ⟨.hbm, 216, rfl⟩
abbrev main_call1_call0_call0_v127 : Ref sig .tc := ⟨.hbm, 217, rfl⟩
abbrev main_call1_call0_call0_v128 : Ref sig .tc := ⟨.hbm, 218, rfl⟩
abbrev main_call1_call0_call0_v129 : Ref sig .tc := ⟨.hbm, 219, rfl⟩
abbrev main_call1_call0_call0_c_33 : Ref sig .tc := ⟨.hbm, 220, rfl⟩
abbrev main_call1_call0_call0_v130 : Ref sig .tc := ⟨.hbm, 221, rfl⟩
abbrev main_call1_call0_call0_v131 : Ref sig .tc := ⟨.hbm, 222, rfl⟩
abbrev main_call1_call0_call0_c_34 : Ref sig .tc := ⟨.hbm, 223, rfl⟩
abbrev main_call1_call0_call0_v132 : Ref sig .tc := ⟨.hbm, 224, rfl⟩
abbrev main_call1_call0_call0_v133 : Ref sig .tc := ⟨.hbm, 225, rfl⟩
abbrev main_call1_call0_call0_v134 : Ref sig .tc := ⟨.hbm, 226, rfl⟩
abbrev main_call1_call0_call0_v135 : Ref sig .tc := ⟨.hbm, 227, rfl⟩
abbrev main_call1_call0_call0_v136 : Ref sig .tc := ⟨.hbm, 228, rfl⟩
abbrev main_call1_call0_call0_v137 : Ref sig .tc := ⟨.hbm, 229, rfl⟩
abbrev main_call1_call0_call0_v138 : Ref sig .tc := ⟨.hbm, 230, rfl⟩
abbrev main_call1_call0_call0_v139 : Ref sig .tc := ⟨.hbm, 231, rfl⟩
abbrev main_call1_call0_call0_c_35 : Ref sig .tc := ⟨.hbm, 232, rfl⟩
abbrev main_call1_call0_call0_v140 : Ref sig .tc := ⟨.hbm, 233, rfl⟩
abbrev main_call1_call0_call0_v141 : Ref sig .tc := ⟨.hbm, 234, rfl⟩
abbrev main_call1_call0_call0_v142 : Ref sig .tc := ⟨.hbm, 235, rfl⟩
abbrev main_call1_call0_call0_c_36 : Ref sig .tc := ⟨.hbm, 236, rfl⟩
abbrev main_call1_call0_call0_v143 : Ref sig .tc := ⟨.hbm, 237, rfl⟩
abbrev main_call1_call0_call0_v144 : Ref sig .tc := ⟨.hbm, 238, rfl⟩
abbrev main_call1_call0_call0_c_37 : Ref sig .tc := ⟨.hbm, 239, rfl⟩
abbrev main_call1_call0_call0_v145 : Ref sig .tc := ⟨.hbm, 240, rfl⟩
abbrev main_call1_call0_call0_v146 : Ref sig .tc := ⟨.hbm, 241, rfl⟩
abbrev main_call1_call0_call0_v147 : Ref sig .tc := ⟨.hbm, 242, rfl⟩
abbrev main_call1_call0_call0_v148 : Ref sig .tc := ⟨.hbm, 243, rfl⟩
abbrev main_call1_call0_call0_v149 : Ref sig .tc := ⟨.hbm, 244, rfl⟩
abbrev main_call1_call0_call0_c_38 : Ref sig .tc := ⟨.hbm, 245, rfl⟩
abbrev main_call1_call0_call0_v150 : Ref sig .tc := ⟨.hbm, 246, rfl⟩
abbrev main_call1_call0_call0_v151 : Ref sig .tc := ⟨.hbm, 247, rfl⟩
abbrev main_call1_call0_call0_c_39 : Ref sig .tc := ⟨.hbm, 248, rfl⟩
abbrev main_call1_call0_call0_v152 : Ref sig .tc := ⟨.hbm, 249, rfl⟩
abbrev main_call1_call0_call0_v153 : Ref sig .tc := ⟨.hbm, 250, rfl⟩
abbrev main_call1_call0_call0_v154 : Ref sig .tc := ⟨.hbm, 251, rfl⟩
abbrev main_call1_call0_call0_v155 : Ref sig .tc := ⟨.hbm, 252, rfl⟩
abbrev main_call1_call0_call0_v156 : Ref sig .tc := ⟨.hbm, 253, rfl⟩
abbrev main_call1_call0_call0_c_40 : Ref sig .tc := ⟨.hbm, 254, rfl⟩
abbrev main_call1_call0_call0_v157 : Ref sig .tc := ⟨.hbm, 255, rfl⟩
abbrev main_call1_call0_call0_v158 : Ref sig .tc := ⟨.hbm, 256, rfl⟩
abbrev main_call1_call0_call0_c_41 : Ref sig .tc := ⟨.hbm, 257, rfl⟩
abbrev main_call1_call0_call0_v159 : Ref sig .tc := ⟨.hbm, 258, rfl⟩
abbrev main_call1_call0_call0_v160 : Ref sig .tc := ⟨.hbm, 259, rfl⟩
abbrev main_call1_call0_call0_v161 : Ref sig .tc := ⟨.hbm, 260, rfl⟩
abbrev main_call1_call0_call0_v162 : Ref sig .tc := ⟨.hbm, 261, rfl⟩
abbrev main_call1_call0_call0_v163 : Ref sig .tc := ⟨.hbm, 262, rfl⟩
abbrev main_call1_call0_call0_c_42 : Ref sig .tc := ⟨.hbm, 263, rfl⟩
abbrev main_call1_call0_call0_v164 : Ref sig .tc := ⟨.hbm, 264, rfl⟩
abbrev main_call1_call0_call0_v165 : Ref sig .tc := ⟨.hbm, 265, rfl⟩
abbrev main_call1_call0_call0_c_43 : Ref sig .tc := ⟨.hbm, 266, rfl⟩
abbrev main_call1_call0_call0_v166 : Ref sig .tc := ⟨.hbm, 267, rfl⟩
abbrev main_call1_call0_call0_v167 : Ref sig .tc := ⟨.hbm, 268, rfl⟩
abbrev main_call1_call0_call0_v168 : Ref sig .tc := ⟨.hbm, 269, rfl⟩
abbrev main_call1_call0_call0_v169 : Ref sig .tc := ⟨.hbm, 270, rfl⟩
abbrev main_call1_call0_call0_v170 : Ref sig .tc := ⟨.hbm, 271, rfl⟩
abbrev main_call1_call0_v18_0 : Ref sig .tc := ⟨.hbm, 272, rfl⟩
abbrev main_call1_call0_call0_v172 : Ref sig .tc := ⟨.hbm, 273, rfl⟩
abbrev main_call1_call0_call0_v173 : Ref sig .tc := ⟨.hbm, 274, rfl⟩
abbrev main_call1_call0_call0_c_44 : Ref sig .tc := ⟨.hbm, 275, rfl⟩
abbrev main_call1_call0_call0_v174 : Ref sig .tc := ⟨.hbm, 276, rfl⟩
abbrev main_call1_call0_v18_1 : Ref sig .tc := ⟨.hbm, 277, rfl⟩
abbrev main_call1_call0_v19 : Ref sig .tc := ⟨.hbm, 278, rfl⟩
abbrev main_call1_call0_c_2 : Ref sig .tc := ⟨.hbm, 279, rfl⟩
abbrev main_call1_call0_v20 : Ref sig .tc := ⟨.hbm, 280, rfl⟩
abbrev main_call1_call0_v21 : Ref sig .tc := ⟨.hbm, 281, rfl⟩
abbrev main_call1_call0_c_3 : Ref sig .tc := ⟨.hbm, 282, rfl⟩
abbrev main_call1_call0_v22 : Ref sig .tc := ⟨.hbm, 283, rfl⟩
abbrev main_call1_call0_v23 : Ref sig .tc := ⟨.hbm, 284, rfl⟩
abbrev main_call1_call0_v24 : Ref sig .tc := ⟨.hbm, 285, rfl⟩
abbrev main_call1_call0_cst : Ref sig .tc := ⟨.hbm, 286, rfl⟩
abbrev main_call1_call0_v25 : Ref sig .tc := ⟨.hbm, 287, rfl⟩
abbrev main_call1_call0_v26 : Ref sig .tc := ⟨.hbm, 288, rfl⟩
abbrev main_call1_call0_v27 : Ref sig .tc := ⟨.hbm, 289, rfl⟩
abbrev main_call1_call0_v28 : Ref sig .tc := ⟨.hbm, 290, rfl⟩
abbrev main_call1_call0_v29 : Ref sig .tc := ⟨.hbm, 291, rfl⟩
abbrev main_call1_call0_v30 : Ref sig .tc := ⟨.hbm, 292, rfl⟩
abbrev main_call1_call0_v31 : Ref sig .tc := ⟨.hbm, 293, rfl⟩
abbrev main_call1_call0_v32 : Ref sig .tc := ⟨.hbm, 294, rfl⟩
abbrev main_call1_v0 : Ref sig .tc := ⟨.hbm, 295, rfl⟩
abbrev main_call1_v1 : Ref sig .tc := ⟨.hbm, 296, rfl⟩
abbrev main_call1_v2 : Ref sig .tc := ⟨.hbm, 297, rfl⟩
abbrev main_call1_v3 : Ref sig .tc := ⟨.hbm, 298, rfl⟩
abbrev main_v13 : Ref sig .tc := ⟨.hbm, 299, rfl⟩
abbrev main_v14 : Ref sig .tc := ⟨.hbm, 300, rfl⟩
abbrev main_call2_v0 : Ref sig .tc := ⟨.hbm, 301, rfl⟩
abbrev main_call2_cst : Ref sig .tc := ⟨.hbm, 302, rfl⟩
abbrev main_call2_c : Ref sig .tc := ⟨.hbm, 303, rfl⟩
abbrev main_call2_v1_0 : Ref sig .tc := ⟨.hbm, 304, rfl⟩
abbrev main_v15 : Ref sig .tc := ⟨.hbm, 305, rfl⟩
abbrev main_call3_v0 : Ref sig .tc := ⟨.hbm, 306, rfl⟩
abbrev main_call3_v1 : Ref sig .tc := ⟨.hbm, 307, rfl⟩
abbrev main_call3_v2 : Ref sig .tc := ⟨.hbm, 308, rfl⟩
abbrev main_call3_v3 : Ref sig .tc := ⟨.hbm, 309, rfl⟩
abbrev main_call3_v4 : Ref sig .tc := ⟨.hbm, 310, rfl⟩
abbrev main_v16 : Ref sig .tc := ⟨.hbm, 311, rfl⟩
abbrev main_cst : Ref sig .tc := ⟨.hbm, 312, rfl⟩
abbrev main_v17 : Ref sig .tc := ⟨.hbm, 313, rfl⟩
abbrev main_cst_2 : Ref sig .tc := ⟨.hbm, 314, rfl⟩
abbrev main_v18 : Ref sig .tc := ⟨.hbm, 315, rfl⟩
abbrev main_v19 : Ref sig .tc := ⟨.hbm, 316, rfl⟩
abbrev main_v20 : Ref sig .tc := ⟨.hbm, 317, rfl⟩

abbrev nD : Nat := 1
abbrev τ : Topo := Topo.v7x

variable {F : FTy → Type} [FloatOps F]
-- ==== Proof.BodyIdeal.lean ====
/-
  The kernel's body at one grid point, run once per way through its guards: the first point (it starts the running
  maximum, sum and best column), the points after it in the first pass (they update them), the last of the first pass
  (it also stores the log of the normalizer), and the points of the second pass (they write the two results).
-/
module

public import proofs.«01_k».proof.Proof.Gen.KernelIdeal.Frame
public import proofs.«01_k».proof.Proof.Gen.KernelIdeal.Skeleton
public import Idealize.ShloMosaic.Lib.Pipeline.Frame
public import Idealize.ShloMosaic.Lib.Pipeline.FrameBody
public import Idealize.ShloMosaic.Lib.VecWindow
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)

variable {F : FTy → Type} [FloatOps F] [Named F] [∀ e, Nonempty (Elt F e)]

local notation "𝕄" => MT nD τ sig Unit (Elt F) ℕ (UR sig nD τ) ℕ

/-- The kept logits, the running maximum and sum, the log of the normalizer, the best value and its column. -/
abbrev mA : Memref sig .tc .vmem S8x1015808 .f32 := Memref.whole cc0_scratch0
abbrev mM : Memref sig .tc .vmem S8x1 .f32 := Memref.whole cc0_scratch1
abbrev mS : Memref sig .tc .vmem S8x1 .f32 := Memref.whole cc0_scratch2
abbrev mL : Memref sig .tc .vmem S8x1 .f32 := Memref.whole cc0_scratch3
abbrev mBV : Memref sig .tc .vmem S8x1 .f32 := Memref.whole cc0_scratch4
abbrev mBI : Memref sig .tc .vmem S8x1 .i32 := Memref.whole cc0_scratch5

/-- The grid coordinate as the body's word. -/
abbrev jw (i : grid0.Coords) : BitVec 32 := BitVec.ofNat 32 (i 0).val

/-- The body's three inner guards. -/
abbrev gFirst (i : grid0.Coords) : Prop := Scalar.cmpi .ne (Scalar.extui (Scalar.cmpi .eq (jw i) 0#32) : BitVec 32) 0#32 = 1#1
abbrev gLater (i : grid0.Coords) : Prop := Scalar.cmpi .ne (Scalar.extui (Scalar.cmpi .sgt (jw i) 0#32) : BitVec 32) 0#32 = 1#1
abbrev gLast (i : grid0.Coords) : Prop := Scalar.cmpi .ne (Scalar.extui (Scalar.cmpi .eq (jw i) 30#32) : BitVec 32) 0#32 = 1#1

section Runs

variable (c : Dev nD) (i : grid0.Coords)
  (arg1 : Memref sig .tc .vmem S8x64 .f32) (harg1 : arg1.IsWhole) (arg2 : Memref sig .tc .vmem S64x32768 .f32) (harg2 : arg2.IsWhole)
  (arg3 : Memref sig .tc .vmem S1x32768 .f32) (harg3 : arg3.IsWhole) (arg4 : Memref sig .tc .vmem S8x32768 .f32) (harg4 : arg4.IsWhole)
  (arg5 : Memref sig .tc .vmem S8x32768 .f32) (harg5 : arg5.IsWhole) (arg6 : Memref sig .tc .vmem S8x32768 .f32) (harg6 : arg6.IsWhole)
  (x1 : S8x64.Idx → Elt F .f32) (x2 : S64x32768.Idx → Elt F .f32) (x3 : S1x32768.Idx → Elt F .f32) (x4 x5 x6 : S8x32768.Idx → Elt F .f32)
  (a : S8x1015808.Idx → Elt F .f32) (m s l bv : S8x1.Idx → Elt F .f32) (bi : S8x1.Idx → Elt F .i32)

/-- What the body holds: the six staging blocks and the six scratches. -/
def held (y5 y6 : S8x32768.Idx → Elt F .f32) (a : S8x1015808.Idx → Elt F .f32) (m s l bv : S8x1.Idx → Elt F .f32) (bi : S8x1.Idx → Elt F .i32) : sProp 𝕄 :=
  iprop(owns (c : Thread nD τ) arg1 fullShare x1 ∗ owns (c : Thread nD τ) arg2 fullShare x2 ∗ owns (c : Thread nD τ) arg3 fullShare x3
    ∗ owns (c : Thread nD τ) arg4 fullShare x4 ∗ owns (c : Thread nD τ) arg5 fullShare y5 ∗ owns (c : Thread nD τ) arg6 fullShare y6
    ∗ owns (c : Thread nD τ) mA fullShare a ∗ owns (c : Thread nD τ) mM fullShare m ∗ owns (c : Thread nD τ) mS fullShare s
    ∗ owns (c : Thread nD τ) mL fullShare l ∗ owns (c : Thread nD τ) mBV fullShare bv ∗ owns (c : Thread nD τ) mBI fullShare bi)

/-- The kept logits after a point of the first pass: the point's block put at its columns. -/
def accNext : S8x1015808.Idx → Elt F .f32 := VecWindow.put a (k0_off1 i) S8x32768.size (k0_pay17 x1 x2 x3)

/-- The first point: running maximum, sum, best value and column start from the block's. -/
theorem run_first (h1 : k0_cond1 i = 1#1) (h2 : gFirst i) (h3 : ¬ gLater i) (h4 : ¬ gLast i) (h5 : ¬ k0_cond5 i = 1#1)
    (W : Waits sig Unit) (K : PUnit → sProp 𝕄) :
    iprop(held c arg1 arg2 arg3 arg4 arg5 arg6 x1 x2 x3 x4 x5 x6 a m s l bv bi ∗ owes (c : Thread nD τ) 0 W
        ∗ (iprop(held c arg1 arg2 arg3 arg4 arg5 arg6 x1 x2 x3 x4 x5 x6 (accNext i x1 x2 x3 a)
              (k0_pay4 (k0_pay22 (jw i) x1 x2 x3)) (k0_pay5 (k0_pay20 (jw i) x1 x2 x3) (k0_pay22 (jw i) x1 x2 x3)) l
              (k0_pay6 (k0_pay21 (jw i) x1 x2 x3 x4)) (k0_pay7 (k0_pay18 (jw i)) (k0_pay21 (jw i) x1 x2 x3 x4))
            ∗ owes (c : Thread nD τ) 0 W) -∗ K ⟨⟩))
      ⊢ wp frame (wpE (defs₀ (F := F)) Variants.none c none) Set.univ
          (cc0__fused i arg1 harg1 arg2 harg2 arg3 harg3 arg4 harg4 arg5 harg5 arg6 harg6 mA (Memref.isWhole_whole _) mM (Memref.isWhole_whole _)
            mS (Memref.isWhole_whole _) mL (Memref.isWhole_whole _) mBV (Memref.isWhole_whole _) mBI (Memref.isWhole_whole _)) K := by
  simp only [cc0__fused_eq_skeleton]; unfold cc0__fused_skel
  simp only [k0_part1_eq_skeleton]; unfold k0_part1_skel
  unfold held owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%fA, %eA, HA⟩, ⟨%fM, %eM, HM⟩, ⟨%fS, %eS, HS⟩, ⟨%fL, %eL, HL⟩, ⟨%fV, %eV, HV⟩, ⟨%fI, %eI, HI⟩⟩, HW, Hk⟩
  sl_exec
  sl_step
  iapply Hk
  isplitr [HW]; swap; · iexact HW
  have r1 := (View.readAt_full arg1.view f1 inb_S8x64_S8x64_0_0).trans e1
  have r2 := (View.readAt_full arg2.view f2 inb_S64x32768_S64x32768_0_0).trans e2
  have r3 := (View.readAt_full arg3.view f3 inb_S1x32768_S1x32768_0_0).trans e3
  have r4 := (View.readAt_full arg4.view f4 inb_S8x32768_S8x32768_0_0).trans e4
  have rM := (View.readAt_full mM.view fM inb_S8x1_S8x1_0_0).trans eM
  have rS := (View.readAt_full mS.view fS inb_S8x1_S8x1_0_0).trans eS
  have rL := (View.readAt_full mL.view fL inb_S8x1_S8x1_0_0).trans eL
  have rV := (View.readAt_full mBV.view fV inb_S8x1_S8x1_0_0).trans eV
  have rI := (View.readAt_full mBI.view fI inb_S8x1_S8x1_0_0).trans eI
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  isplitl [HA]
  · iexists _; isplitr; swap; · iexact HA
    ipureintro; rw [View.read_writes_cons_put _ _ _ _ _ rfl, r1, r2, r3, View.writes_nil, eA]; rfl
  isplitl [HM]
  · iexists _; isplitr; swap; · iexact HM
    ipureintro; rw [View.read_writes_full, r1, r2, r3]
  isplitl [HS]
  · iexists _; isplitr; swap; · iexact HS
    ipureintro; rw [View.read_writes_full, r1, r2, r3]
  isplitl [HL]
  · iexists _; isplitr; swap; · iexact HL
    ipureintro; exact eL
  isplitl [HV]
  · iexists _; isplitr; swap; · iexact HV
    ipureintro; rw [View.read_writes_full, r1, r2, r3, r4]
  iexists _; isplitr; swap; · iexact HI
  ipureintro; rw [View.read_writes_full, r1, r2, r3, r4]

/-- A point of the first pass that is neither its first nor its last: all four are updated by the block. -/
theorem run_later (h1 : k0_cond1 i = 1#1) (h2 : ¬ gFirst i) (h3 : gLater i) (h4 : ¬ gLast i) (h5 : ¬ k0_cond5 i = 1#1)
    (W : Waits sig Unit) (K : PUnit → sProp 𝕄) :
    iprop(held c arg1 arg2 arg3 arg4 arg5 arg6 x1 x2 x3 x4 x5 x6 a m s l bv bi ∗ owes (c : Thread nD τ) 0 W
        ∗ (iprop(held c arg1 arg2 arg3 arg4 arg5 arg6 x1 x2 x3 x4 x5 x6 (accNext i x1 x2 x3 a)
              (k0_pay10 (k0_pay22 (jw i) x1 x2 x3) m) (k0_pay9 (k0_pay20 (jw i) x1 x2 x3) (k0_pay22 (jw i) x1 x2 x3) m s) l
              (k0_pay12 (k0_pay21 (jw i) x1 x2 x3 x4) bv) (k0_pay11 (k0_pay18 (jw i)) (k0_pay21 (jw i) x1 x2 x3 x4) bv bi)
            ∗ owes (c : Thread nD τ) 0 W) -∗ K ⟨⟩))
      ⊢ wp frame (wpE (defs₀ (F := F)) Variants.none c none) Set.univ
          (cc0__fused i arg1 harg1 arg2 harg2 arg3 harg3 arg4 harg4 arg5 harg5 arg6 harg6 mA (Memref.isWhole_whole _) mM (Memref.isWhole_whole _)
            mS (Memref.isWhole_whole _) mL (Memref.isWhole_whole _) mBV (Memref.isWhole_whole _) mBI (Memref.isWhole_whole _)) K := by
  simp only [cc0__fused_eq_skeleton]; unfold cc0__fused_skel
  simp only [k0_part1_eq_skeleton]; unfold k0_part1_skel
  unfold held owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%fA, %eA, HA⟩, ⟨%fM, %eM, HM⟩, ⟨%fS, %eS, HS⟩, ⟨%fL, %eL, HL⟩, ⟨%fV, %eV, HV⟩, ⟨%fI, %eI, HI⟩⟩, HW, Hk⟩
  sl_exec
  sl_step
  iapply Hk
  isplitr [HW]; swap; · iexact HW
  have r1 := (View.readAt_full arg1.view f1 inb_S8x64_S8x64_0_0).trans e1
  have r2 := (View.readAt_full arg2.view f2 inb_S64x32768_S64x32768_0_0).trans e2
  have r3 := (View.readAt_full arg3.view f3 inb_S1x32768_S1x32768_0_0).trans e3
  have r4 := (View.readAt_full arg4.view f4 inb_S8x32768_S8x32768_0_0).trans e4
  have rM := (View.readAt_full mM.view fM inb_S8x1_S8x1_0_0).trans eM
  have rS := (View.readAt_full mS.view fS inb_S8x1_S8x1_0_0).trans eS
  have rL := (View.readAt_full mL.view fL inb_S8x1_S8x1_0_0).trans eL
  have rV := (View.readAt_full mBV.view fV inb_S8x1_S8x1_0_0).trans eV
  have rI := (View.readAt_full mBI.view fI inb_S8x1_S8x1_0_0).trans eI
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  isplitl [HA]
  · iexists _; isplitr; swap; · iexact HA
    ipureintro; rw [View.read_writes_cons_put _ _ _ _ _ rfl, r1, r2, r3, View.writes_nil, eA]; rfl
  isplitl [HM]
  · iexists _; isplitr; swap; · iexact HM
    ipureintro; rw [View.read_writes_full, r1, r2, r3, rM]
  isplitl [HS]
  · iexists _; isplitr; swap; · iexact HS
    ipureintro; rw [View.read_writes_full, r1, r2, r3, rM, rS]
  isplitl [HL]
  · iexists _; isplitr; swap; · iexact HL
    ipureintro; exact eL
  isplitl [HV]
  · iexists _; isplitr; swap; · iexact HV
    ipureintro; rw [View.read_writes_full, r1, r2, r3, r4, rV]
  iexists _; isplitr; swap; · iexact HI
  ipureintro; rw [View.read_writes_full, r1, r2, r3, r4, rV, rI]

/-- The last point of the first pass: the same, and the log of the normalizer is stored. -/
theorem run_last (h1 : k0_cond1 i = 1#1) (h2 : ¬ gFirst i) (h3 : gLater i) (h4 : gLast i) (h5 : ¬ k0_cond5 i = 1#1)
    (W : Waits sig Unit) (K : PUnit → sProp 𝕄) :
    iprop(held c arg1 arg2 arg3 arg4 arg5 arg6 x1 x2 x3 x4 x5 x6 a m s l bv bi ∗ owes (c : Thread nD τ) 0 W
        ∗ (iprop(held c arg1 arg2 arg3 arg4 arg5 arg6 x1 x2 x3 x4 x5 x6 (accNext i x1 x2 x3 a)
              (k0_pay10 (k0_pay22 (jw i) x1 x2 x3) m) (k0_pay9 (k0_pay20 (jw i) x1 x2 x3) (k0_pay22 (jw i) x1 x2 x3) m s)
              (k0_pay13 (k0_pay10 (k0_pay22 (jw i) x1 x2 x3) m) (k0_pay9 (k0_pay20 (jw i) x1 x2 x3) (k0_pay22 (jw i) x1 x2 x3) m s)) (k0_pay12 (k0_pay21 (jw i) x1 x2 x3 x4) bv) (k0_pay11 (k0_pay18 (jw i)) (k0_pay21 (jw i) x1 x2 x3 x4) bv bi)
            ∗ owes (c : Thread nD τ) 0 W) -∗ K ⟨⟩))
      ⊢ wp frame (wpE (defs₀ (F := F)) Variants.none c none) Set.univ
          (cc0__fused i arg1 harg1 arg2 harg2 arg3 harg3 arg4 harg4 arg5 harg5 arg6 harg6 mA (Memref.isWhole_whole _) mM (Memref.isWhole_whole _)
            mS (Memref.isWhole_whole _) mL (Memref.isWhole_whole _) mBV (Memref.isWhole_whole _) mBI (Memref.isWhole_whole _)) K := by
  simp only [cc0__fused_eq_skeleton]; unfold cc0__fused_skel
  simp only [k0_part1_eq_skeleton]; unfold k0_part1_skel
  unfold held owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%fA, %eA, HA⟩, ⟨%fM, %eM, HM⟩, ⟨%fS, %eS, HS⟩, ⟨%fL, %eL, HL⟩, ⟨%fV, %eV, HV⟩, ⟨%fI, %eI, HI⟩⟩, HW, Hk⟩
  sl_exec
  sl_step
  iapply Hk
  isplitr [HW]; swap; · iexact HW
  have r1 := (View.readAt_full arg1.view f1 inb_S8x64_S8x64_0_0).trans e1
  have r2 := (View.readAt_full arg2.view f2 inb_S64x32768_S64x32768_0_0).trans e2
  have r3 := (View.readAt_full arg3.view f3 inb_S1x32768_S1x32768_0_0).trans e3
  have r4 := (View.readAt_full arg4.view f4 inb_S8x32768_S8x32768_0_0).trans e4
  have rM := (View.readAt_full mM.view fM inb_S8x1_S8x1_0_0).trans eM
  have rS := (View.readAt_full mS.view fS inb_S8x1_S8x1_0_0).trans eS
  have rL := (View.readAt_full mL.view fL inb_S8x1_S8x1_0_0).trans eL
  have rV := (View.readAt_full mBV.view fV inb_S8x1_S8x1_0_0).trans eV
  have rI := (View.readAt_full mBI.view fI inb_S8x1_S8x1_0_0).trans eI
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  isplitl [HA]
  · iexists _; isplitr; swap; · iexact HA
    ipureintro; rw [View.read_writes_cons_put _ _ _ _ _ rfl, r1, r2, r3, View.writes_nil, eA]; rfl
  isplitl [HM]
  · iexists _; isplitr; swap; · iexact HM
    ipureintro; unfold run_last.sl.HM_1
    rw [View.read_writes_full, r1, r2, r3, rM]
  isplitl [HS]
  · iexists _; isplitr; swap; · iexact HS
    ipureintro; unfold run_last.sl.HS_1
    rw [View.read_writes_full, r1, r2, r3, rM, rS]
  isplitl [HL]
  · iexists _; isplitr; swap; · iexact HL
    ipureintro; unfold run_last.sl.v63 run_last.sl.v64 run_last.sl.HS_1 run_last.sl.HM_1
    rw [View.read_writes_full, View.readCov_full, View.readCov_full, r1, r2, r3, rM, rS]
  isplitl [HV]
  · iexists _; isplitr; swap; · iexact HV
    ipureintro; rw [View.read_writes_full, r1, r2, r3, r4, rV]
  iexists _; isplitr; swap; · iexact HI
  ipureintro; rw [View.read_writes_full, r1, r2, r3, r4, rV, rI]

/-- A point of the second pass: the kept logits less the log of the normalizer, and the proposal from the best column. -/
theorem run_write (h1 : ¬ k0_cond1 i = 1#1) (h5 : k0_cond5 i = 1#1)
    (W : Waits sig Unit) (K : PUnit → sProp 𝕄) :
    iprop(held c arg1 arg2 arg3 arg4 arg5 arg6 x1 x2 x3 x4 x5 x6 a m s l bv bi ∗ owes (c : Thread nD τ) 0 W
        ∗ (iprop(held c arg1 arg2 arg3 arg4 arg5 arg6 x1 x2 x3 x4 (k0_pay14 (VecWindow.window a (k0_off2 i) S8x32768.size (k0_off2_inb i h5)) l) (k0_pay15 i bi)
              a m s l bv bi
            ∗ owes (c : Thread nD τ) 0 W) -∗ K ⟨⟩))
      ⊢ wp frame (wpE (defs₀ (F := F)) Variants.none c none) Set.univ
          (cc0__fused i arg1 harg1 arg2 harg2 arg3 harg3 arg4 harg4 arg5 harg5 arg6 harg6 mA (Memref.isWhole_whole _) mM (Memref.isWhole_whole _)
            mS (Memref.isWhole_whole _) mL (Memref.isWhole_whole _) mBV (Memref.isWhole_whole _) mBI (Memref.isWhole_whole _)) K := by
  simp only [cc0__fused_eq_skeleton]; unfold cc0__fused_skel
  unfold held owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%fA, %eA, HA⟩, ⟨%fM, %eM, HM⟩, ⟨%fS, %eS, HS⟩, ⟨%fL, %eL, HL⟩, ⟨%fV, %eV, HV⟩, ⟨%fI, %eI, HI⟩⟩, HW, Hk⟩
  sl_exec
  sl_step
  iapply Hk
  isplitr [HW]; swap; · iexact HW
  have r1 := (View.readAt_full arg1.view f1 inb_S8x64_S8x64_0_0).trans e1
  have r2 := (View.readAt_full arg2.view f2 inb_S64x32768_S64x32768_0_0).trans e2
  have r3 := (View.readAt_full arg3.view f3 inb_S1x32768_S1x32768_0_0).trans e3
  have r4 := (View.readAt_full arg4.view f4 inb_S8x32768_S8x32768_0_0).trans e4
  have rM := (View.readAt_full mM.view fM inb_S8x1_S8x1_0_0).trans eM
  have rS := (View.readAt_full mS.view fS inb_S8x1_S8x1_0_0).trans eS
  have rL := (View.readAt_full mL.view fL inb_S8x1_S8x1_0_0).trans eL
  have rV := (View.readAt_full mBV.view fV inb_S8x1_S8x1_0_0).trans eV
  have rI := (View.readAt_full mBI.view fI inb_S8x1_S8x1_0_0).trans eI
  have rW := (View.readAt_unit mA.view fA (k0_off2_inb i h5) rfl (k0_off2_inb i h5))
  rw [eA] at rW
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; rw [View.read_writes_full, rW, rL]
  isplitl [H6]
  · iexists _; isplitr; swap; · iexact H6
    ipureintro; rw [View.read_writes_full, rI]
  isplitl [HA]
  · iexists _; isplitr; swap; · iexact HA
    ipureintro; exact eA
  isplitl [HM]
  · iexists _; isplitr; swap; · iexact HM
    ipureintro; exact eM
  isplitl [HS]
  · iexists _; isplitr; swap; · iexact HS
    ipureintro; exact eS
  isplitl [HL]
  · iexists _; isplitr; swap; · iexact HL
    ipureintro; exact eL
  isplitl [HV]
  · iexists _; isplitr; swap; · iexact HV
    ipureintro; exact eV
  iexists _; isplitr; swap; · iexact HI
  ipureintro; exact eI

end Runs

end Cert.KernelIdeal.Hand

end
-- ==== Proof.RunIdeal.lean ====
/-
  The run of the whole grid, once for every use: a tracking invariant `Inv` over what the six scratches hold before each
  point, and what a point of the second pass leaves of each result (`P4`, `P5`), with the four facts that the points of
  each kind keep them. Stated of relational proof data: the inputs are left as found, the results are constrained only
  at the points that write them.
-/
module

public import proofs.«01_k».proof.Proof.BodyIdeal
public import Idealize.ShloMosaic.Lib.Pipeline.ArrRel

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)

variable {F : FTy → Type} [FloatOps F] [Named F] [∀ e, Nonempty (Elt F e)]

local notation "𝕄" => MT nD τ sig Unit (Elt F) ℕ (UR sig nD τ) ℕ

/-! ## Which way a point goes -/

theorem cond1_iff : ∀ i : grid0.Coords, k0_cond1 i = 1#1 ↔ (i 0).val < 31 := by decide +kernel
theorem cond5_iff : ∀ i : grid0.Coords, k0_cond5 i = 1#1 ↔ 31 ≤ (i 0).val := by decide +kernel
theorem gFirst_iff : ∀ i : grid0.Coords, gFirst i ↔ (i 0).val = 0 := by decide +kernel
theorem gLater_iff : ∀ i : grid0.Coords, gLater i ↔ 0 < (i 0).val := by decide +kernel
theorem gLast_iff : ∀ i : grid0.Coords, gLast i ↔ (i 0).val = 30 := by decide +kernel
theorem coord_val : ∀ t : Fin grid0.N, (grid0.coords t 0).val = t.val := by decide +kernel

variable (m : (ℓ : Loc nD τ sig) → Buf (Elt F) ℓ) (ρ : Dev nD → PrngReg)

/-- Contents of the kept logits, of a column of floats, of a column of words, of a result's block. -/
abbrev TA (F : FTy → Type) := S8x1015808.Idx → Elt F .f32
abbrev TC (F : FTy → Type) := S8x1.Idx → Elt F .f32
abbrev TI (F : FTy → Type) := S8x1.Idx → Elt F .i32
abbrev TB (F : FTy → Type) := S8x32768.Idx → Elt F .f32

/-- Contents that a fetch at point `t` leaves in window `w`'s buffer, whatever the part it does not fill held. -/
def Fetched (c : Dev nD) (w : Fin cfg0.W) (t : Fin cfg0.N) (Y : (cfg0.win w).block.Idx → Elt F (cfg0.win w).elt) : Prop :=
  ∃ d, Y = (cfg0.win w).fill (cfg0.grid.coords t) d (iblk m c w t)

/-- The facts a use of the run gives: the invariant holds at entry and the points of each kind keep it; the points of the
    second pass leave the two results' blocks as `P4` and `P5` say. -/
structure Track (c : Dev nD) where
  Inv : ℕ → TA F → TC F → TC F → TC F → TC F → TI F → Prop
  P4 : Fin cfg0.N → TB F → Prop
  P5 : Fin cfg0.N → TB F → Prop
  init : ∀ a m s l bv bi, Inv 0 a m s l bv bi
  first : ∀ (t : Fin cfg0.N) x1 x2 x3 x4 a m' s l bv bi, t.val = 0 → Fetched m c 0 t x1 → Fetched m c 1 t x2 → Fetched m c 2 t x3 →
    Fetched m c 3 t x4 → Inv t.val a m' s l bv bi →
    Inv (t.val + 1) (accNext (grid0.coords t) x1 x2 x3 a) (k0_pay4 (k0_pay22 (jw (grid0.coords t)) x1 x2 x3))
      (k0_pay5 (k0_pay20 (jw (grid0.coords t)) x1 x2 x3) (k0_pay22 (jw (grid0.coords t)) x1 x2 x3)) l
      (k0_pay6 (k0_pay21 (jw (grid0.coords t)) x1 x2 x3 x4)) (k0_pay7 (k0_pay18 (jw (grid0.coords t))) (k0_pay21 (jw (grid0.coords t)) x1 x2 x3 x4))
  later : ∀ (t : Fin cfg0.N) x1 x2 x3 x4 a m' s l bv bi, 0 < t.val → t.val < 30 → Fetched m c 0 t x1 → Fetched m c 1 t x2 → Fetched m c 2 t x3 →
    Fetched m c 3 t x4 → Inv t.val a m' s l bv bi →
    Inv (t.val + 1) (accNext (grid0.coords t) x1 x2 x3 a) (k0_pay10 (k0_pay22 (jw (grid0.coords t)) x1 x2 x3) m')
      (k0_pay9 (k0_pay20 (jw (grid0.coords t)) x1 x2 x3) (k0_pay22 (jw (grid0.coords t)) x1 x2 x3) m' s) l
      (k0_pay12 (k0_pay21 (jw (grid0.coords t)) x1 x2 x3 x4) bv) (k0_pay11 (k0_pay18 (jw (grid0.coords t))) (k0_pay21 (jw (grid0.coords t)) x1 x2 x3 x4) bv bi)
  last : ∀ (t : Fin cfg0.N) x1 x2 x3 x4 a m' s l bv bi, t.val = 30 → Fetched m c 0 t x1 → Fetched m c 1 t x2 → Fetched m c 2 t x3 →
    Fetched m c 3 t x4 → Inv t.val a m' s l bv bi →
    Inv (t.val + 1) (accNext (grid0.coords t) x1 x2 x3 a) (k0_pay10 (k0_pay22 (jw (grid0.coords t)) x1 x2 x3) m')
      (k0_pay9 (k0_pay20 (jw (grid0.coords t)) x1 x2 x3) (k0_pay22 (jw (grid0.coords t)) x1 x2 x3) m' s)
      (k0_pay13 (k0_pay10 (k0_pay22 (jw (grid0.coords t)) x1 x2 x3) m')
        (k0_pay9 (k0_pay20 (jw (grid0.coords t)) x1 x2 x3) (k0_pay22 (jw (grid0.coords t)) x1 x2 x3) m' s))
      (k0_pay12 (k0_pay21 (jw (grid0.coords t)) x1 x2 x3 x4) bv) (k0_pay11 (k0_pay18 (jw (grid0.coords t))) (k0_pay21 (jw (grid0.coords t)) x1 x2 x3 x4) bv bi)
  write : ∀ (t : Fin cfg0.N) a m' s l bv bi (h5 : k0_cond5 (grid0.coords t) = 1#1), 31 ≤ t.val → Inv t.val a m' s l bv bi →
    P4 t (k0_pay14 (VecWindow.window a (k0_off2 (grid0.coords t)) S8x32768.size (k0_off2_inb (grid0.coords t) h5)) l)
      ∧ P5 t (k0_pay15 (grid0.coords t) bi) ∧ Inv (t.val + 1) a m' s l bv bi

variable {m} (T : (c : Dev nD) → Track m c)

/-- The scratches as the invariant before point `n` has them, and the generator register at some state. -/
def tracked (c : Dev nD) (n : ℕ) : sProp 𝕄 :=
  iprop((∃ a m' s l bv bi, ⌜(T c).Inv n a m' s l bv bi⌝ ∗ owns (c : Thread nD τ) mA fullShare a ∗ owns (c : Thread nD τ) mM fullShare m'
      ∗ owns (c : Thread nD τ) mS fullShare s ∗ owns (c : Thread nD τ) mL fullShare l ∗ owns (c : Thread nD τ) mBV fullShare bv
      ∗ owns (c : Thread nD τ) mBI fullShare bi) ∗ ∃ r, prngReg c r)

/-- What the body may leave in each staging buffer. -/
def leftAs (c : Dev nD) : (w : Fin cfg0.W) → (t : Fin cfg0.N) → (Y X : (cfg0.win w).block.Idx → Elt F (cfg0.win w).elt) → Prop
  | 0 => fun _ Y X => X = Y
  | 1 => fun _ Y X => X = Y
  | 2 => fun _ Y X => X = Y
  | 3 => fun _ Y X => X = Y
  | 4 => fun t _ X => 31 ≤ t.val → (T c).P4 t X
  | 5 => fun t _ X => 31 ≤ t.val → (T c).P5 t X
  | ⟨_ + 6, h⟩ => absurd h (Nat.not_lt.2 (Nat.le_add_left _ _))

/-- The proof data on core `c`. -/
def rdat (c : Dev nD) : RDat τ (Elt F) Unit ℕ (UR sig nD τ) ℕ cfg0 c where
  A w := V m c (Pipeline.arrRef spec0 w)
  after := leftAs T c
  Φ n := tracked T c n.val
  q _ := fullShare
  owed _ := 0

theorem fetched_in (c : Dev nD) (w : Fin cfg0.W) (hw : (cfg0.win w).isOut = false) (hk : ∀ t Y X, leftAs T c w t Y X → X = Y)
    (hclip : ∀ t t' : Fin cfg0.N, (cfg0.win w).index t = (cfg0.win w).index t' →
      (cfg0.win w).clip (cfg0.grid.coords t) = (cfg0.win w).clip (cfg0.grid.coords t'))
    (t : Fin cfg0.N) (Y) (hY : (rdat T c).Finds w t Y) : Fetched m c w t Y :=
  (rdat T c).finds_in_eq_fetched w hw hclip hk t Y hY

/-- A point of the grid: the run of its kind, the invariant carried over. -/
theorem point (c : Dev nD) (t : Fin cfg0.N) (x1 : S8x64.Idx → Elt F .f32) (x2 : S64x32768.Idx → Elt F .f32) (x3 : S1x32768.Idx → Elt F .f32)
    (x4 x5 x6 : S8x32768.Idx → Elt F .f32) (h1 : Fetched m c 0 t x1) (h2 : Fetched m c 1 t x2) (h3 : Fetched m c 2 t x3) (h4 : Fetched m c 3 t x4) :
    iprop(tracked T c t.val ∗ (rdat T c).owesAt () t.castSucc
        ∗ owns (c : Thread nD τ) (st0_0 t) fullShare x1 ∗ owns (c : Thread nD τ) (st0_1 t) fullShare x2 ∗ owns (c : Thread nD τ) (st0_2 t) fullShare x3
        ∗ owns (c : Thread nD τ) (st0_3 t) fullShare x4 ∗ owns (c : Thread nD τ) (st0_4 t) fullShare x5 ∗ owns (c : Thread nD τ) (st0_5 t) fullShare x6)
      ⊢ wp frame (wpE (defs₀ (F := F)) Variants.none c none) Set.univ (bodyAt0 t) (fun _ =>
          iprop(tracked T c (t.val + 1) ∗ (rdat T c).owesAt () t.castSucc
            ∗ (∃ X, ⌜leftAs T c 0 t x1 X⌝ ∗ owns (c : Thread nD τ) (st0_0 t) fullShare X)
            ∗ (∃ X, ⌜leftAs T c 1 t x2 X⌝ ∗ owns (c : Thread nD τ) (st0_1 t) fullShare X)
            ∗ (∃ X, ⌜leftAs T c 2 t x3 X⌝ ∗ owns (c : Thread nD τ) (st0_2 t) fullShare X)
            ∗ (∃ X, ⌜leftAs T c 3 t x4 X⌝ ∗ owns (c : Thread nD τ) (st0_3 t) fullShare X)
            ∗ (∃ X, ⌜leftAs T c 4 t x5 X⌝ ∗ owns (c : Thread nD τ) (st0_4 t) fullShare X)
            ∗ (∃ X, ⌜leftAs T c 5 t x6 X⌝ ∗ owns (c : Thread nD τ) (st0_5 t) fullShare X))) := by
  unfold bodyAt0 RDat.owesAt Pipeline.owesWithin
  have hc := coord_val t
  rw [show (rdat T c).owed t.castSucc = 0 from rfl]
  unfold tracked
  iintro ⟨⟨⟨%a, %m', %s, %l, %bv, %bi, %hI, HA, HM, HS, HL, HV, HJ⟩, Hg⟩, ⟨%W, %hW, HO⟩, H1, H2, H3, H4, H5, H6⟩
  rcases (by omega : t.val = 0 ∨ (0 < t.val ∧ t.val < 30) ∨ t.val = 30 ∨ 31 ≤ t.val) with h0 | h0 | h0 | h0
  · iapply (run_first c (grid0.coords t) _ _ _ _ _ _ _ _ _ _ _ _ x1 x2 x3 x4 x5 x6 a m' s l bv bi ((cond1_iff _).2 (by omega)) ((gFirst_iff _).2 (by omega)) (fun h => absurd ((gLater_iff _).1 h) (by omega)) (fun h => absurd ((gLast_iff _).1 h) (by omega)) (fun h => absurd ((cond5_iff _).1 h) (by omega)) W _)
    unfold held
    isplitl [HA HM HS HL HV HJ H1 H2 H3 H4 H5 H6]
    · isplitl [H1]; · iexact H1
      isplitl [H2]; · iexact H2
      isplitl [H3]; · iexact H3
      isplitl [H4]; · iexact H4
      isplitl [H5]; · iexact H5
      isplitl [H6]; · iexact H6
      isplitl [HA]; · iexact HA
      isplitl [HM]; · iexact HM
      isplitl [HS]; · iexact HS
      isplitl [HL]; · iexact HL
      isplitl [HV]; · iexact HV
      iexact HJ
    isplitl [HO]; · iexact HO
    iintro ⟨⟨H1, H2, H3, H4, H5, H6, HA, HM, HS, HL, HV, HJ⟩, HO⟩
    isplitl [HA HM HS HL HV HJ Hg]
    · isplitr [Hg]; swap; · iexact Hg
      iexists _, _, _, _, _, _
      isplitr; · ipureintro; exact (T c).first t x1 x2 x3 x4 a m' s l bv bi h0 h1 h2 h3 h4 hI
      isplitl [HA]; · iexact HA
      isplitl [HM]; · iexact HM
      isplitl [HS]; · iexact HS
      isplitl [HL]; · iexact HL
      isplitl [HV]; · iexact HV
      iexact HJ
    isplitl [HO]
    · iexists W; isplitr; · ipureintro; exact hW
      iexact HO
    isplitl [H1]; · iexists _; isplitr; swap; · iexact H1
                    ipureintro; rfl
    isplitl [H2]; · iexists _; isplitr; swap; · iexact H2
                    ipureintro; rfl
    isplitl [H3]; · iexists _; isplitr; swap; · iexact H3
                    ipureintro; rfl
    isplitl [H4]; · iexists _; isplitr; swap; · iexact H4
                    ipureintro; rfl
    isplitl [H5]; · iexists _; isplitr; swap; · iexact H5
                    ipureintro; exact fun h => absurd h (by omega)
    iexists _; isplitr; swap; · iexact H6
    ipureintro; exact fun h => absurd h (by omega)
  · iapply (run_later c (grid0.coords t) _ _ _ _ _ _ _ _ _ _ _ _ x1 x2 x3 x4 x5 x6 a m' s l bv bi ((cond1_iff _).2 (by omega)) (fun h => absurd ((gFirst_iff _).1 h) (by omega)) ((gLater_iff _).2 (by omega)) (fun h => absurd ((gLast_iff _).1 h) (by omega)) (fun h => absurd ((cond5_iff _).1 h) (by omega)) W _)
    unfold held
    isplitl [HA HM HS HL HV HJ H1 H2 H3 H4 H5 H6]
    · isplitl [H1]; · iexact H1
      isplitl [H2]; · iexact H2
      isplitl [H3]; · iexact H3
      isplitl [H4]; · iexact H4
      isplitl [H5]; · iexact H5
      isplitl [H6]; · iexact H6
      isplitl [HA]; · iexact HA
      isplitl [HM]; · iexact HM
      isplitl [HS]; · iexact HS
      isplitl [HL]; · iexact HL
      isplitl [HV]; · iexact HV
      iexact HJ
    isplitl [HO]; · iexact HO
    iintro ⟨⟨H1, H2, H3, H4, H5, H6, HA, HM, HS, HL, HV, HJ⟩, HO⟩
    isplitl [HA HM HS HL HV HJ Hg]
    · isplitr [Hg]; swap; · iexact Hg
      iexists _, _, _, _, _, _
      isplitr; · ipureintro; exact (T c).later t x1 x2 x3 x4 a m' s l bv bi h0.1 h0.2 h1 h2 h3 h4 hI
      isplitl [HA]; · iexact HA
      isplitl [HM]; · iexact HM
      isplitl [HS]; · iexact HS
      isplitl [HL]; · iexact HL
      isplitl [HV]; · iexact HV
      iexact HJ
    isplitl [HO]
    · iexists W; isplitr; · ipureintro; exact hW
      iexact HO
    isplitl [H1]; · iexists _; isplitr; swap; · iexact H1
                    ipureintro; rfl
    isplitl [H2]; · iexists _; isplitr; swap; · iexact H2
                    ipureintro; rfl
    isplitl [H3]; · iexists _; isplitr; swap; · iexact H3
                    ipureintro; rfl
    isplitl [H4]; · iexists _; isplitr; swap; · iexact H4
                    ipureintro; rfl
    isplitl [H5]; · iexists _; isplitr; swap; · iexact H5
                    ipureintro; exact fun h => absurd h (by omega)
    iexists _; isplitr; swap; · iexact H6
    ipureintro; exact fun h => absurd h (by omega)
  · iapply (run_last c (grid0.coords t) _ _ _ _ _ _ _ _ _ _ _ _ x1 x2 x3 x4 x5 x6 a m' s l bv bi ((cond1_iff _).2 (by omega)) (fun h => absurd ((gFirst_iff _).1 h) (by omega)) ((gLater_iff _).2 (by omega)) ((gLast_iff _).2 (by omega)) (fun h => absurd ((cond5_iff _).1 h) (by omega)) W _)
    unfold held
    isplitl [HA HM HS HL HV HJ H1 H2 H3 H4 H5 H6]
    · isplitl [H1]; · iexact H1
      isplitl [H2]; · iexact H2
      isplitl [H3]; · iexact H3
      isplitl [H4]; · iexact H4
      isplitl [H5]; · iexact H5
      isplitl [H6]; · iexact H6
      isplitl [HA]; · iexact HA
      isplitl [HM]; · iexact HM
      isplitl [HS]; · iexact HS
      isplitl [HL]; · iexact HL
      isplitl [HV]; · iexact HV
      iexact HJ
    isplitl [HO]; · iexact HO
    iintro ⟨⟨H1, H2, H3, H4, H5, H6, HA, HM, HS, HL, HV, HJ⟩, HO⟩
    isplitl [HA HM HS HL HV HJ Hg]
    · isplitr [Hg]; swap; · iexact Hg
      iexists _, _, _, _, _, _
      isplitr; · ipureintro; exact (T c).last t x1 x2 x3 x4 a m' s l bv bi h0 h1 h2 h3 h4 hI
      isplitl [HA]; · iexact HA
      isplitl [HM]; · iexact HM
      isplitl [HS]; · iexact HS
      isplitl [HL]; · iexact HL
      isplitl [HV]; · iexact HV
      iexact HJ
    isplitl [HO]
    · iexists W; isplitr; · ipureintro; exact hW
      iexact HO
    isplitl [H1]; · iexists _; isplitr; swap; · iexact H1
                    ipureintro; rfl
    isplitl [H2]; · iexists _; isplitr; swap; · iexact H2
                    ipureintro; rfl
    isplitl [H3]; · iexists _; isplitr; swap; · iexact H3
                    ipureintro; rfl
    isplitl [H4]; · iexists _; isplitr; swap; · iexact H4
                    ipureintro; rfl
    isplitl [H5]; · iexists _; isplitr; swap; · iexact H5
                    ipureintro; exact fun h => absurd h (by omega)
    iexists _; isplitr; swap; · iexact H6
    ipureintro; exact fun h => absurd h (by omega)
  · iapply (run_write c (grid0.coords t) _ _ _ _ _ _ _ _ _ _ _ _ x1 x2 x3 x4 x5 x6 a m' s l bv bi (fun h => absurd ((cond1_iff _).1 h) (by omega)) ((cond5_iff _).2 (by omega)) W _)
    unfold held
    isplitl [HA HM HS HL HV HJ H1 H2 H3 H4 H5 H6]
    · isplitl [H1]; · iexact H1
      isplitl [H2]; · iexact H2
      isplitl [H3]; · iexact H3
      isplitl [H4]; · iexact H4
      isplitl [H5]; · iexact H5
      isplitl [H6]; · iexact H6
      isplitl [HA]; · iexact HA
      isplitl [HM]; · iexact HM
      isplitl [HS]; · iexact HS
      isplitl [HL]; · iexact HL
      isplitl [HV]; · iexact HV
      iexact HJ
    isplitl [HO]; · iexact HO
    iintro ⟨⟨H1, H2, H3, H4, H5, H6, HA, HM, HS, HL, HV, HJ⟩, HO⟩
    isplitl [HA HM HS HL HV HJ Hg]
    · isplitr [Hg]; swap; · iexact Hg
      iexists _, _, _, _, _, _
      isplitr; · ipureintro; exact ((T c).write t a m' s l bv bi ((cond5_iff _).2 (by omega)) h0 hI).2.2
      isplitl [HA]; · iexact HA
      isplitl [HM]; · iexact HM
      isplitl [HS]; · iexact HS
      isplitl [HL]; · iexact HL
      isplitl [HV]; · iexact HV
      iexact HJ
    isplitl [HO]
    · iexists W; isplitr; · ipureintro; exact hW
      iexact HO
    isplitl [H1]; · iexists _; isplitr; swap; · iexact H1
                    ipureintro; rfl
    isplitl [H2]; · iexists _; isplitr; swap; · iexact H2
                    ipureintro; rfl
    isplitl [H3]; · iexists _; isplitr; swap; · iexact H3
                    ipureintro; rfl
    isplitl [H4]; · iexists _; isplitr; swap; · iexact H4
                    ipureintro; rfl
    isplitl [H5]; · iexists _; isplitr; swap; · iexact H5
                    ipureintro; exact fun _ => ((T c).write t a m' s l bv bi ((cond5_iff _).2 (by omega)) h0 hI).1
    iexists _; isplitr; swap; · iexact H6
    ipureintro; exact fun _ => ((T c).write t a m' s l bv bi ((cond5_iff _).2 (by omega)) h0 hI).2.1
/-- The body obligation, window by window. -/
theorem obligation (c : Dev nD) : (rdat T c).BodyObligation (defs₀ (F := F)) Variants.none () Set.univ := fun t Y hY => by
  rw [bigSep_W0, bigSep_W0]
  refine triple_restated (point T c t (Y 0) (Y 1) (Y 2) (Y 3) (Y 4) (Y 5)
    (fetched_in T c 0 rfl (fun _ _ _ h => h) (fun _ _ _ => rfl) t _ (hY 0))
    (fetched_in T c 1 rfl (fun _ _ _ h => h) (by decide +kernel) t _ (hY 1))
    (fetched_in T c 2 rfl (fun _ _ _ h => h) (by decide +kernel) t _ (hY 2))
    (fetched_in T c 3 rfl (fun _ _ _ h => h) (by decide +kernel) t _ (hY 3))) ?_ .rfl (fun _ => .rfl)
  unfold defs₀; rw [Defs.onTc_tc]

theorem tracked_in (c : Dev nD) : (Pipeline.ΦA (U := UR sig nD τ) (Val := Elt F) spec0 c : sProp 𝕄) ⊢ tracked T c 0 := by
  unfold Pipeline.ΦA tracked; rw [scopedRest0_eq]
  simp only [mA, mM, mS, mL, mBV, mBI, owns_whole]
  iintro ⟨⟨⟨%a, HA⟩, ⟨%m', HM⟩, ⟨%s, HS⟩, ⟨%l, HL⟩, ⟨%bv, HV⟩, ⟨%bi, HI⟩⟩, Hg⟩
  isplitr [Hg]; swap; · iexact Hg
  iexists a, m', s, l, bv, bi
  isplitr; · ipureintro; exact (T c).init _ _ _ _ _ _
  isplitl [HA]; · iexact HA
  isplitl [HM]; · iexact HM
  isplitl [HS]; · iexact HS
  isplitl [HL]; · iexact HL
  isplitl [HV]; · iexact HV
  iexact HI

theorem tracked_out (c : Dev nD) (n : ℕ) : tracked T c n ⊢ (Pipeline.ΦA (U := UR sig nD τ) (Val := Elt F) spec0 c : sProp 𝕄) := by
  unfold Pipeline.ΦA tracked; rw [scopedRest0_eq]
  simp only [mA, mM, mS, mL, mBV, mBI, owns_whole]
  iintro ⟨⟨%a, %m', %s, %l, %bv, %bi, -, HA, HM, HS, HL, HV, HI⟩, Hg⟩
  isplitr [Hg]; swap; · iexact Hg
  isplitl [HA]; · iexists _; iexact HA
  isplitl [HM]; · iexists _; iexact HM
  isplitl [HS]; · iexists _; iexact HS
  isplitl [HL]; · iexists _; iexact HL
  isplitl [HV]; · iexists _; iexact HV
  iexists _; iexact HI

-- the run's implicit arguments are found by unifying its conclusion with this statement, which unifies only when
-- unification may unfold plain definitions in a metavariable's type
set_option backward.isDefEq.respectTransparency.types false in
/-- The run: it ends, the arrays as the proof data say, every semaphore counter at zero. -/
theorem run_main :
    θ_run defs (onTc (τ := τ) (main (F := F))) (s₀ m ρ)
      (fun r => RDat.FramePost (cfgs 0) (fun c => rdat T c) (V m) r ∧ r.2.sem = fun _ => 0) :=
  Pipeline.RDat.θ_run_frame_track (Q' := _) cfgs (0 : Fin 1) launch0 defs₀ Variants.none (fun c => rdat T c) m ρ main
    (hbody := fun c => obligation T c) (hshare := fun c w => by unfold RDat.share; split <;> rfl)
    (howed := fun _ _ => rfl) (V := V m) (hmain := hmain m Variants.none) (hA := fun _ _ => rfl)
    (hin := fun c => tracked_in T c) (hout := fun c => tracked_out T c _)

/-- The three arguments end as they began. -/
theorem args_kept {r : PUnit × MemSt nD τ sig (Elt F)} (h : RDat.FramePost (cfgs 0) (fun c => rdat T c) (V m) r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  ⟨(h.arr_in c 0 rfl).trans (V_main_arg0 m c),
   ((h c).2 main_arg1 (Pipeline.mem_restRefs_of main_arg1 (by decide) (by decide))).trans (V_main_arg1 m c),
   ((h c).2 main_arg2 (Pipeline.mem_restRefs_of main_arg2 (by decide) (by decide))).trans (V_main_arg2 m c)⟩

variable (m)

/-- Nothing tracked: what the frame needs. -/
def noTrack (c : Dev nD) : Track m c where
  Inv _ _ _ _ _ _ _ := True
  P4 _ _ := True
  P5 _ _ := True
  init _ _ _ _ _ _ := trivial
  first _ _ _ _ _ _ _ _ _ _ _ _ _ _ _ _ _ := trivial
  later _ _ _ _ _ _ _ _ _ _ _ _ _ _ _ _ _ _ := trivial
  last _ _ _ _ _ _ _ _ _ _ _ _ _ _ _ _ _ := trivial
  write _ _ _ _ _ _ _ _ _ _ := ⟨trivial, trivial, trivial⟩

/-- The frame: every run ends, the arguments unchanged, every semaphore counter at zero. -/
theorem frame_main : θ_run defs (onTc (τ := τ) (main (F := F))) (s₀ m ρ) (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0) :=
  (θ_run defs _ _).mono (fun r (h : _ ∧ _) => ⟨args_kept (noTrack m) h.1, h.2⟩) (run_main ρ (noTrack m))

end Cert.KernelIdeal.Hand

end
-- ==== Proof.RefOps.lean ====
/-
  The reference as a list of host operations: every function it calls written out over the buffers of that call, in the
  order in which they run.  From it, the run of the reference from any memory: it ends, leaves its three arguments as
  they were, and leaves every buffer at the operations' results folded over the starting contents.
-/
module

public import proofs.«01_k».proof.Proof.Gen.ReferenceIdeal
public import Idealize.ShloMosaic.Lib.StableHlo.Run

@[expose] public section

noncomputable section

namespace Cert.ReferenceIdeal.Hand

open Cert.ReferenceIdeal Cert.ReferenceIdeal.Gen
open Idealize.ShloMosaic Idealize.ShloMosaic.TcCoe Idealize.SL.Sem

variable {F : FTy → Type} [FloatOps F]

set_option maxRecDepth 100000 in
set_option maxHeartbeats 4000000 in
/-- Operations for the logits. -/
abbrev opsPre : List (HloOp τ sig (Elt F)) :=
  ( StableHlo.unary main_arg1 main_v0 ((transpose S64x1000000 [1, 0] · transposes_S1000000x64_S64x1000000_1_0) : (⟨S1000000x64, .f32⟩ : BufTy).Contents (Elt F) → (⟨S64x1000000, .f32⟩ : BufTy).Contents (Elt F))
  :: StableHlo.binary main_arg0 main_v0 main_v1 ((fun l r => Host.dotGeneral dot_S8x64_S64x1000000_S8x1000000_1_0_0_1_n_n none l r) : (⟨S8x64, .f32⟩ : BufTy).Contents (Elt F) → (⟨S64x1000000, .f32⟩ : BufTy).Contents (Elt F) → (⟨S8x1000000, .f32⟩ : BufTy).Contents (Elt F))
  :: StableHlo.unary main_arg2 main_v2 ((broadcastInDim S1x1000000 ![1] bcast_S1000000_S1x1000000_1) : (⟨S1000000, .f32⟩ : BufTy).Contents (Elt F) → (⟨S1x1000000, .f32⟩ : BufTy).Contents (Elt F))
  :: StableHlo.unary main_v2 main_v3 ((broadcastInDim S8x1000000 ![0, 1] bcast_S1x1000000_S8x1000000_0_1) : (⟨S1x1000000, .f32⟩ : BufTy).Contents (Elt F) → (⟨S8x1000000, .f32⟩ : BufTy).Contents (Elt F))
  :: StableHlo.binary main_v1 main_v3 main_v4 (addf : (⟨S8x1000000, .f32⟩ : BufTy).Contents (Elt F) → (⟨S8x1000000, .f32⟩ : BufTy).Contents (Elt F) → (⟨S8x1000000, .f32⟩ : BufTy).Contents (Elt F))
  :: [] )

set_option maxRecDepth 100000 in
set_option maxHeartbeats 4000000 in
/-- Operations for the softmax. -/
abbrev opsSoftmax : List (HloOp τ sig (Elt F)) :=
  ( StableHlo.nullary main_call0_cst (constant S_ .f32 0xFF800000#32)
  :: StableHlo.TRef.binary (.of main_v4 : StableHlo.TRef sig ⟨S8x1000000, .f32⟩) (.of main_call0_cst : StableHlo.TRef sig ⟨S_, .f32⟩) (.of main_call0_v0 : StableHlo.TRef sig ⟨S8, .f32⟩) (fun x v => Host.reduce FloatOps.maximumf x v reducesTo_S8x1000000_S8_d1 h_S_)
  :: StableHlo.nullary main_call0_cst_0 (constant S_ .f32 0xFF800000#32)
  :: StableHlo.unary main_call0_cst_0 main_call0_v1 ((broadcastInDim S8 ![] bcast_S_S8) : (⟨S_, .f32⟩ : BufTy).Contents (Elt F) → (⟨S8, .f32⟩ : BufTy).Contents (Elt F))
  :: StableHlo.binary main_call0_v1 main_call0_v0 main_call0_v2 (maximumf : (⟨S8, .f32⟩ : BufTy).Contents (Elt F) → (⟨S8, .f32⟩ : BufTy).Contents (Elt F) → (⟨S8, .f32⟩ : BufTy).Contents (Elt F))
  :: StableHlo.unary main_call0_v2 main_call0_v3 ((broadcastInDim S8x1 ![0] bcast_S8_S8x1_0) : (⟨S8, .f32⟩ : BufTy).Contents (Elt F) → (⟨S8x1, .f32⟩ : BufTy).Contents (Elt F))
  :: StableHlo.unary main_call0_v3 main_call0_v4 ((broadcastInDim S8x1000000 ![0, 1] bcast_S8x1_S8x1000000_0_1) : (⟨S8x1, .f32⟩ : BufTy).Contents (Elt F) → (⟨S8x1000000, .f32⟩ : BufTy).Contents (Elt F))
  :: StableHlo.binary main_v4 main_call0_v4 main_call0_v5 (subf : (⟨S8x1000000, .f32⟩ : BufTy).Contents (Elt F) → (⟨S8x1000000, .f32⟩ : BufTy).Contents (Elt F) → (⟨S8x1000000, .f32⟩ : BufTy).Contents (Elt F))
  :: StableHlo.unary main_call0_v5 main_call0_v6 (Host.exp : (⟨S8x1000000, .f32⟩ : BufTy).Contents (Elt F) → (⟨S8x1000000, .f32⟩ : BufTy).Contents (Elt F))
  :: StableHlo.nullary main_call0_cst_1 (constant S_ .f32 0x00000000#32)
  :: StableHlo.TRef.binary (.of main_call0_v6 : StableHlo.TRef sig ⟨S8x1000000, .f32⟩) (.of main_call0_cst_1 : StableHlo.TRef sig ⟨S_, .f32⟩) (.of main_call0_v7 : StableHlo.TRef sig ⟨S8, .f32⟩) (fun x v => Host.reduceAdd x v reducesTo_S8x1000000_S8_d1 h_S_)
  :: StableHlo.unary main_call0_v7 main_call0_v8 ((broadcastInDim S8x1 ![0] bcast_S8_S8x1_0) : (⟨S8, .f32⟩ : BufTy).Contents (Elt F) → (⟨S8x1, .f32⟩ : BufTy).Contents (Elt F))
  :: StableHlo.unary main_call0_v8 main_call0_v9 (Host.log : (⟨S8x1, .f32⟩ : BufTy).Contents (Elt F) → (⟨S8x1, .f32⟩ : BufTy).Contents (Elt F))
  :: StableHlo.unary main_call0_v9 main_call0_v10 ((broadcastInDim S8x1000000 ![0, 1] bcast_S8x1_S8x1000000_0_1) : (⟨S8x1, .f32⟩ : BufTy).Contents (Elt F) → (⟨S8x1000000, .f32⟩ : BufTy).Contents (Elt F))
  :: StableHlo.binary main_call0_v5 main_call0_v10 main_v5 (subf : (⟨S8x1000000, .f32⟩ : BufTy).Contents (Elt F) → (⟨S8x1000000, .f32⟩ : BufTy).Contents (Elt F) → (⟨S8x1000000, .f32⟩ : BufTy).Contents (Elt F))
  :: [] )

set_option maxRecDepth 100000 in
set_option maxHeartbeats 4000000 in
/-- Operations for the key. -/
abbrev opsKey : List (HloOp τ sig (Elt F)) :=
  ( StableHlo.nullary main_c (constantI S_ 32 42#32)
  :: StableHlo.nullary main_c_0 (constantI S_ 32 32#32)
  :: StableHlo.binary main_c main_c_0 main_v6 (Host.shrui : (⟨S_, .i32⟩ : BufTy).Contents (Elt F) → (⟨S_, .i32⟩ : BufTy).Contents (Elt F) → (⟨S_, .i32⟩ : BufTy).Contents (Elt F))
  :: StableHlo.unary main_v6 main_v7 (id : (⟨S_, .i32⟩ : BufTy).Contents (Elt F) → (⟨S_, .i32⟩ : BufTy).Contents (Elt F))
  :: StableHlo.unary main_v7 main_v8 ((broadcastInDim S1 ![] bcast_S_S1) : (⟨S_, .i32⟩ : BufTy).Contents (Elt F) → (⟨S1, .i32⟩ : BufTy).Contents (Elt F))
  :: StableHlo.nullary main_c_1 (constantI S_ 32 4294967295#32)
  :: StableHlo.binary main_c main_c_1 main_v9 (andi : (⟨S_, .i32⟩ : BufTy).Contents (Elt F) → (⟨S_, .i32⟩ : BufTy).Contents (Elt F) → (⟨S_, .i32⟩ : BufTy).Contents (Elt F))
  :: StableHlo.unary main_v9 main_v10 (id : (⟨S_, .i32⟩ : BufTy).Contents (Elt F) → (⟨S_, .i32⟩ : BufTy).Contents (Elt F))
  :: StableHlo.unary main_v10 main_v11 ((broadcastInDim S1 ![] bcast_S_S1) : (⟨S_, .i32⟩ : BufTy).Contents (Elt F) → (⟨S1, .i32⟩ : BufTy).Contents (Elt F))
  :: StableHlo.binary main_v8 main_v11 main_v12 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F))
  :: [] )

set_option maxRecDepth 100000 in
set_option maxHeartbeats 4000000 in
/-- Operations for the first lines of the Gumbel draw. -/
abbrev opsGumbel0 : List (HloOp τ sig (Elt F)) :=
  ( StableHlo.nullary main_call1_cst (constant S_ .f32 0x3F800000#32)
  :: StableHlo.nullary main_call1_cst_0 (constant S_ .f32 0x00800000#32)
  :: [] )

set_option maxRecDepth 100000 in
set_option maxHeartbeats 4000000 in
/-- Operations for the counters of the uniform draw. -/
abbrev opsUniform0 : List (HloOp τ sig (Elt F)) :=
  ( StableHlo.unary main_call1_cst main_call1_call0_v0 (id : (⟨S_, .f32⟩ : BufTy).Contents (Elt F) → (⟨S_, .f32⟩ : BufTy).Contents (Elt F))
  :: StableHlo.unary main_call1_cst_0 main_call1_call0_v1 ((broadcastInDim S1x1 ![] bcast_S_S1x1) : (⟨S_, .f32⟩ : BufTy).Contents (Elt F) → (⟨S1x1, .f32⟩ : BufTy).Contents (Elt F))
  :: StableHlo.unary main_call1_call0_v0 main_call1_call0_v2 ((broadcastInDim S1x1 ![] bcast_S_S1x1) : (⟨S_, .f32⟩ : BufTy).Contents (Elt F) → (⟨S1x1, .f32⟩ : BufTy).Contents (Elt F))
  :: StableHlo.unary main_v12 main_call1_call0_v3 ((extractStridedSlice S1 ![0] · slices_S2_S1_0) : (⟨S2, .i32⟩ : BufTy).Contents (Elt F) → (⟨S1, .i32⟩ : BufTy).Contents (Elt F))
  :: StableHlo.reshape main_call1_call0_v3 main_call1_call0_v4 (rfl : (.i32 : EltTy) = .i32) shapeCasts_S1_S_
  :: StableHlo.unary main_v12 main_call1_call0_v5 ((extractStridedSlice S1 ![1] · slices_S2_S1_1) : (⟨S2, .i32⟩ : BufTy).Contents (Elt F) → (⟨S1, .i32⟩ : BufTy).Contents (Elt F))
  :: StableHlo.reshape main_call1_call0_v5 main_call1_call0_v6 (rfl : (.i32 : EltTy) = .i32) shapeCasts_S1_S_
  :: StableHlo.nullary main_call1_call0_v7 (iotaInDim S8x1000000 64 0)
  :: StableHlo.nullary main_call1_call0_v8 (iotaInDim S8x1000000 64 1)
  :: StableHlo.nullary main_call1_call0_c (constantI S_ 64 1000000#64)
  :: StableHlo.unary main_call1_call0_c main_call1_call0_v9 ((broadcastInDim S8x1000000 ![] bcast_S_S8x1000000) : (⟨S_, .i64⟩ : BufTy).Contents (Elt F) → (⟨S8x1000000, .i64⟩ : BufTy).Contents (Elt F))
  :: StableHlo.binary main_call1_call0_v9 main_call1_call0_v7 main_call1_call0_v10 (muli : (⟨S8x1000000, .i64⟩ : BufTy).Contents (Elt F) → (⟨S8x1000000, .i64⟩ : BufTy).Contents (Elt F) → (⟨S8x1000000, .i64⟩ : BufTy).Contents (Elt F))
  :: StableHlo.nullary main_call1_call0_c_0 (constantI S_ 64 1#64)
  :: StableHlo.unary main_call1_call0_c_0 main_call1_call0_v11 ((broadcastInDim S8x1000000 ![] bcast_S_S8x1000000) : (⟨S_, .i64⟩ : BufTy).Contents (Elt F) → (⟨S8x1000000, .i64⟩ : BufTy).Contents (Elt F))
  :: StableHlo.binary main_call1_call0_v11 main_call1_call0_v8 main_call1_call0_v12 (muli : (⟨S8x1000000, .i64⟩ : BufTy).Contents (Elt F) → (⟨S8x1000000, .i64⟩ : BufTy).Contents (Elt F) → (⟨S8x1000000, .i64⟩ : BufTy).Contents (Elt F))
  :: StableHlo.binary main_call1_call0_v10 main_call1_call0_v12 main_call1_call0_v13 (addi : (⟨S8x1000000, .i64⟩ : BufTy).Contents (Elt F) → (⟨S8x1000000, .i64⟩ : BufTy).Contents (Elt F) → (⟨S8x1000000, .i64⟩ : BufTy).Contents (Elt F))
  :: StableHlo.nullary main_call1_call0_c_1 (constantI S_ 64 32#64)
  :: StableHlo.unary main_call1_call0_c_1 main_call1_call0_v14 ((broadcastInDim S8x1000000 ![] bcast_S_S8x1000000) : (⟨S_, .i64⟩ : BufTy).Contents (Elt F) → (⟨S8x1000000, .i64⟩ : BufTy).Contents (Elt F))
  :: StableHlo.binary main_call1_call0_v13 main_call1_call0_v14 main_call1_call0_v15 (Host.shrui : (⟨S8x1000000, .i64⟩ : BufTy).Contents (Elt F) → (⟨S8x1000000, .i64⟩ : BufTy).Contents (Elt F) → (⟨S8x1000000, .i64⟩ : BufTy).Contents (Elt F))
  :: StableHlo.unary main_call1_call0_v13 main_call1_call0_v16 ((trunci 32 · natLt_32_64) : (⟨S8x1000000, .i64⟩ : BufTy).Contents (Elt F) → (⟨S8x1000000, .i32⟩ : BufTy).Contents (Elt F))
  :: StableHlo.unary main_call1_call0_v15 main_call1_call0_v17 ((trunci 32 · natLt_32_64) : (⟨S8x1000000, .i64⟩ : BufTy).Contents (Elt F) → (⟨S8x1000000, .i32⟩ : BufTy).Contents (Elt F))
  :: [] )

set_option maxRecDepth 100000 in
set_option maxHeartbeats 4000000 in
/-- Operations for the rounds, first part. -/
abbrev opsRounds0 : List (HloOp τ sig (Elt F)) :=
  ( StableHlo.binary main_call1_call0_v4 main_call1_call0_v6 main_call1_call0_call0_v0 (xori : (⟨S_, .i32⟩ : BufTy).Contents (Elt F) → (⟨S_, .i32⟩ : BufTy).Contents (Elt F) → (⟨S_, .i32⟩ : BufTy).Contents (Elt F))
  :: StableHlo.nullary main_call1_call0_call0_c (constantI S_ 32 466688986#32)
  :: StableHlo.binary main_call1_call0_call0_v0 main_call1_call0_call0_c main_call1_call0_call0_v1 (xori : (⟨S_, .i32⟩ : BufTy).Contents (Elt F) → (⟨S_, .i32⟩ : BufTy).Contents (Elt F) → (⟨S_, .i32⟩ : BufTy).Contents (Elt F))
  :: StableHlo.unary main_call1_call0_v4 main_call1_call0_call0_v2 ((broadcastInDim S8x1000000 ![] bcast_S_S8x1000000) : (⟨S_, .i32⟩ : BufTy).Contents (Elt F) → (⟨S8x1000000, .i32⟩ : BufTy).Contents (Elt F))
  :: StableHlo.binary main_call1_call0_v17 main_call1_call0_call0_v2 main_call1_call0_call0_v3 (addi : (⟨S8x1000000, .i32⟩ : BufTy).Contents (Elt F) → (⟨S8x1000000, .i32⟩ : BufTy).Contents (Elt F) → (⟨S8x1000000, .i32⟩ : BufTy).Contents (Elt F))
  :: StableHlo.unary main_call1_call0_v6 main_call1_call0_call0_v4 ((broadcastInDim S8x1000000 ![] bcast_S_S8x1000000) : (⟨S_, .i32⟩ : BufTy).Contents (Elt F) → (⟨S8x1000000, .i32⟩ : BufTy).Contents (Elt F))
  :: StableHlo.binary main_call1_call0_v16 main_call1_call0_call0_v4 main_call1_call0_call0_v5 (addi : (⟨S8x1000000, .i32⟩ : BufTy).Contents (Elt F) → (⟨S8x1000000, .i32⟩ : BufTy).Contents (Elt F) → (⟨S8x1000000, .i32⟩ : BufTy).Contents (Elt F))
  :: StableHlo.binary main_call1_call0_call0_v3 main_call1_call0_call0_v5 main_call1_call0_call0_v6 (addi : (⟨S8x1000000, .i32⟩ : BufTy).Contents (Elt F) → (⟨S8x1000000, .i32⟩ : BufTy).Contents (Elt F) → (⟨S8x1000000, .i32⟩ : BufTy).Contents (Elt F))
  :: StableHlo.nullary main_call1_call0_call0_c_0 (constantI S_ 32 13#32)
  :: StableHlo.unary main_call1_call0_call0_c_0 main_call1_call0_call0_v7 ((broadcastInDim S8x1000000 ![] bcast_S_S8x1000000) : (⟨S_, .i32⟩ : BufTy).Contents (Elt F) → (⟨S8x1000000, .i32⟩ : BufTy).Contents (Elt F))
  :: StableHlo.binary main_call1_call0_call0_v5 main_call1_call0_call0_v7 main_call1_call0_call0_v8 (Host.shli : (⟨S8x1000000, .i32⟩ : BufTy).Contents (Elt F) → (⟨S8x1000000, .i32⟩ : BufTy).Contents (Elt F) → (⟨S8x1000000, .i32⟩ : BufTy).Contents (Elt F))
  :: StableHlo.nullary main_call1_call0_call0_c_1 (constantI S_ 32 19#32)
  :: StableHlo.unary main_call1_call0_call0_c_1 main_call1_call0_call0_v9 ((broadcastInDim S8x1000000 ![] bcast_S_S8x1000000) : (⟨S_, .i32⟩ : BufTy).Contents (Elt F) → (⟨S8x1000000, .i32⟩ : BufTy).Contents (Elt F))
  :: StableHlo.binary main_call1_call0_call0_v5 main_call1_call0_call0_v9 main_call1_call0_call0_v10 (Host.shrui : (⟨S8x1000000, .i32⟩ : BufTy).Contents (Elt F) → (⟨S8x1000000, .i32⟩ : BufTy).Contents (Elt F) → (⟨S8x1000000, .i32⟩ : BufTy).Contents (Elt F))
  :: StableHlo.binary main_call1_call0_call0_v8 main_call1_call0_call0_v10 main_call1_call0_call0_v11 (ori : (⟨S8x1000000, .i32⟩ : BufTy).Contents (Elt F) → (⟨S8x1000000, .i32⟩ : BufTy).Contents (Elt F) → (⟨S8x1000000, .i32⟩ : BufTy).Contents (Elt F))
  :: StableHlo.binary main_call1_call0_call0_v6 main_call1_call0_call0_v11 main_call1_call0_call0_v12 (xori : (⟨S8x1000000, .i32⟩ : BufTy).Contents (Elt F) → (⟨S8x1000000, .i32⟩ : BufTy).Contents (Elt F) → (⟨S8x1000000, .i32⟩ : BufTy).Contents (Elt F))
  :: StableHlo.binary main_call1_call0_call0_v6 main_call1_call0_call0_v12 main_call1_call0_call0_v13 (addi : (⟨S8x1000000, .i32⟩ : BufTy).Contents (Elt F) → (⟨S8x1000000, .i32⟩ : BufTy).Contents (Elt F) → (⟨S8x1000000, .i32⟩ : BufTy).Contents (Elt F))
  :: StableHlo.nullary main_call1_call0_call0_c_2 (constantI S_ 32 15#32)
  :: StableHlo.unary main_call1_call0_call0_c_2 main_call1_call0_call0_v14 ((broadcastInDim S8x1000000 ![] bcast_S_S8x1000000) : (⟨S_, .i32⟩ : BufTy).Contents (Elt F) → (⟨S8x1000000, .i32⟩ : BufTy).Contents (Elt F))
  :: StableHlo.binary main_call1_call0_call0_v12 main_call1_call0_call0_v14 main_call1_call0_call0_v15 (Host.shli : (⟨S8x1000000, .i32⟩ : BufTy).Contents (Elt F) → (⟨S8x1000000, .i32⟩ : BufTy).Contents (Elt F) → (⟨S8x1000000, .i32⟩ : BufTy).Contents (Elt F))
  :: StableHlo.nullary main_call1_call0_call0_c_3 (constantI S_ 32 17#32)
  :: StableHlo.unary main_call1_call0_call0_c_3 main_call1_call0_call0_v16 ((broadcastInDim S8x1000000 ![] bcast_S_S8x1000000) : (⟨S_, .i32⟩ : BufTy).Contents (Elt F) → (⟨S8x1000000, .i32⟩ : BufTy).Contents (Elt F))
  :: StableHlo.binary main_call1_call0_call0_v12 main_call1_call0_call0_v16 main_call1_call0_call0_v17 (Host.shrui : (⟨S8x1000000, .i32⟩ : BufTy).Contents (Elt F) → (⟨S8x1000000, .i32⟩ : BufTy).Contents (Elt F) → (⟨S8x1000000, .i32⟩ : BufTy).Contents (Elt F))
  :: StableHlo.binary main_call1_call0_call0_v15 main_call1_call0_call0_v17 main_call1_call0_call0_v18 (ori : (⟨S8x1000000, .i32⟩ : BufTy).Contents (Elt F) → (⟨S8x1000000, .i32⟩ : BufTy).Contents (Elt F) → (⟨S8x1000000, .i32⟩ : BufTy).Contents (Elt F))
  :: StableHlo.binary main_call1_call0_call0_v13 main_call1_call0_call0_v18 main_call1_call0_call0_v19 (xori : (⟨S8x1000000, .i32⟩ : BufTy).Contents (Elt F) → (⟨S8x1000000, .i32⟩ : BufTy).Contents (Elt F) → (⟨S8x1000000, .i32⟩ : BufTy).Contents (Elt F))
  :: StableHlo.binary main_call1_call0_call0_v13 main_call1_call0_call0_v19 main_call1_call0_call0_v20 (addi : (⟨S8x1000000, .i32⟩ : BufTy).Contents (Elt F) → (⟨S8x1000000, .i32⟩ : BufTy).Contents (Elt F) → (⟨S8x1000000, .i32⟩ : BufTy).Contents (Elt F))
  :: StableHlo.nullary main_call1_call0_call0_c_4 (constantI S_ 32 26#32)
  :: StableHlo.unary main_call1_call0_call0_c_4 main_call1_call0_call0_v21 ((broadcastInDim S8x1000000 ![] bcast_S_S8x1000000) : (⟨S_, .i32⟩ : BufTy).Contents (Elt F) → (⟨S8x1000000, .i32⟩ : BufTy).Contents (Elt F))
  :: StableHlo.binary main_call1_call0_call0_v19 main_call1_call0_call0_v21 main_call1_call0_call0_v22 (Host.shli : (⟨S8x1000000, .i32⟩ : BufTy).Contents (Elt F) → (⟨S8x1000000, .i32⟩ : BufTy).Contents (Elt F) → (⟨S8x1000000, .i32⟩ : BufTy).Contents (Elt F))
  :: StableHlo.nullary main_call1_call0_call0_c_5 (constantI S_ 32 6#32)
  :: StableHlo.unary main_call1_call0_call0_c_5 main_call1_call0_call0_v23 ((broadcastInDim S8x1000000 ![] bcast_S_S8x1000000) : (⟨S_, .i32⟩ : BufTy).Contents (Elt F) → (⟨S8x1000000, .i32⟩ : BufTy).Contents (Elt F))
  :: StableHlo.binary main_call1_call0_call0_v19 main_call1_call0_call0_v23 main_call1_call0_call0_v24 (Host.shrui : (⟨S8x1000000, .i32⟩ : BufTy).Contents (Elt F) → (⟨S8x1000000, .i32⟩ : BufTy).Contents (Elt F) → (⟨S8x1000000, .i32⟩ : BufTy).Contents (Elt F))
  :: StableHlo.binary main_call1_call0_call0_v22 main_call1_call0_call0_v24 main_call1_call0_call0_v25 (ori : (⟨S8x1000000, .i32⟩ : BufTy).Contents (Elt F) → (⟨S8x1000000, .i32⟩ : BufTy).Contents (Elt F) → (⟨S8x1000000, .i32⟩ : BufTy).Contents (Elt F))
  :: StableHlo.binary main_call1_call0_call0_v20 main_call1_call0_call0_v25 main_call1_call0_call0_v26 (xori : (⟨S8x1000000, .i32⟩ : BufTy).Contents (Elt F) → (⟨S8x1000000, .i32⟩ : BufTy).Contents (Elt F) → (⟨S8x1000000, .i32⟩ : BufTy).Contents (Elt F))
  :: StableHlo.binary main_call1_call0_call0_v20 main_call1_call0_call0_v26 main_call1_call0_call0_v27 (addi : (⟨S8x1000000, .i32⟩ : BufTy).Contents (Elt F) → (⟨S8x1000000, .i32⟩ : BufTy).Contents (Elt F) → (⟨S8x1000000, .i32⟩ : BufTy).Contents (Elt F))
  :: StableHlo.nullary main_call1_call0_call0_c_6 (constantI S_ 32 6#32)
  :: StableHlo.unary main_call1_call0_call0_c_6 main_call1_call0_call0_v28 ((broadcastInDim S8x1000000 ![] bcast_S_S8x1000000) : (⟨S_, .i32⟩ : BufTy).Contents (Elt F) → (⟨S8x1000000, .i32⟩ : BufTy).Contents (Elt F))
  :: StableHlo.binary main_call1_call0_call0_v26 main_call1_call0_call0_v28 main_call1_call0_call0_v29 (Host.shli : (⟨S8x1000000, .i32⟩ : BufTy).Contents (Elt F) → (⟨S8x1000000, .i32⟩ : BufTy).Contents (Elt F) → (⟨S8x1000000, .i32⟩ : BufTy).Contents (Elt F))
  :: StableHlo.nullary main_call1_call0_call0_c_7 (constantI S_ 32 26#32)
  :: StableHlo.unary main_call1_call0_call0_c_7 main_call1_call0_call0_v30 ((broadcastInDim S8x1000000 ![] bcast_S_S8x1000000) : (⟨S_, .i32⟩ : BufTy).Contents (Elt F) → (⟨S8x1000000, .i32⟩ : BufTy).Contents (Elt F))
  :: StableHlo.binary main_call1_call0_call0_v26 main_call1_call0_call0_v30 main_call1_call0_call0_v31 (Host.shrui : (⟨S8x1000000, .i32⟩ : BufTy).Contents (Elt F) → (⟨S8x1000000, .i32⟩ : BufTy).Contents (Elt F) → (⟨S8x1000000, .i32⟩ : BufTy).Contents (Elt F))
  :: StableHlo.binary main_call1_call0_call0_v29 main_call1_call0_call0_v31 main_call1_call0_call0_v32 (ori : (⟨S8x1000000, .i32⟩ : BufTy).Contents (Elt F) → (⟨S8x1000000, .i32⟩ : BufTy).Contents (Elt F) → (⟨S8x1000000, .i32⟩ : BufTy).Contents (Elt F))
  :: StableHlo.binary main_call1_call0_call0_v27 main_call1_call0_call0_v32 main_call1_call0_call0_v33 (xori : (⟨S8x1000000, .i32⟩ : BufTy).Contents (Elt F) → (⟨S8x1000000, .i32⟩ : BufTy).Contents (Elt F) → (⟨S8x1000000, .i32⟩ : BufTy).Contents (Elt F))
  :: StableHlo.unary main_call1_call0_v6 main_call1_call0_call0_v34 ((broadcastInDim S8x1000000 ![] bcast_S_S8x1000000) : (⟨S_, .i32⟩ : BufTy).Contents (Elt F) → (⟨S8x1000000, .i32⟩ : BufTy).Contents (Elt F))
  :: StableHlo.binary main_call1_call0_call0_v27 main_call1_call0_call0_v34 main_call1_call0_call0_v35 (addi : (⟨S8x1000000, .i32⟩ : BufTy).Contents (Elt F) → (⟨S8x1000000, .i32⟩ : BufTy).Contents (Elt F) → (⟨S8x1000000, .i32⟩ : BufTy).Contents (Elt F))
  :: StableHlo.unary main_call1_call0_call0_v1 main_call1_call0_call0_v36 ((broadcastInDim S8x1000000 ![] bcast_S_S8x1000000) : (⟨S_, .i32⟩ : BufTy).Contents (Elt F) → (⟨S8x1000000, .i32⟩ : BufTy).Contents (Elt F))
  :: StableHlo.binary main_call1_call0_call0_v33 main_call1_call0_call0_v36 main_call1_call0_call0_v37 (addi : (⟨S8x1000000, .i32⟩ : BufTy).Contents (Elt F) → (⟨S8x1000000, .i32⟩ : BufTy).Contents (Elt F) → (⟨S8x1000000, .i32⟩ : BufTy).Contents (Elt F))
  :: StableHlo.nullary main_call1_call0_call0_c_8 (constantI S_ 32 1#32)
  :: StableHlo.unary main_call1_call0_call0_c_8 main_call1_call0_call0_v38 ((broadcastInDim S8x1000000 ![] bcast_S_S8x1000000) : (⟨S_, .i32⟩ : BufTy).Contents (Elt F) → (⟨S8x1000000, .i32⟩ : BufTy).Contents (Elt F))
  :: StableHlo.binary main_call1_call0_call0_v37 main_call1_call0_call0_v38 main_call1_call0_call0_v39 (addi : (⟨S8x1000000, .i32⟩ : BufTy).Contents (Elt F) → (⟨S8x1000000, .i32⟩ : BufTy).Contents (Elt F) → (⟨S8x1000000, .i32⟩ : BufTy).Contents (Elt F))
  :: StableHlo.binary main_call1_call0_call0_v35 main_call1_call0_call0_v39 main_call1_call0_call0_v40 (addi : (⟨S8x1000000, .i32⟩ : BufTy).Contents (Elt F) → (⟨S8x1000000, .i32⟩ : BufTy).Contents (Elt F) → (⟨S8x1000000, .i32⟩ : BufTy).Contents (Elt F))
  :: StableHlo.nullary main_call1_call0_call0_c_9 (constantI S_ 32 17#32)
  :: StableHlo.unary main_call1_call0_call0_c_9 main_call1_call0_call0_v41 ((broadcastInDim S8x1000000 ![] bcast_S_S8x1000000) : (⟨S_, .i32⟩ : BufTy).Contents (Elt F) → (⟨S8x1000000, .i32⟩ : BufTy).Contents (Elt F))
  :: StableHlo.binary main_call1_call0_call0_v39 main_call1_call0_call0_v41 main_call1_call0_call0_v42 (Host.shli : (⟨S8x1000000, .i32⟩ : BufTy).Contents (Elt F) → (⟨S8x1000000, .i32⟩ : BufTy).Contents (Elt F) → (⟨S8x1000000, .i32⟩ : BufTy).Contents (Elt F))
  :: StableHlo.nullary main_call1_call0_call0_c_10 (constantI S_ 32 15#32)
  :: StableHlo.unary main_call1_call0_call0_c_10 main_call1_call0_call0_v43 ((broadcastInDim S8x1000000 ![] bcast_S_S8x1000000) : (⟨S_, .i32⟩ : BufTy).Contents (Elt F) → (⟨S8x1000000, .i32⟩ : BufTy).Contents (Elt F))
  :: StableHlo.binary main_call1_call0_call0_v39 main_call1_call0_call0_v43 main_call1_call0_call0_v44 (Host.shrui : (⟨S8x1000000, .i32⟩ : BufTy).Contents (Elt F) → (⟨S8x1000000, .i32⟩ : BufTy).Contents (Elt F) → (⟨S8x1000000, .i32⟩ : BufTy).Contents (Elt F))
  :: StableHlo.binary main_call1_call0_call0_v42 main_call1_call0_call0_v44 main_call1_call0_call0_v45 (ori : (⟨S8x1000000, .i32⟩ : BufTy).Contents (Elt F) → (⟨S8x1000000, .i32⟩ : BufTy).Contents (Elt F) → (⟨S8x1000000, .i32⟩ : BufTy).Contents (Elt F))
  :: StableHlo.binary main_call1_call0_call0_v40 main_call1_call0_call0_v45 main_call1_call0_call0_v46 (xori : (⟨S8x1000000, .i32⟩ : BufTy).Contents (Elt F) → (⟨S8x1000000, .i32⟩ : BufTy).Contents (Elt F) → (⟨S8x1000000, .i32⟩ : BufTy).Contents (Elt F))
  :: StableHlo.binary main_call1_call0_call0_v40 main_call1_call0_call0_v46 main_call1_call0_call0_v47 (addi : (⟨S8x1000000, .i32⟩ : BufTy).Contents (Elt F) → (⟨S8x1000000, .i32⟩ : BufTy).Contents (Elt F) → (⟨S8x1000000, .i32⟩ : BufTy).Contents (Elt F))
  :: [] )

set_option maxRecDepth 100000 in
set_option maxHeartbeats 4000000 in
/-- Operations for the rounds, second part. -/
abbrev opsRounds1 : List (HloOp τ sig (Elt F)) :=
  ( StableHlo.nullary main_call1_call0_call0_c_11 (constantI S_ 32 29#32)
  :: StableHlo.unary main_call1_call0_call0_c_11 main_call1_call0_call0_v48 ((broadcastInDim S8x1000000 ![] bcast_S_S8x1000000) : (⟨S_, .i32⟩ : BufTy).Contents (Elt F) → (⟨S8x1000000, .i32⟩ : BufTy).Contents (Elt F))
  :: StableHlo.binary main_call1_call0_call0_v46 main_call1_call0_call0_v48 main_call1_call0_call0_v49 (Host.shli : (⟨S8x1000000, .i32⟩ : BufTy).Contents (Elt F) → (⟨S8x1000000, .i32⟩ : BufTy).Contents (Elt F) → (⟨S8x1000000, .i32⟩ : BufTy).Contents (Elt F))
  :: StableHlo.nullary main_call1_call0_call0_c_12 (constantI S_ 32 3#32)
  :: StableHlo.unary main_call1_call0_call0_c_12 main_call1_call0_call0_v50 ((broadcastInDim S8x1000000 ![] bcast_S_S8x1000000) : (⟨S_, .i32⟩ : BufTy).Contents (Elt F) → (⟨S8x1000000, .i32⟩ : BufTy).Contents (Elt F))
  :: StableHlo.binary main_call1_call0_call0_v46 main_call1_call0_call0_v50 main_call1_call0_call0_v51 (Host.shrui : (⟨S8x1000000, .i32⟩ : BufTy).Contents (Elt F) → (⟨S8x1000000, .i32⟩ : BufTy).Contents (Elt F) → (⟨S8x1000000, .i32⟩ : BufTy).Contents (Elt F))
  :: StableHlo.binary main_call1_call0_call0_v49 main_call1_call0_call0_v51 main_call1_call0_call0_v52 (ori : (⟨S8x1000000, .i32⟩ : BufTy).Contents (Elt F) → (⟨S8x1000000, .i32⟩ : BufTy).Contents (Elt F) → (⟨S8x1000000, .i32⟩ : BufTy).Contents (Elt F))
  :: StableHlo.binary main_call1_call0_call0_v47 main_call1_call0_call0_v52 main_call1_call0_call0_v53 (xori : (⟨S8x1000000, .i32⟩ : BufTy).Contents (Elt F) → (⟨S8x1000000, .i32⟩ : BufTy).Contents (Elt F) → (⟨S8x1000000, .i32⟩ : BufTy).Contents (Elt F))
  :: StableHlo.binary main_call1_call0_call0_v47 main_call1_call0_call0_v53 main_call1_call0_call0_v54 (addi : (⟨S8x1000000, .i32⟩ : BufTy).Contents (Elt F) → (⟨S8x1000000, .i32⟩ : BufTy).Contents (Elt F) → (⟨S8x1000000, .i32⟩ : BufTy).Contents (Elt F))
  :: StableHlo.nullary main_call1_call0_call0_c_13 (constantI S_ 32 16#32)
  :: StableHlo.unary main_call1_call0_call0_c_13 main_call1_call0_call0_v55 ((broadcastInDim S8x1000000 ![] bcast_S_S8x1000000) : (⟨S_, .i32⟩ : BufTy).Contents (Elt F) → (⟨S8x1000000, .i32⟩ : BufTy).Contents (Elt F))
  :: StableHlo.binary main_call1_call0_call0_v53 main_call1_call0_call0_v55 main_call1_call0_call0_v56 (Host.shli : (⟨S8x1000000, .i32⟩ : BufTy).Contents (Elt F) → (⟨S8x1000000, .i32⟩ : BufTy).Contents (Elt F) → (⟨S8x1000000, .i32⟩ : BufTy).Contents (Elt F))
  :: StableHlo.nullary main_call1_call0_call0_c_14 (constantI S_ 32 16#32)
  :: StableHlo.unary main_call1_call0_call0_c_14 main_call1_call0_call0_v57 ((broadcastInDim S8x1000000 ![] bcast_S_S8x1000000) : (⟨S_, .i32⟩ : BufTy).Contents (Elt F) → (⟨S8x1000000, .i32⟩ : BufTy).Contents (Elt F))
  :: StableHlo.binary main_call1_call0_call0_v53 main_call1_call0_call0_v57 main_call1_call0_call0_v58 (Host.shrui : (⟨S8x1000000, .i32⟩ : BufTy).Contents (Elt F) → (⟨S8x1000000, .i32⟩ : BufTy).Contents (Elt F) → (⟨S8x1000000, .i32⟩ : BufTy).Contents (Elt F))
  :: StableHlo.binary main_call1_call0_call0_v56 main_call1_call0_call0_v58 main_call1_call0_call0_v59 (ori : (⟨S8x1000000, .i32⟩ : BufTy).Contents (Elt F) → (⟨S8x1000000, .i32⟩ : BufTy).Contents (Elt F) → (⟨S8x1000000, .i32⟩ : BufTy).Contents (Elt F))
  :: StableHlo.binary main_call1_call0_call0_v54 main_call1_call0_call0_v59 main_call1_call0_call0_v60 (xori : (⟨S8x1000000, .i32⟩ : BufTy).Contents (Elt F) → (⟨S8x1000000, .i32⟩ : BufTy).Contents (Elt F) → (⟨S8x1000000, .i32⟩ : BufTy).Contents (Elt F))
  :: StableHlo.binary main_call1_call0_call0_v54 main_call1_call0_call0_v60 main_call1_call0_call0_v61 (addi : (⟨S8x1000000, .i32⟩ : BufTy).Contents (Elt F) → (⟨S8x1000000, .i32⟩ : BufTy).Contents (Elt F) → (⟨S8x1000000, .i32⟩ : BufTy).Contents (Elt F))
  :: StableHlo.nullary main_call1_call0_call0_c_15 (constantI S_ 32 24#32)
  :: StableHlo.unary main_call1_call0_call0_c_15 main_call1_call0_call0_v62 ((broadcastInDim S8x1000000 ![] bcast_S_S8x1000000) : (⟨S_, .i32⟩ : BufTy).Contents (Elt F) → (⟨S8x1000000, .i32⟩ : BufTy).Contents (Elt F))
  :: StableHlo.binary main_call1_call0_call0_v60 main_call1_call0_call0_v62 main_call1_call0_call0_v63 (Host.shli : (⟨S8x1000000, .i32⟩ : BufTy).Contents (Elt F) → (⟨S8x1000000, .i32⟩ : BufTy).Contents (Elt F) → (⟨S8x1000000, .i32⟩ : BufTy).Contents (Elt F))
  :: StableHlo.nullary main_call1_call0_call0_c_16 (constantI S_ 32 8#32)
  :: StableHlo.unary main_call1_call0_call0_c_16 main_call1_call0_call0_v64 ((broadcastInDim S8x1000000 ![] bcast_S_S8x1000000) : (⟨S_, .i32⟩ : BufTy).Contents (Elt F) → (⟨S8x1000000, .i32⟩ : BufTy).Contents (Elt F))
  :: StableHlo.binary main_call1_call0_call0_v60 main_call1_call0_call0_v64 main_call1_call0_call0_v65 (Host.shrui : (⟨S8x1000000, .i32⟩ : BufTy).Contents (Elt F) → (⟨S8x1000000, .i32⟩ : BufTy).Contents (Elt F) → (⟨S8x1000000, .i32⟩ : BufTy).Contents (Elt F))
  :: StableHlo.binary main_call1_call0_call0_v63 main_call1_call0_call0_v65 main_call1_call0_call0_v66 (ori : (⟨S8x1000000, .i32⟩ : BufTy).Contents (Elt F) → (⟨S8x1000000, .i32⟩ : BufTy).Contents (Elt F) → (⟨S8x1000000, .i32⟩ : BufTy).Contents (Elt F))
  :: StableHlo.binary main_call1_call0_call0_v61 main_call1_call0_call0_v66 main_call1_call0_call0_v67 (xori : (⟨S8x1000000, .i32⟩ : BufTy).Contents (Elt F) → (⟨S8x1000000, .i32⟩ : BufTy).Contents (Elt F) → (⟨S8x1000000, .i32⟩ : BufTy).Contents (Elt F))
  :: StableHlo.unary main_call1_call0_call0_v1 main_call1_call0_call0_v68 ((broadcastInDim S8x1000000 ![] bcast_S_S8x1000000) : (⟨S_, .i32⟩ : BufTy).Contents (Elt F) → (⟨S8x1000000, .i32⟩ : BufTy).Contents (Elt F))
  :: StableHlo.binary main_call1_call0_call0_v61 main_call1_call0_call0_v68 main_call1_call0_call0_v69 (addi : (⟨S8x1000000, .i32⟩ : BufTy).Contents (Elt F) → (⟨S8x1000000, .i32⟩ : BufTy).Contents (Elt F) → (⟨S8x1000000, .i32⟩ : BufTy).Contents (Elt F))
  :: StableHlo.unary main_call1_call0_v4 main_call1_call0_call0_v70 ((broadcastInDim S8x1000000 ![] bcast_S_S8x1000000) : (⟨S_, .i32⟩ : BufTy).Contents (Elt F) → (⟨S8x1000000, .i32⟩ : BufTy).Contents (Elt F))
  :: StableHlo.binary main_call1_call0_call0_v67 main_call1_call0_call0_v70 main_call1_call0_call0_v71 (addi : (⟨S8x1000000, .i32⟩ : BufTy).Contents (Elt F) → (⟨S8x1000000, .i32⟩ : BufTy).Contents (Elt F) → (⟨S8x1000000, .i32⟩ : BufTy).Contents (Elt F))
  :: StableHlo.nullary main_call1_call0_call0_c_17 (constantI S_ 32 2#32)
  :: StableHlo.unary main_call1_call0_call0_c_17 main_call1_call0_call0_v72 ((broadcastInDim S8x1000000 ![] bcast_S_S8x1000000) : (⟨S_, .i32⟩ : BufTy).Contents (Elt F) → (⟨S8x1000000, .i32⟩ : BufTy).Contents (Elt F))
  :: StableHlo.binary main_call1_call0_call0_v71 main_call1_call0_call0_v72 main_call1_call0_call0_v73 (addi : (⟨S8x1000000, .i32⟩ : BufTy).Contents (Elt F) → (⟨S8x1000000, .i32⟩ : BufTy).Contents (Elt F) → (⟨S8x1000000, .i32⟩ : BufTy).Contents (Elt F))
  :: StableHlo.binary main_call1_call0_call0_v69 main_call1_call0_call0_v73 main_call1_call0_call0_v74 (addi : (⟨S8x1000000, .i32⟩ : BufTy).Contents (Elt F) → (⟨S8x1000000, .i32⟩ : BufTy).Contents (Elt F) → (⟨S8x1000000, .i32⟩ : BufTy).Contents (Elt F))
  :: StableHlo.nullary main_call1_call0_call0_c_18 (constantI S_ 32 13#32)
  :: StableHlo.unary main_call1_call0_call0_c_18 main_call1_call0_call0_v75 ((broadcastInDim S8x1000000 ![] bcast_S_S8x1000000) : (⟨S_, .i32⟩ : BufTy).Contents (Elt F) → (⟨S8x1000000, .i32⟩ : BufTy).Contents (Elt F))
  :: StableHlo.binary main_call1_call0_call0_v73 main_call1_call0_call0_v75 main_call1_call0_call0_v76 (Host.shli : (⟨S8x1000000, .i32⟩ : BufTy).Contents (Elt F) → (⟨S8x1000000, .i32⟩ : BufTy).Contents (Elt F) → (⟨S8x1000000, .i32⟩ : BufTy).Contents (Elt F))
  :: StableHlo.nullary main_call1_call0_call0_c_19 (constantI S_ 32 19#32)
  :: StableHlo.unary main_call1_call0_call0_c_19 main_call1_call0_call0_v77 ((broadcastInDim S8x1000000 ![] bcast_S_S8x1000000) : (⟨S_, .i32⟩ : BufTy).Contents (Elt F) → (⟨S8x1000000, .i32⟩ : BufTy).Contents (Elt F))
  :: StableHlo.binary main_call1_call0_call0_v73 main_call1_call0_call0_v77 main_call1_call0_call0_v78 (Host.shrui : (⟨S8x1000000, .i32⟩ : BufTy).Contents (Elt F) → (⟨S8x1000000, .i32⟩ : BufTy).Contents (Elt F) → (⟨S8x1000000, .i32⟩ : BufTy).Contents (Elt F))
  :: StableHlo.binary main_call1_call0_call0_v76 main_call1_call0_call0_v78 main_call1_call0_call0_v79 (ori : (⟨S8x1000000, .i32⟩ : BufTy).Contents (Elt F) → (⟨S8x1000000, .i32⟩ : BufTy).Contents (Elt F) → (⟨S8x1000000, .i32⟩ : BufTy).Contents (Elt F))
  :: StableHlo.binary main_call1_call0_call0_v74 main_call1_call0_call0_v79 main_call1_call0_call0_v80 (xori : (⟨S8x1000000, .i32⟩ : BufTy).Contents (Elt F) → (⟨S8x1000000, .i32⟩ : BufTy).Contents (Elt F) → (⟨S8x1000000, .i32⟩ : BufTy).Contents (Elt F))
  :: StableHlo.binary main_call1_call0_call0_v74 main_call1_call0_call0_v80 main_call1_call0_call0_v81 (addi : (⟨S8x1000000, .i32⟩ : BufTy).Contents (Elt F) → (⟨S8x1000000, .i32⟩ : BufTy).Contents (Elt F) → (⟨S8x1000000, .i32⟩ : BufTy).Contents (Elt F))
  :: StableHlo.nullary main_call1_call0_call0_c_20 (constantI S_ 32 15#32)
  :: StableHlo.unary main_call1_call0_call0_c_20 main_call1_call0_call0_v82 ((broadcastInDim S8x1000000 ![] bcast_S_S8x1000000) : (⟨S_, .i32⟩ : BufTy).Contents (Elt F) → (⟨S8x1000000, .i32⟩ : BufTy).Contents (Elt F))
  :: StableHlo.binary main_call1_call0_call0_v80 main_call1_call0_call0_v82 main_call1_call0_call0_v83 (Host.shli : (⟨S8x1000000, .i32⟩ : BufTy).Contents (Elt F) → (⟨S8x1000000, .i32⟩ : BufTy).Contents (Elt F) → (⟨S8x1000000, .i32⟩ : BufTy).Contents (Elt F))
  :: StableHlo.nullary main_call1_call0_call0_c_21 (constantI S_ 32 17#32)
  :: StableHlo.unary main_call1_call0_call0_c_21 main_call1_call0_call0_v84 ((broadcastInDim S8x1000000 ![] bcast_S_S8x1000000) : (⟨S_, .i32⟩ : BufTy).Contents (Elt F) → (⟨S8x1000000, .i32⟩ : BufTy).Contents (Elt F))
  :: StableHlo.binary main_call1_call0_call0_v80 main_call1_call0_call0_v84 main_call1_call0_call0_v85 (Host.shrui : (⟨S8x1000000, .i32⟩ : BufTy).Contents (Elt F) → (⟨S8x1000000, .i32⟩ : BufTy).Contents (Elt F) → (⟨S8x1000000, .i32⟩ : BufTy).Contents (Elt F))
  :: StableHlo.binary main_call1_call0_call0_v83 main_call1_call0_call0_v85 main_call1_call0_call0_v86 (ori : (⟨S8x1000000, .i32⟩ : BufTy).Contents (Elt F) → (⟨S8x1000000, .i32⟩ : BufTy).Contents (Elt F) → (⟨S8x1000000, .i32⟩ : BufTy).Contents (Elt F))
  :: StableHlo.binary main_call1_call0_call0_v81 main_call1_call0_call0_v86 main_call1_call0_call0_v87 (xori : (⟨S8x1000000, .i32⟩ : BufTy).Contents (Elt F) → (⟨S8x1000000, .i32⟩ : BufTy).Contents (Elt F) → (⟨S8x1000000, .i32⟩ : BufTy).Contents (Elt F))
  :: StableHlo.binary main_call1_call0_call0_v81 main_call1_call0_call0_v87 main_call1_call0_call0_v88 (addi : (⟨S8x1000000, .i32⟩ : BufTy).Contents (Elt F) → (⟨S8x1000000, .i32⟩ : BufTy).Contents (Elt F) → (⟨S8x1000000, .i32⟩ : BufTy).Contents (Elt F))
  :: StableHlo.nullary main_call1_call0_call0_c_22 (constantI S_ 32 26#32)
  :: StableHlo.unary main_call1_call0_call0_c_22 main_call1_call0_call0_v89 ((broadcastInDim S8x1000000 ![] bcast_S_S8x1000000) : (⟨S_, .i32⟩ : BufTy).Contents (Elt F) → (⟨S8x1000000, .i32⟩ : BufTy).Contents (Elt F))
  :: StableHlo.binary main_call1_call0_call0_v87 main_call1_call0_call0_v89 main_call1_call0_call0_v90 (Host.shli : (⟨S8x1000000, .i32⟩ : BufTy).Contents (Elt F) → (⟨S8x1000000, .i32⟩ : BufTy).Contents (Elt F) → (⟨S8x1000000, .i32⟩ : BufTy).Contents (Elt F))
  :: StableHlo.nullary main_call1_call0_call0_c_23 (constantI S_ 32 6#32)
  :: StableHlo.unary main_call1_call0_call0_c_23 main_call1_call0_call0_v91 ((broadcastInDim S8x1000000 ![] bcast_S_S8x1000000) : (⟨S_, .i32⟩ : BufTy).Contents (Elt F) → (⟨S8x1000000, .i32⟩ : BufTy).Contents (Elt F))
  :: StableHlo.binary main_call1_call0_call0_v87 main_call1_call0_call0_v91 main_call1_call0_call0_v92 (Host.shrui : (⟨S8x1000000, .i32⟩ : BufTy).Contents (Elt F) → (⟨S8x1000000, .i32⟩ : BufTy).Contents (Elt F) → (⟨S8x1000000, .i32⟩ : BufTy).Contents (Elt F))
  :: StableHlo.binary main_call1_call0_call0_v90 main_call1_call0_call0_v92 main_call1_call0_call0_v93 (ori : (⟨S8x1000000, .i32⟩ : BufTy).Contents (Elt F) → (⟨S8x1000000, .i32⟩ : BufTy).Contents (Elt F) → (⟨S8x1000000, .i32⟩ : BufTy).Contents (Elt F))
  :: StableHlo.binary main_call1_call0_call0_v88 main_call1_call0_call0_v93 main_call1_call0_call0_v94 (xori : (⟨S8x1000000, .i32⟩ : BufTy).Contents (Elt F) → (⟨S8x1000000, .i32⟩ : BufTy).Contents (Elt F) → (⟨S8x1000000, .i32⟩ : BufTy).Contents (Elt F))
  :: [] )

set_option maxRecDepth 100000 in
set_option maxHeartbeats 4000000 in
/-- Operations for the rounds, third part. -/
abbrev opsRounds2 : List (HloOp τ sig (Elt F)) :=
  ( StableHlo.binary main_call1_call0_call0_v88 main_call1_call0_call0_v94 main_call1_call0_call0_v95 (addi : (⟨S8x1000000, .i32⟩ : BufTy).Contents (Elt F) → (⟨S8x1000000, .i32⟩ : BufTy).Contents (Elt F) → (⟨S8x1000000, .i32⟩ : BufTy).Contents (Elt F))
  :: StableHlo.nullary main_call1_call0_call0_c_24 (constantI S_ 32 6#32)
  :: StableHlo.unary main_call1_call0_call0_c_24 main_call1_call0_call0_v96 ((broadcastInDim S8x1000000 ![] bcast_S_S8x1000000) : (⟨S_, .i32⟩ : BufTy).Contents (Elt F) → (⟨S8x1000000, .i32⟩ : BufTy).Contents (Elt F))
  :: StableHlo.binary main_call1_call0_call0_v94 main_call1_call0_call0_v96 main_call1_call0_call0_v97 (Host.shli : (⟨S8x1000000, .i32⟩ : BufTy).Contents (Elt F) → (⟨S8x1000000, .i32⟩ : BufTy).Contents (Elt F) → (⟨S8x1000000, .i32⟩ : BufTy).Contents (Elt F))
  :: StableHlo.nullary main_call1_call0_call0_c_25 (constantI S_ 32 26#32)
  :: StableHlo.unary main_call1_call0_call0_c_25 main_call1_call0_call0_v98 ((broadcastInDim S8x1000000 ![] bcast_S_S8x1000000) : (⟨S_, .i32⟩ : BufTy).Contents (Elt F) → (⟨S8x1000000, .i32⟩ : BufTy).Contents (Elt F))
  :: StableHlo.binary main_call1_call0_call0_v94 main_call1_call0_call0_v98 main_call1_call0_call0_v99 (Host.shrui : (⟨S8x1000000, .i32⟩ : BufTy).Contents (Elt F) → (⟨S8x1000000, .i32⟩ : BufTy).Contents (Elt F) → (⟨S8x1000000, .i32⟩ : BufTy).Contents (Elt F))
  :: StableHlo.binary main_call1_call0_call0_v97 main_call1_call0_call0_v99 main_call1_call0_call0_v100 (ori : (⟨S8x1000000, .i32⟩ : BufTy).Contents (Elt F) → (⟨S8x1000000, .i32⟩ : BufTy).Contents (Elt F) → (⟨S8x1000000, .i32⟩ : BufTy).Contents (Elt F))
  :: StableHlo.binary main_call1_call0_call0_v95 main_call1_call0_call0_v100 main_call1_call0_call0_v101 (xori : (⟨S8x1000000, .i32⟩ : BufTy).Contents (Elt F) → (⟨S8x1000000, .i32⟩ : BufTy).Contents (Elt F) → (⟨S8x1000000, .i32⟩ : BufTy).Contents (Elt F))
  :: StableHlo.unary main_call1_call0_v4 main_call1_call0_call0_v102 ((broadcastInDim S8x1000000 ![] bcast_S_S8x1000000) : (⟨S_, .i32⟩ : BufTy).Contents (Elt F) → (⟨S8x1000000, .i32⟩ : BufTy).Contents (Elt F))
  :: StableHlo.binary main_call1_call0_call0_v95 main_call1_call0_call0_v102 main_call1_call0_call0_v103 (addi : (⟨S8x1000000, .i32⟩ : BufTy).Contents (Elt F) → (⟨S8x1000000, .i32⟩ : BufTy).Contents (Elt F) → (⟨S8x1000000, .i32⟩ : BufTy).Contents (Elt F))
  :: StableHlo.unary main_call1_call0_v6 main_call1_call0_call0_v104 ((broadcastInDim S8x1000000 ![] bcast_S_S8x1000000) : (⟨S_, .i32⟩ : BufTy).Contents (Elt F) → (⟨S8x1000000, .i32⟩ : BufTy).Contents (Elt F))
  :: StableHlo.binary main_call1_call0_call0_v101 main_call1_call0_call0_v104 main_call1_call0_call0_v105 (addi : (⟨S8x1000000, .i32⟩ : BufTy).Contents (Elt F) → (⟨S8x1000000, .i32⟩ : BufTy).Contents (Elt F) → (⟨S8x1000000, .i32⟩ : BufTy).Contents (Elt F))
  :: StableHlo.nullary main_call1_call0_call0_c_26 (constantI S_ 32 3#32)
  :: StableHlo.unary main_call1_call0_call0_c_26 main_call1_call0_call0_v106 ((broadcastInDim S8x1000000 ![] bcast_S_S8x1000000) : (⟨S_, .i32⟩ : BufTy).Contents (Elt F) → (⟨S8x1000000, .i32⟩ : BufTy).Contents (Elt F))
  :: StableHlo.binary main_call1_call0_call0_v105 main_call1_call0_call0_v106 main_call1_call0_call0_v107 (addi : (⟨S8x1000000, .i32⟩ : BufTy).Contents (Elt F) → (⟨S8x1000000, .i32⟩ : BufTy).Contents (Elt F) → (⟨S8x1000000, .i32⟩ : BufTy).Contents (Elt F))
  :: StableHlo.binary main_call1_call0_call0_v103 main_call1_call0_call0_v107 main_call1_call0_call0_v108 (addi : (⟨S8x1000000, .i32⟩ : BufTy).Contents (Elt F) → (⟨S8x1000000, .i32⟩ : BufTy).Contents (Elt F) → (⟨S8x1000000, .i32⟩ : BufTy).Contents (Elt F))
  :: StableHlo.nullary main_call1_call0_call0_c_27 (constantI S_ 32 17#32)
  :: StableHlo.unary main_call1_call0_call0_c_27 main_call1_call0_call0_v109 ((broadcastInDim S8x1000000 ![] bcast_S_S8x1000000) : (⟨S_, .i32⟩ : BufTy).Contents (Elt F) → (⟨S8x1000000, .i32⟩ : BufTy).Contents (Elt F))
  :: StableHlo.binary main_call1_call0_call0_v107 main_call1_call0_call0_v109 main_call1_call0_call0_v110 (Host.shli : (⟨S8x1000000, .i32⟩ : BufTy).Contents (Elt F) → (⟨S8x1000000, .i32⟩ : BufTy).Contents (Elt F) → (⟨S8x1000000, .i32⟩ : BufTy).Contents (Elt F))
  :: StableHlo.nullary main_call1_call0_call0_c_28 (constantI S_ 32 15#32)
  :: StableHlo.unary main_call1_call0_call0_c_28 main_call1_call0_call0_v111 ((broadcastInDim S8x1000000 ![] bcast_S_S8x1000000) : (⟨S_, .i32⟩ : BufTy).Contents (Elt F) → (⟨S8x1000000, .i32⟩ : BufTy).Contents (Elt F))
  :: StableHlo.binary main_call1_call0_call0_v107 main_call1_call0_call0_v111 main_call1_call0_call0_v112 (Host.shrui : (⟨S8x1000000, .i32⟩ : BufTy).Contents (Elt F) → (⟨S8x1000000, .i32⟩ : BufTy).Contents (Elt F) → (⟨S8x1000000, .i32⟩ : BufTy).Contents (Elt F))
  :: StableHlo.binary main_call1_call0_call0_v110 main_call1_call0_call0_v112 main_call1_call0_call0_v113 (ori : (⟨S8x1000000, .i32⟩ : BufTy).Contents (Elt F) → (⟨S8x1000000, .i32⟩ : BufTy).Contents (Elt F) → (⟨S8x1000000, .i32⟩ : BufTy).Contents (Elt F))
  :: StableHlo.binary main_call1_call0_call0_v108 main_call1_call0_call0_v113 main_call1_call0_call0_v114 (xori : (⟨S8x1000000, .i32⟩ : BufTy).Contents (Elt F) → (⟨S8x1000000, .i32⟩ : BufTy).Contents (Elt F) → (⟨S8x1000000, .i32⟩ : BufTy).Contents (Elt F))
  :: StableHlo.binary main_call1_call0_call0_v108 main_call1_call0_call0_v114 main_call1_call0_call0_v115 (addi : (⟨S8x1000000, .i32⟩ : BufTy).Contents (Elt F) → (⟨S8x1000000, .i32⟩ : BufTy).Contents (Elt F) → (⟨S8x1000000, .i32⟩ : BufTy).Contents (Elt F))
  :: StableHlo.nullary main_call1_call0_call0_c_29 (constantI S_ 32 29#32)
  :: StableHlo.unary main_call1_call0_call0_c_29 main_call1_call0_call0_v116 ((broadcastInDim S8x1000000 ![] bcast_S_S8x1000000) : (⟨S_, .i32⟩ : BufTy).Contents (Elt F) → (⟨S8x1000000, .i32⟩ : BufTy).Contents (Elt F))
  :: StableHlo.binary main_call1_call0_call0_v114 main_call1_call0_call0_v116 main_call1_call0_call0_v117 (Host.shli : (⟨S8x1000000, .i32⟩ : BufTy).Contents (Elt F) → (⟨S8x1000000, .i32⟩ : BufTy).Contents (Elt F) → (⟨S8x1000000, .i32⟩ : BufTy).Contents (Elt F))
  :: StableHlo.nullary main_call1_call0_call0_c_30 (constantI S_ 32 3#32)
  :: StableHlo.unary main_call1_call0_call0_c_30 main_call1_call0_call0_v118 ((broadcastInDim S8x1000000 ![] bcast_S_S8x1000000) : (⟨S_, .i32⟩ : BufTy).Contents (Elt F) → (⟨S8x1000000, .i32⟩ : BufTy).Contents (Elt F))
  :: StableHlo.binary main_call1_call0_call0_v114 main_call1_call0_call0_v118 main_call1_call0_call0_v119 (Host.shrui : (⟨S8x1000000, .i32⟩ : BufTy).Contents (Elt F) → (⟨S8x1000000, .i32⟩ : BufTy).Contents (Elt F) → (⟨S8x1000000, .i32⟩ : BufTy).Contents (Elt F))
  :: StableHlo.binary main_call1_call0_call0_v117 main_call1_call0_call0_v119 main_call1_call0_call0_v120 (ori : (⟨S8x1000000, .i32⟩ : BufTy).Contents (Elt F) → (⟨S8x1000000, .i32⟩ : BufTy).Contents (Elt F) → (⟨S8x1000000, .i32⟩ : BufTy).Contents (Elt F))
  :: StableHlo.binary main_call1_call0_call0_v115 main_call1_call0_call0_v120 main_call1_call0_call0_v121 (xori : (⟨S8x1000000, .i32⟩ : BufTy).Contents (Elt F) → (⟨S8x1000000, .i32⟩ : BufTy).Contents (Elt F) → (⟨S8x1000000, .i32⟩ : BufTy).Contents (Elt F))
  :: StableHlo.binary main_call1_call0_call0_v115 main_call1_call0_call0_v121 main_call1_call0_call0_v122 (addi : (⟨S8x1000000, .i32⟩ : BufTy).Contents (Elt F) → (⟨S8x1000000, .i32⟩ : BufTy).Contents (Elt F) → (⟨S8x1000000, .i32⟩ : BufTy).Contents (Elt F))
  :: StableHlo.nullary main_call1_call0_call0_c_31 (constantI S_ 32 16#32)
  :: StableHlo.unary main_call1_call0_call0_c_31 main_call1_call0_call0_v123 ((broadcastInDim S8x1000000 ![] bcast_S_S8x1000000) : (⟨S_, .i32⟩ : BufTy).Contents (Elt F) → (⟨S8x1000000, .i32⟩ : BufTy).Contents (Elt F))
  :: StableHlo.binary main_call1_call0_call0_v121 main_call1_call0_call0_v123 main_call1_call0_call0_v124 (Host.shli : (⟨S8x1000000, .i32⟩ : BufTy).Contents (Elt F) → (⟨S8x1000000, .i32⟩ : BufTy).Contents (Elt F) → (⟨S8x1000000, .i32⟩ : BufTy).Contents (Elt F))
  :: StableHlo.nullary main_call1_call0_call0_c_32 (constantI S_ 32 16#32)
  :: StableHlo.unary main_call1_call0_call0_c_32 main_call1_call0_call0_v125 ((broadcastInDim S8x1000000 ![] bcast_S_S8x1000000) : (⟨S_, .i32⟩ : BufTy).Contents (Elt F) → (⟨S8x1000000, .i32⟩ : BufTy).Contents (Elt F))
  :: StableHlo.binary main_call1_call0_call0_v121 main_call1_call0_call0_v125 main_call1_call0_call0_v126 (Host.shrui : (⟨S8x1000000, .i32⟩ : BufTy).Contents (Elt F) → (⟨S8x1000000, .i32⟩ : BufTy).Contents (Elt F) → (⟨S8x1000000, .i32⟩ : BufTy).Contents (Elt F))
  :: StableHlo.binary main_call1_call0_call0_v124 main_call1_call0_call0_v126 main_call1_call0_call0_v127 (ori : (⟨S8x1000000, .i32⟩ : BufTy).Contents (Elt F) → (⟨S8x1000000, .i32⟩ : BufTy).Contents (Elt F) → (⟨S8x1000000, .i32⟩ : BufTy).Contents (Elt F))
  :: StableHlo.binary main_call1_call0_call0_v122 main_call1_call0_call0_v127 main_call1_call0_call0_v128 (xori : (⟨S8x1000000, .i32⟩ : BufTy).Contents (Elt F) → (⟨S8x1000000, .i32⟩ : BufTy).Contents (Elt F) → (⟨S8x1000000, .i32⟩ : BufTy).Contents (Elt F))
  :: StableHlo.binary main_call1_call0_call0_v122 main_call1_call0_call0_v128 main_call1_call0_call0_v129 (addi : (⟨S8x1000000, .i32⟩ : BufTy).Contents (Elt F) → (⟨S8x1000000, .i32⟩ : BufTy).Contents (Elt F) → (⟨S8x1000000, .i32⟩ : BufTy).Contents (Elt F))
  :: StableHlo.nullary main_call1_call0_call0_c_33 (constantI S_ 32 24#32)
  :: StableHlo.unary main_call1_call0_call0_c_33 main_call1_call0_call0_v130 ((broadcastInDim S8x1000000 ![] bcast_S_S8x1000000) : (⟨S_, .i32⟩ : BufTy).Contents (Elt F) → (⟨S8x1000000, .i32⟩ : BufTy).Contents (Elt F))
  :: StableHlo.binary main_call1_call0_call0_v128 main_call1_call0_call0_v130 main_call1_call0_call0_v131 (Host.shli : (⟨S8x1000000, .i32⟩ : BufTy).Contents (Elt F) → (⟨S8x1000000, .i32⟩ : BufTy).Contents (Elt F) → (⟨S8x1000000, .i32⟩ : BufTy).Contents (Elt F))
  :: StableHlo.nullary main_call1_call0_call0_c_34 (constantI S_ 32 8#32)
  :: StableHlo.unary main_call1_call0_call0_c_34 main_call1_call0_call0_v132 ((broadcastInDim S8x1000000 ![] bcast_S_S8x1000000) : (⟨S_, .i32⟩ : BufTy).Contents (Elt F) → (⟨S8x1000000, .i32⟩ : BufTy).Contents (Elt F))
  :: StableHlo.binary main_call1_call0_call0_v128 main_call1_call0_call0_v132 main_call1_call0_call0_v133 (Host.shrui : (⟨S8x1000000, .i32⟩ : BufTy).Contents (Elt F) → (⟨S8x1000000, .i32⟩ : BufTy).Contents (Elt F) → (⟨S8x1000000, .i32⟩ : BufTy).Contents (Elt F))
  :: StableHlo.binary main_call1_call0_call0_v131 main_call1_call0_call0_v133 main_call1_call0_call0_v134 (ori : (⟨S8x1000000, .i32⟩ : BufTy).Contents (Elt F) → (⟨S8x1000000, .i32⟩ : BufTy).Contents (Elt F) → (⟨S8x1000000, .i32⟩ : BufTy).Contents (Elt F))
  :: StableHlo.binary main_call1_call0_call0_v129 main_call1_call0_call0_v134 main_call1_call0_call0_v135 (xori : (⟨S8x1000000, .i32⟩ : BufTy).Contents (Elt F) → (⟨S8x1000000, .i32⟩ : BufTy).Contents (Elt F) → (⟨S8x1000000, .i32⟩ : BufTy).Contents (Elt F))
  :: StableHlo.unary main_call1_call0_v6 main_call1_call0_call0_v136 ((broadcastInDim S8x1000000 ![] bcast_S_S8x1000000) : (⟨S_, .i32⟩ : BufTy).Contents (Elt F) → (⟨S8x1000000, .i32⟩ : BufTy).Contents (Elt F))
  :: StableHlo.binary main_call1_call0_call0_v129 main_call1_call0_call0_v136 main_call1_call0_call0_v137 (addi : (⟨S8x1000000, .i32⟩ : BufTy).Contents (Elt F) → (⟨S8x1000000, .i32⟩ : BufTy).Contents (Elt F) → (⟨S8x1000000, .i32⟩ : BufTy).Contents (Elt F))
  :: StableHlo.unary main_call1_call0_call0_v1 main_call1_call0_call0_v138 ((broadcastInDim S8x1000000 ![] bcast_S_S8x1000000) : (⟨S_, .i32⟩ : BufTy).Contents (Elt F) → (⟨S8x1000000, .i32⟩ : BufTy).Contents (Elt F))
  :: StableHlo.binary main_call1_call0_call0_v135 main_call1_call0_call0_v138 main_call1_call0_call0_v139 (addi : (⟨S8x1000000, .i32⟩ : BufTy).Contents (Elt F) → (⟨S8x1000000, .i32⟩ : BufTy).Contents (Elt F) → (⟨S8x1000000, .i32⟩ : BufTy).Contents (Elt F))
  :: StableHlo.nullary main_call1_call0_call0_c_35 (constantI S_ 32 4#32)
  :: StableHlo.unary main_call1_call0_call0_c_35 main_call1_call0_call0_v140 ((broadcastInDim S8x1000000 ![] bcast_S_S8x1000000) : (⟨S_, .i32⟩ : BufTy).Contents (Elt F) → (⟨S8x1000000, .i32⟩ : BufTy).Contents (Elt F))
  :: StableHlo.binary main_call1_call0_call0_v139 main_call1_call0_call0_v140 main_call1_call0_call0_v141 (addi : (⟨S8x1000000, .i32⟩ : BufTy).Contents (Elt F) → (⟨S8x1000000, .i32⟩ : BufTy).Contents (Elt F) → (⟨S8x1000000, .i32⟩ : BufTy).Contents (Elt F))
  :: StableHlo.binary main_call1_call0_call0_v137 main_call1_call0_call0_v141 main_call1_call0_call0_v142 (addi : (⟨S8x1000000, .i32⟩ : BufTy).Contents (Elt F) → (⟨S8x1000000, .i32⟩ : BufTy).Contents (Elt F) → (⟨S8x1000000, .i32⟩ : BufTy).Contents (Elt F))
  :: [] )

set_option maxRecDepth 100000 in
set_option maxHeartbeats 4000000 in
/-- Operations for the rounds, last part. -/
abbrev opsRounds3 : List (HloOp τ sig (Elt F)) :=
  ( StableHlo.nullary main_call1_call0_call0_c_36 (constantI S_ 32 13#32)
  :: StableHlo.unary main_call1_call0_call0_c_36 main_call1_call0_call0_v143 ((broadcastInDim S8x1000000 ![] bcast_S_S8x1000000) : (⟨S_, .i32⟩ : BufTy).Contents (Elt F) → (⟨S8x1000000, .i32⟩ : BufTy).Contents (Elt F))
  :: StableHlo.binary main_call1_call0_call0_v141 main_call1_call0_call0_v143 main_call1_call0_call0_v144 (Host.shli : (⟨S8x1000000, .i32⟩ : BufTy).Contents (Elt F) → (⟨S8x1000000, .i32⟩ : BufTy).Contents (Elt F) → (⟨S8x1000000, .i32⟩ : BufTy).Contents (Elt F))
  :: StableHlo.nullary main_call1_call0_call0_c_37 (constantI S_ 32 19#32)
  :: StableHlo.unary main_call1_call0_call0_c_37 main_call1_call0_call0_v145 ((broadcastInDim S8x1000000 ![] bcast_S_S8x1000000) : (⟨S_, .i32⟩ : BufTy).Contents (Elt F) → (⟨S8x1000000, .i32⟩ : BufTy).Contents (Elt F))
  :: StableHlo.binary main_call1_call0_call0_v141 main_call1_call0_call0_v145 main_call1_call0_call0_v146 (Host.shrui : (⟨S8x1000000, .i32⟩ : BufTy).Contents (Elt F) → (⟨S8x1000000, .i32⟩ : BufTy).Contents (Elt F) → (⟨S8x1000000, .i32⟩ : BufTy).Contents (Elt F))
  :: StableHlo.binary main_call1_call0_call0_v144 main_call1_call0_call0_v146 main_call1_call0_call0_v147 (ori : (⟨S8x1000000, .i32⟩ : BufTy).Contents (Elt F) → (⟨S8x1000000, .i32⟩ : BufTy).Contents (Elt F) → (⟨S8x1000000, .i32⟩ : BufTy).Contents (Elt F))
  :: StableHlo.binary main_call1_call0_call0_v142 main_call1_call0_call0_v147 main_call1_call0_call0_v148 (xori : (⟨S8x1000000, .i32⟩ : BufTy).Contents (Elt F) → (⟨S8x1000000, .i32⟩ : BufTy).Contents (Elt F) → (⟨S8x1000000, .i32⟩ : BufTy).Contents (Elt F))
  :: StableHlo.binary main_call1_call0_call0_v142 main_call1_call0_call0_v148 main_call1_call0_call0_v149 (addi : (⟨S8x1000000, .i32⟩ : BufTy).Contents (Elt F) → (⟨S8x1000000, .i32⟩ : BufTy).Contents (Elt F) → (⟨S8x1000000, .i32⟩ : BufTy).Contents (Elt F))
  :: StableHlo.nullary main_call1_call0_call0_c_38 (constantI S_ 32 15#32)
  :: StableHlo.unary main_call1_call0_call0_c_38 main_call1_call0_call0_v150 ((broadcastInDim S8x1000000 ![] bcast_S_S8x1000000) : (⟨S_, .i32⟩ : BufTy).Contents (Elt F) → (⟨S8x1000000, .i32⟩ : BufTy).Contents (Elt F))
  :: StableHlo.binary main_call1_call0_call0_v148 main_call1_call0_call0_v150 main_call1_call0_call0_v151 (Host.shli : (⟨S8x1000000, .i32⟩ : BufTy).Contents (Elt F) → (⟨S8x1000000, .i32⟩ : BufTy).Contents (Elt F) → (⟨S8x1000000, .i32⟩ : BufTy).Contents (Elt F))
  :: StableHlo.nullary main_call1_call0_call0_c_39 (constantI S_ 32 17#32)
  :: StableHlo.unary main_call1_call0_call0_c_39 main_call1_call0_call0_v152 ((broadcastInDim S8x1000000 ![] bcast_S_S8x1000000) : (⟨S_, .i32⟩ : BufTy).Contents (Elt F) → (⟨S8x1000000, .i32⟩ : BufTy).Contents (Elt F))
  :: StableHlo.binary main_call1_call0_call0_v148 main_call1_call0_call0_v152 main_call1_call0_call0_v153 (Host.shrui : (⟨S8x1000000, .i32⟩ : BufTy).Contents (Elt F) → (⟨S8x1000000, .i32⟩ : BufTy).Contents (Elt F) → (⟨S8x1000000, .i32⟩ : BufTy).Contents (Elt F))
  :: StableHlo.binary main_call1_call0_call0_v151 main_call1_call0_call0_v153 main_call1_call0_call0_v154 (ori : (⟨S8x1000000, .i32⟩ : BufTy).Contents (Elt F) → (⟨S8x1000000, .i32⟩ : BufTy).Contents (Elt F) → (⟨S8x1000000, .i32⟩ : BufTy).Contents (Elt F))
  :: StableHlo.binary main_call1_call0_call0_v149 main_call1_call0_call0_v154 main_call1_call0_call0_v155 (xori : (⟨S8x1000000, .i32⟩ : BufTy).Contents (Elt F) → (⟨S8x1000000, .i32⟩ : BufTy).Contents (Elt F) → (⟨S8x1000000, .i32⟩ : BufTy).Contents (Elt F))
  :: StableHlo.binary main_call1_call0_call0_v149 main_call1_call0_call0_v155 main_call1_call0_call0_v156 (addi : (⟨S8x1000000, .i32⟩ : BufTy).Contents (Elt F) → (⟨S8x1000000, .i32⟩ : BufTy).Contents (Elt F) → (⟨S8x1000000, .i32⟩ : BufTy).Contents (Elt F))
  :: StableHlo.nullary main_call1_call0_call0_c_40 (constantI S_ 32 26#32)
  :: StableHlo.unary main_call1_call0_call0_c_40 main_call1_call0_call0_v157 ((broadcastInDim S8x1000000 ![] bcast_S_S8x1000000) : (⟨S_, .i32⟩ : BufTy).Contents (Elt F) → (⟨S8x1000000, .i32⟩ : BufTy).Contents (Elt F))
  :: StableHlo.binary main_call1_call0_call0_v155 main_call1_call0_call0_v157 main_call1_call0_call0_v158 (Host.shli : (⟨S8x1000000, .i32⟩ : BufTy).Contents (Elt F) → (⟨S8x1000000, .i32⟩ : BufTy).Contents (Elt F) → (⟨S8x1000000, .i32⟩ : BufTy).Contents (Elt F))
  :: StableHlo.nullary main_call1_call0_call0_c_41 (constantI S_ 32 6#32)
  :: StableHlo.unary main_call1_call0_call0_c_41 main_call1_call0_call0_v159 ((broadcastInDim S8x1000000 ![] bcast_S_S8x1000000) : (⟨S_, .i32⟩ : BufTy).Contents (Elt F) → (⟨S8x1000000, .i32⟩ : BufTy).Contents (Elt F))
  :: StableHlo.binary main_call1_call0_call0_v155 main_call1_call0_call0_v159 main_call1_call0_call0_v160 (Host.shrui : (⟨S8x1000000, .i32⟩ : BufTy).Contents (Elt F) → (⟨S8x1000000, .i32⟩ : BufTy).Contents (Elt F) → (⟨S8x1000000, .i32⟩ : BufTy).Contents (Elt F))
  :: StableHlo.binary main_call1_call0_call0_v158 main_call1_call0_call0_v160 main_call1_call0_call0_v161 (ori : (⟨S8x1000000, .i32⟩ : BufTy).Contents (Elt F) → (⟨S8x1000000, .i32⟩ : BufTy).Contents (Elt F) → (⟨S8x1000000, .i32⟩ : BufTy).Contents (Elt F))
  :: StableHlo.binary main_call1_call0_call0_v156 main_call1_call0_call0_v161 main_call1_call0_call0_v162 (xori : (⟨S8x1000000, .i32⟩ : BufTy).Contents (Elt F) → (⟨S8x1000000, .i32⟩ : BufTy).Contents (Elt F) → (⟨S8x1000000, .i32⟩ : BufTy).Contents (Elt F))
  :: StableHlo.binary main_call1_call0_call0_v156 main_call1_call0_call0_v162 main_call1_call0_call0_v163 (addi : (⟨S8x1000000, .i32⟩ : BufTy).Contents (Elt F) → (⟨S8x1000000, .i32⟩ : BufTy).Contents (Elt F) → (⟨S8x1000000, .i32⟩ : BufTy).Contents (Elt F))
  :: StableHlo.nullary main_call1_call0_call0_c_42 (constantI S_ 32 6#32)
  :: StableHlo.unary main_call1_call0_call0_c_42 main_call1_call0_call0_v164 ((broadcastInDim S8x1000000 ![] bcast_S_S8x1000000) : (⟨S_, .i32⟩ : BufTy).Contents (Elt F) → (⟨S8x1000000, .i32⟩ : BufTy).Contents (Elt F))
  :: StableHlo.binary main_call1_call0_call0_v162 main_call1_call0_call0_v164 main_call1_call0_call0_v165 (Host.shli : (⟨S8x1000000, .i32⟩ : BufTy).Contents (Elt F) → (⟨S8x1000000, .i32⟩ : BufTy).Contents (Elt F) → (⟨S8x1000000, .i32⟩ : BufTy).Contents (Elt F))
  :: StableHlo.nullary main_call1_call0_call0_c_43 (constantI S_ 32 26#32)
  :: StableHlo.unary main_call1_call0_call0_c_43 main_call1_call0_call0_v166 ((broadcastInDim S8x1000000 ![] bcast_S_S8x1000000) : (⟨S_, .i32⟩ : BufTy).Contents (Elt F) → (⟨S8x1000000, .i32⟩ : BufTy).Contents (Elt F))
  :: StableHlo.binary main_call1_call0_call0_v162 main_call1_call0_call0_v166 main_call1_call0_call0_v167 (Host.shrui : (⟨S8x1000000, .i32⟩ : BufTy).Contents (Elt F) → (⟨S8x1000000, .i32⟩ : BufTy).Contents (Elt F) → (⟨S8x1000000, .i32⟩ : BufTy).Contents (Elt F))
  :: StableHlo.binary main_call1_call0_call0_v165 main_call1_call0_call0_v167 main_call1_call0_call0_v168 (ori : (⟨S8x1000000, .i32⟩ : BufTy).Contents (Elt F) → (⟨S8x1000000, .i32⟩ : BufTy).Contents (Elt F) → (⟨S8x1000000, .i32⟩ : BufTy).Contents (Elt F))
  :: StableHlo.binary main_call1_call0_call0_v163 main_call1_call0_call0_v168 main_call1_call0_call0_v169 (xori : (⟨S8x1000000, .i32⟩ : BufTy).Contents (Elt F) → (⟨S8x1000000, .i32⟩ : BufTy).Contents (Elt F) → (⟨S8x1000000, .i32⟩ : BufTy).Contents (Elt F))
  :: StableHlo.unary main_call1_call0_call0_v1 main_call1_call0_call0_v170 ((broadcastInDim S8x1000000 ![] bcast_S_S8x1000000) : (⟨S_, .i32⟩ : BufTy).Contents (Elt F) → (⟨S8x1000000, .i32⟩ : BufTy).Contents (Elt F))
  :: StableHlo.binary main_call1_call0_call0_v163 main_call1_call0_call0_v170 main_call1_call0_v18_0 (addi : (⟨S8x1000000, .i32⟩ : BufTy).Contents (Elt F) → (⟨S8x1000000, .i32⟩ : BufTy).Contents (Elt F) → (⟨S8x1000000, .i32⟩ : BufTy).Contents (Elt F))
  :: StableHlo.unary main_call1_call0_v4 main_call1_call0_call0_v172 ((broadcastInDim S8x1000000 ![] bcast_S_S8x1000000) : (⟨S_, .i32⟩ : BufTy).Contents (Elt F) → (⟨S8x1000000, .i32⟩ : BufTy).Contents (Elt F))
  :: StableHlo.binary main_call1_call0_call0_v169 main_call1_call0_call0_v172 main_call1_call0_call0_v173 (addi : (⟨S8x1000000, .i32⟩ : BufTy).Contents (Elt F) → (⟨S8x1000000, .i32⟩ : BufTy).Contents (Elt F) → (⟨S8x1000000, .i32⟩ : BufTy).Contents (Elt F))
  :: StableHlo.nullary main_call1_call0_call0_c_44 (constantI S_ 32 5#32)
  :: StableHlo.unary main_call1_call0_call0_c_44 main_call1_call0_call0_v174 ((broadcastInDim S8x1000000 ![] bcast_S_S8x1000000) : (⟨S_, .i32⟩ : BufTy).Contents (Elt F) → (⟨S8x1000000, .i32⟩ : BufTy).Contents (Elt F))
  :: StableHlo.binary main_call1_call0_call0_v173 main_call1_call0_call0_v174 main_call1_call0_v18_1 (addi : (⟨S8x1000000, .i32⟩ : BufTy).Contents (Elt F) → (⟨S8x1000000, .i32⟩ : BufTy).Contents (Elt F) → (⟨S8x1000000, .i32⟩ : BufTy).Contents (Elt F))
  :: [] )

set_option maxRecDepth 100000 in
set_option maxHeartbeats 4000000 in
/-- Operations for the uniform draw from the words. -/
abbrev opsUniform1 : List (HloOp τ sig (Elt F)) :=
  ( StableHlo.binary main_call1_call0_v18_0 main_call1_call0_v18_1 main_call1_call0_v19 (xori : (⟨S8x1000000, .i32⟩ : BufTy).Contents (Elt F) → (⟨S8x1000000, .i32⟩ : BufTy).Contents (Elt F) → (⟨S8x1000000, .i32⟩ : BufTy).Contents (Elt F))
  :: StableHlo.nullary main_call1_call0_c_2 (constantI S_ 32 9#32)
  :: StableHlo.unary main_call1_call0_c_2 main_call1_call0_v20 ((broadcastInDim S8x1000000 ![] bcast_S_S8x1000000) : (⟨S_, .i32⟩ : BufTy).Contents (Elt F) → (⟨S8x1000000, .i32⟩ : BufTy).Contents (Elt F))
  :: StableHlo.binary main_call1_call0_v19 main_call1_call0_v20 main_call1_call0_v21 (Host.shrui : (⟨S8x1000000, .i32⟩ : BufTy).Contents (Elt F) → (⟨S8x1000000, .i32⟩ : BufTy).Contents (Elt F) → (⟨S8x1000000, .i32⟩ : BufTy).Contents (Elt F))
  :: StableHlo.nullary main_call1_call0_c_3 (constantI S_ 32 1065353216#32)
  :: StableHlo.unary main_call1_call0_c_3 main_call1_call0_v22 ((broadcastInDim S8x1000000 ![] bcast_S_S8x1000000) : (⟨S_, .i32⟩ : BufTy).Contents (Elt F) → (⟨S8x1000000, .i32⟩ : BufTy).Contents (Elt F))
  :: StableHlo.binary main_call1_call0_v21 main_call1_call0_v22 main_call1_call0_v23 (ori : (⟨S8x1000000, .i32⟩ : BufTy).Contents (Elt F) → (⟨S8x1000000, .i32⟩ : BufTy).Contents (Elt F) → (⟨S8x1000000, .i32⟩ : BufTy).Contents (Elt F))
  :: StableHlo.unary main_call1_call0_v23 main_call1_call0_v24 ((bitcastToFloat .f32) : (⟨S8x1000000, .i32⟩ : BufTy).Contents (Elt F) → (⟨S8x1000000, .f32⟩ : BufTy).Contents (Elt F))
  :: StableHlo.nullary main_call1_call0_cst (constant S_ .f32 0x3F800000#32)
  :: StableHlo.unary main_call1_call0_cst main_call1_call0_v25 ((broadcastInDim S8x1000000 ![] bcast_S_S8x1000000) : (⟨S_, .f32⟩ : BufTy).Contents (Elt F) → (⟨S8x1000000, .f32⟩ : BufTy).Contents (Elt F))
  :: StableHlo.binary main_call1_call0_v24 main_call1_call0_v25 main_call1_call0_v26 (subf : (⟨S8x1000000, .f32⟩ : BufTy).Contents (Elt F) → (⟨S8x1000000, .f32⟩ : BufTy).Contents (Elt F) → (⟨S8x1000000, .f32⟩ : BufTy).Contents (Elt F))
  :: StableHlo.binary main_call1_call0_v2 main_call1_call0_v1 main_call1_call0_v27 (subf : (⟨S1x1, .f32⟩ : BufTy).Contents (Elt F) → (⟨S1x1, .f32⟩ : BufTy).Contents (Elt F) → (⟨S1x1, .f32⟩ : BufTy).Contents (Elt F))
  :: StableHlo.unary main_call1_call0_v27 main_call1_call0_v28 ((broadcastInDim S8x1000000 ![0, 1] bcast_S1x1_S8x1000000_0_1) : (⟨S1x1, .f32⟩ : BufTy).Contents (Elt F) → (⟨S8x1000000, .f32⟩ : BufTy).Contents (Elt F))
  :: StableHlo.binary main_call1_call0_v26 main_call1_call0_v28 main_call1_call0_v29 (mulf : (⟨S8x1000000, .f32⟩ : BufTy).Contents (Elt F) → (⟨S8x1000000, .f32⟩ : BufTy).Contents (Elt F) → (⟨S8x1000000, .f32⟩ : BufTy).Contents (Elt F))
  :: StableHlo.unary main_call1_call0_v1 main_call1_call0_v30 ((broadcastInDim S8x1000000 ![0, 1] bcast_S1x1_S8x1000000_0_1) : (⟨S1x1, .f32⟩ : BufTy).Contents (Elt F) → (⟨S8x1000000, .f32⟩ : BufTy).Contents (Elt F))
  :: StableHlo.binary main_call1_call0_v29 main_call1_call0_v30 main_call1_call0_v31 (addf : (⟨S8x1000000, .f32⟩ : BufTy).Contents (Elt F) → (⟨S8x1000000, .f32⟩ : BufTy).Contents (Elt F) → (⟨S8x1000000, .f32⟩ : BufTy).Contents (Elt F))
  :: StableHlo.unary main_call1_call0_v1 main_call1_call0_v32 ((broadcastInDim S8x1000000 ![0, 1] bcast_S1x1_S8x1000000_0_1) : (⟨S1x1, .f32⟩ : BufTy).Contents (Elt F) → (⟨S8x1000000, .f32⟩ : BufTy).Contents (Elt F))
  :: StableHlo.binary main_call1_call0_v32 main_call1_call0_v31 main_call1_v0 (maximumf : (⟨S8x1000000, .f32⟩ : BufTy).Contents (Elt F) → (⟨S8x1000000, .f32⟩ : BufTy).Contents (Elt F) → (⟨S8x1000000, .f32⟩ : BufTy).Contents (Elt F))
  :: [] )

set_option maxRecDepth 100000 in
set_option maxHeartbeats 4000000 in
/-- Operations for the Gumbel draw from the uniform one. -/
abbrev opsGumbel1 : List (HloOp τ sig (Elt F)) :=
  ( StableHlo.unary main_call1_v0 main_call1_v1 (Host.log : (⟨S8x1000000, .f32⟩ : BufTy).Contents (Elt F) → (⟨S8x1000000, .f32⟩ : BufTy).Contents (Elt F))
  :: StableHlo.unary main_call1_v1 main_call1_v2 (Host.negf : (⟨S8x1000000, .f32⟩ : BufTy).Contents (Elt F) → (⟨S8x1000000, .f32⟩ : BufTy).Contents (Elt F))
  :: StableHlo.unary main_call1_v2 main_call1_v3 (Host.log : (⟨S8x1000000, .f32⟩ : BufTy).Contents (Elt F) → (⟨S8x1000000, .f32⟩ : BufTy).Contents (Elt F))
  :: StableHlo.unary main_call1_v3 main_v13 (Host.negf : (⟨S8x1000000, .f32⟩ : BufTy).Contents (Elt F) → (⟨S8x1000000, .f32⟩ : BufTy).Contents (Elt F))
  :: [] )

set_option maxRecDepth 100000 in
set_option maxHeartbeats 4000000 in
/-- Operations for the sum whose maximum is taken. -/
abbrev opsAdd : List (HloOp τ sig (Elt F)) :=
  ( StableHlo.binary main_v13 main_v5 main_v14 (addf : (⟨S8x1000000, .f32⟩ : BufTy).Contents (Elt F) → (⟨S8x1000000, .f32⟩ : BufTy).Contents (Elt F) → (⟨S8x1000000, .f32⟩ : BufTy).Contents (Elt F))
  :: [] )

set_option maxRecDepth 100000 in
set_option maxHeartbeats 4000000 in
/-- Operations for the position of the maximum. -/
abbrev opsArgmax : List (HloOp τ sig (Elt F)) :=
  ( StableHlo.nullary main_call2_v0 (iotaInDim S8x1000000 32 1)
  :: StableHlo.nullary main_call2_cst (constant S_ .f32 0xFF800000#32)
  :: StableHlo.nullary main_call2_c (constantI S_ 32 0#32)
  :: StableHlo.quaternary main_v14 main_call2_v0 main_call2_cst main_call2_c main_call2_v1_0 ((fun x y u v j => (Host.argReduce reducer_argmax_f32_i32 x y u v reducesTo_S8x1000000_S8_d1 h_S_ j).1) : (⟨S8x1000000, .f32⟩ : BufTy).Contents (Elt F) → (⟨S8x1000000, .i32⟩ : BufTy).Contents (Elt F) → (⟨S_, .f32⟩ : BufTy).Contents (Elt F) → (⟨S_, .i32⟩ : BufTy).Contents (Elt F) → (⟨S8, .f32⟩ : BufTy).Contents (Elt F))
  :: StableHlo.quaternary main_v14 main_call2_v0 main_call2_cst main_call2_c main_v15 ((fun x y u v j => (Host.argReduce reducer_argmax_f32_i32 x y u v reducesTo_S8x1000000_S8_d1 h_S_ j).2) : (⟨S8x1000000, .f32⟩ : BufTy).Contents (Elt F) → (⟨S8x1000000, .i32⟩ : BufTy).Contents (Elt F) → (⟨S_, .f32⟩ : BufTy).Contents (Elt F) → (⟨S_, .i32⟩ : BufTy).Contents (Elt F) → (⟨S8, .i32⟩ : BufTy).Contents (Elt F))
  :: [] )

set_option maxRecDepth 100000 in
set_option maxHeartbeats 4000000 in
/-- Operations for the row of zeros and a one. -/
abbrev opsOneHot : List (HloOp τ sig (Elt F)) :=
  ( StableHlo.unary main_v15 main_call3_v0 ((broadcastInDim S8x1 ![0] bcast_S8_S8x1_0) : (⟨S8, .i32⟩ : BufTy).Contents (Elt F) → (⟨S8x1, .i32⟩ : BufTy).Contents (Elt F))
  :: StableHlo.nullary main_call3_v1 (iotaInDim S1x1000000 32 1)
  :: StableHlo.unary main_call3_v0 main_call3_v2 ((broadcastInDim S8x1000000 ![0, 1] bcast_S8x1_S8x1000000_0_1) : (⟨S8x1, .i32⟩ : BufTy).Contents (Elt F) → (⟨S8x1000000, .i32⟩ : BufTy).Contents (Elt F))
  :: StableHlo.unary main_call3_v1 main_call3_v3 ((broadcastInDim S8x1000000 ![0, 1] bcast_S1x1000000_S8x1000000_0_1) : (⟨S1x1000000, .i32⟩ : BufTy).Contents (Elt F) → (⟨S8x1000000, .i32⟩ : BufTy).Contents (Elt F))
  :: StableHlo.binary main_call3_v2 main_call3_v3 main_call3_v4 ((cmpi .eq) : (⟨S8x1000000, .i32⟩ : BufTy).Contents (Elt F) → (⟨S8x1000000, .i32⟩ : BufTy).Contents (Elt F) → (⟨S8x1000000, .i1⟩ : BufTy).Contents (Elt F))
  :: StableHlo.unary main_call3_v4 main_v16 ((uitofp .f32) : (⟨S8x1000000, .i1⟩ : BufTy).Contents (Elt F) → (⟨S8x1000000, .f32⟩ : BufTy).Contents (Elt F))
  :: [] )

set_option maxRecDepth 100000 in
set_option maxHeartbeats 4000000 in
/-- Operations for the first column and the result. -/
abbrev opsEnd : List (HloOp τ sig (Elt F)) :=
  ( StableHlo.nullary main_cst (constant S_ .f32 0x3F800000#32)
  :: StableHlo.unary main_cst main_v17 ((broadcastInDim S8x1 ![] bcast_S_S8x1) : (⟨S_, .f32⟩ : BufTy).Contents (Elt F) → (⟨S8x1, .f32⟩ : BufTy).Contents (Elt F))
  :: StableHlo.nullary main_cst_2 (constant S_ .f32 0x3F000000#32)
  :: StableHlo.unary main_cst_2 main_v18 ((broadcastInDim S8x1 ![] bcast_S_S8x1) : (⟨S_, .f32⟩ : BufTy).Contents (Elt F) → (⟨S8x1, .f32⟩ : BufTy).Contents (Elt F))
  :: StableHlo.binary main_v18 main_v17 main_v19 (mulf : (⟨S8x1, .f32⟩ : BufTy).Contents (Elt F) → (⟨S8x1, .f32⟩ : BufTy).Contents (Elt F) → (⟨S8x1, .f32⟩ : BufTy).Contents (Elt F))
  :: StableHlo.binary main_v19 main_v16 main_v20 ((fun a b => concatenate S8x1000001 1 [⟨S8x1, a⟩, ⟨S8x1000000, b⟩] concatenates_S8x1_S8x1000000_S8x1000001_d1) : (⟨S8x1, .f32⟩ : BufTy).Contents (Elt F) → (⟨S8x1000000, .f32⟩ : BufTy).Contents (Elt F) → (⟨S8x1000001, .f32⟩ : BufTy).Contents (Elt F))
  :: [] )

/-- The operations of the reference, in order. -/
abbrev ops : List (HloOp τ sig (Elt F)) :=
  opsPre ++ (opsSoftmax ++ (opsKey ++ (opsGumbel0 ++ (opsUniform0 ++ (opsRounds0 ++ (opsRounds1 ++ (opsRounds2 ++ (opsRounds3
    ++ (opsUniform1 ++ (opsGumbel1 ++ (opsAdd ++ (opsArgmax ++ (opsOneHot ++ opsEnd)))))))))))))

/-- The buffer each operation writes, in order. -/
abbrev outs : List (Ref sig .tc) :=
  ( main_v0
  :: main_v1
  :: main_v2
  :: main_v3
  :: main_v4
  :: main_call0_cst
  :: main_call0_v0
  :: main_call0_cst_0
  :: main_call0_v1
  :: main_call0_v2
  :: main_call0_v3
  :: main_call0_v4
  :: main_call0_v5
  :: main_call0_v6
  :: main_call0_cst_1
  :: main_call0_v7
  :: main_call0_v8
  :: main_call0_v9
  :: main_call0_v10
  :: main_v5
  :: main_c
  :: main_c_0
  :: main_v6
  :: main_v7
  :: main_v8
  :: main_c_1
  :: main_v9
  :: main_v10
  :: main_v11
  :: main_v12
  :: main_call1_cst
  :: main_call1_cst_0
  :: main_call1_call0_v0
  :: main_call1_call0_v1
  :: main_call1_call0_v2
  :: main_call1_call0_v3
  :: main_call1_call0_v4
  :: main_call1_call0_v5
  :: main_call1_call0_v6
  :: main_call1_call0_v7
  :: main_call1_call0_v8
  :: main_call1_call0_c
  :: main_call1_call0_v9
  :: main_call1_call0_v10
  :: main_call1_call0_c_0
  :: main_call1_call0_v11
  :: main_call1_call0_v12
  :: main_call1_call0_v13
  :: main_call1_call0_c_1
  :: main_call1_call0_v14
  :: main_call1_call0_v15
  :: main_call1_call0_v16
  :: main_call1_call0_v17
  :: main_call1_call0_call0_v0
  :: main_call1_call0_call0_c
  :: main_call1_call0_call0_v1
  :: main_call1_call0_call0_v2
  :: main_call1_call0_call0_v3
  :: main_call1_call0_call0_v4
  :: main_call1_call0_call0_v5
  :: main_call1_call0_call0_v6
  :: main_call1_call0_call0_c_0
  :: main_call1_call0_call0_v7
  :: main_call1_call0_call0_v8
  :: main_call1_call0_call0_c_1
  :: main_call1_call0_call0_v9
  :: main_call1_call0_call0_v10
  :: main_call1_call0_call0_v11
  :: main_call1_call0_call0_v12
  :: main_call1_call0_call0_v13
  :: main_call1_call0_call0_c_2
  :: main_call1_call0_call0_v14
  :: main_call1_call0_call0_v15
  :: main_call1_call0_call0_c_3
  :: main_call1_call0_call0_v16
  :: main_call1_call0_call0_v17
  :: main_call1_call0_call0_v18
  :: main_call1_call0_call0_v19
  :: main_call1_call0_call0_v20
  :: main_call1_call0_call0_c_4
  :: main_call1_call0_call0_v21
  :: main_call1_call0_call0_v22
  :: main_call1_call0_call0_c_5
  :: main_call1_call0_call0_v23
  :: main_call1_call0_call0_v24
  :: main_call1_call0_call0_v25
  :: main_call1_call0_call0_v26
  :: main_call1_call0_call0_v27
  :: main_call1_call0_call0_c_6
  :: main_call1_call0_call0_v28
  :: main_call1_call0_call0_v29
  :: main_call1_call0_call0_c_7
  :: main_call1_call0_call0_v30
  :: main_call1_call0_call0_v31
  :: main_call1_call0_call0_v32
  :: main_call1_call0_call0_v33
  :: main_call1_call0_call0_v34
  :: main_call1_call0_call0_v35
  :: main_call1_call0_call0_v36
  :: main_call1_call0_call0_v37
  :: main_call1_call0_call0_c_8
  :: main_call1_call0_call0_v38
  :: main_call1_call0_call0_v39
  :: main_call1_call0_call0_v40
  :: main_call1_call0_call0_c_9
  :: main_call1_call0_call0_v41
  :: main_call1_call0_call0_v42
  :: main_call1_call0_call0_c_10
  :: main_call1_call0_call0_v43
  :: main_call1_call0_call0_v44
  :: main_call1_call0_call0_v45
  :: main_call1_call0_call0_v46
  :: main_call1_call0_call0_v47
  :: main_call1_call0_call0_c_11
  :: main_call1_call0_call0_v48
  :: main_call1_call0_call0_v49
  :: main_call1_call0_call0_c_12
  :: main_call1_call0_call0_v50
  :: main_call1_call0_call0_v51
  :: main_call1_call0_call0_v52
  :: main_call1_call0_call0_v53
  :: main_call1_call0_call0_v54
  :: main_call1_call0_call0_c_13
  :: main_call1_call0_call0_v55
  :: main_call1_call0_call0_v56
  :: main_call1_call0_call0_c_14
  :: main_call1_call0_call0_v57
  :: main_call1_call0_call0_v58
  :: main_call1_call0_call0_v59
  :: main_call1_call0_call0_v60
  :: main_call1_call0_call0_v61
  :: main_call1_call0_call0_c_15
  :: main_call1_call0_call0_v62
  :: main_call1_call0_call0_v63
  :: main_call1_call0_call0_c_16
  :: main_call1_call0_call0_v64
  :: main_call1_call0_call0_v65
  :: main_call1_call0_call0_v66
  :: main_call1_call0_call0_v67
  :: main_call1_call0_call0_v68
  :: main_call1_call0_call0_v69
  :: main_call1_call0_call0_v70
  :: main_call1_call0_call0_v71
  :: main_call1_call0_call0_c_17
  :: main_call1_call0_call0_v72
  :: main_call1_call0_call0_v73
  :: main_call1_call0_call0_v74
  :: main_call1_call0_call0_c_18
  :: main_call1_call0_call0_v75
  :: main_call1_call0_call0_v76
  :: main_call1_call0_call0_c_19
  :: main_call1_call0_call0_v77
  :: main_call1_call0_call0_v78
  :: main_call1_call0_call0_v79
  :: main_call1_call0_call0_v80
  :: main_call1_call0_call0_v81
  :: main_call1_call0_call0_c_20
  :: main_call1_call0_call0_v82
  :: main_call1_call0_call0_v83
  :: main_call1_call0_call0_c_21
  :: main_call1_call0_call0_v84
  :: main_call1_call0_call0_v85
  :: main_call1_call0_call0_v86
  :: main_call1_call0_call0_v87
  :: main_call1_call0_call0_v88
  :: main_call1_call0_call0_c_22
  :: main_call1_call0_call0_v89
  :: main_call1_call0_call0_v90
  :: main_call1_call0_call0_c_23
  :: main_call1_call0_call0_v91
  :: main_call1_call0_call0_v92
  :: main_call1_call0_call0_v93
  :: main_call1_call0_call0_v94
  :: main_call1_call0_call0_v95
  :: main_call1_call0_call0_c_24
  :: main_call1_call0_call0_v96
  :: main_call1_call0_call0_v97
  :: main_call1_call0_call0_c_25
  :: main_call1_call0_call0_v98
  :: main_call1_call0_call0_v99
  :: main_call1_call0_call0_v100
  :: main_call1_call0_call0_v101
  :: main_call1_call0_call0_v102
  :: main_call1_call0_call0_v103
  :: main_call1_call0_call0_v104
  :: main_call1_call0_call0_v105
  :: main_call1_call0_call0_c_26
  :: main_call1_call0_call0_v106
  :: main_call1_call0_call0_v107
  :: main_call1_call0_call0_v108
  :: main_call1_call0_call0_c_27
  :: main_call1_call0_call0_v109
  :: main_call1_call0_call0_v110
  :: main_call1_call0_call0_c_28
  :: main_call1_call0_call0_v111
  :: main_call1_call0_call0_v112
  :: main_call1_call0_call0_v113
  :: main_call1_call0_call0_v114
  :: main_call1_call0_call0_v115
  :: main_call1_call0_call0_c_29
  :: main_call1_call0_call0_v116
  :: main_call1_call0_call0_v117
  :: main_call1_call0_call0_c_30
  :: main_call1_call0_call0_v118
  :: main_call1_call0_call0_v119
  :: main_call1_call0_call0_v120
  :: main_call1_call0_call0_v121
  :: main_call1_call0_call0_v122
  :: main_call1_call0_call0_c_31
  :: main_call1_call0_call0_v123
  :: main_call1_call0_call0_v124
  :: main_call1_call0_call0_c_32
  :: main_call1_call0_call0_v125
  :: main_call1_call0_call0_v126
  :: main_call1_call0_call0_v127
  :: main_call1_call0_call0_v128
  :: main_call1_call0_call0_v129
  :: main_call1_call0_call0_c_33
  :: main_call1_call0_call0_v130
  :: main_call1_call0_call0_v131
  :: main_call1_call0_call0_c_34
  :: main_call1_call0_call0_v132
  :: main_call1_call0_call0_v133
  :: main_call1_call0_call0_v134
  :: main_call1_call0_call0_v135
  :: main_call1_call0_call0_v136
  :: main_call1_call0_call0_v137
  :: main_call1_call0_call0_v138
  :: main_call1_call0_call0_v139
  :: main_call1_call0_call0_c_35
  :: main_call1_call0_call0_v140
  :: main_call1_call0_call0_v141
  :: main_call1_call0_call0_v142
  :: main_call1_call0_call0_c_36
  :: main_call1_call0_call0_v143
  :: main_call1_call0_call0_v144
  :: main_call1_call0_call0_c_37
  :: main_call1_call0_call0_v145
  :: main_call1_call0_call0_v146
  :: main_call1_call0_call0_v147
  :: main_call1_call0_call0_v148
  :: main_call1_call0_call0_v149
  :: main_call1_call0_call0_c_38
  :: main_call1_call0_call0_v150
  :: main_call1_call0_call0_v151
  :: main_call1_call0_call0_c_39
  :: main_call1_call0_call0_v152
  :: main_call1_call0_call0_v153
  :: main_call1_call0_call0_v154
  :: main_call1_call0_call0_v155
  :: main_call1_call0_call0_v156
  :: main_call1_call0_call0_c_40
  :: main_call1_call0_call0_v157
  :: main_call1_call0_call0_v158
  :: main_call1_call0_call0_c_41
  :: main_call1_call0_call0_v159
  :: main_call1_call0_call0_v160
  :: main_call1_call0_call0_v161
  :: main_call1_call0_call0_v162
  :: main_call1_call0_call0_v163
  :: main_call1_call0_call0_c_42
  :: main_call1_call0_call0_v164
  :: main_call1_call0_call0_v165
  :: main_call1_call0_call0_c_43
  :: main_call1_call0_call0_v166
  :: main_call1_call0_call0_v167
  :: main_call1_call0_call0_v168
  :: main_call1_call0_call0_v169
  :: main_call1_call0_call0_v170
  :: main_call1_call0_v18_0
  :: main_call1_call0_call0_v172
  :: main_call1_call0_call0_v173
  :: main_call1_call0_call0_c_44
  :: main_call1_call0_call0_v174
  :: main_call1_call0_v18_1
  :: main_call1_call0_v19
  :: main_call1_call0_c_2
  :: main_call1_call0_v20
  :: main_call1_call0_v21
  :: main_call1_call0_c_3
  :: main_call1_call0_v22
  :: main_call1_call0_v23
  :: main_call1_call0_v24
  :: main_call1_call0_cst
  :: main_call1_call0_v25
  :: main_call1_call0_v26
  :: main_call1_call0_v27
  :: main_call1_call0_v28
  :: main_call1_call0_v29
  :: main_call1_call0_v30
  :: main_call1_call0_v31
  :: main_call1_call0_v32
  :: main_call1_v0
  :: main_call1_v1
  :: main_call1_v2
  :: main_call1_v3
  :: main_v13
  :: main_v14
  :: main_call2_v0
  :: main_call2_cst
  :: main_call2_c
  :: main_call2_v1_0
  :: main_v15
  :: main_call3_v0
  :: main_call3_v1
  :: main_call3_v2
  :: main_call3_v3
  :: main_call3_v4
  :: main_v16
  :: main_cst
  :: main_v17
  :: main_cst_2
  :: main_v18
  :: main_v19
  :: main_v20
  :: [] )

open StableHlo (seq seqK seq_append seq_bind_seqK)

/-- The type of the reference's programs. -/
abbrev MainT (F : FTy → Type) [FloatOps F] : Type 1 :=
  Prog (TpuEff nD τ sig (Elt F) (Pipeline.Sig Λ₀ (Fin 0) fun p => (pcfgs (F := F) p).Adm) .tc) PUnit

theorem softmax_eq : (fn_log_softmax.body (.of main_v4) main_call0 : MainT F) = seq opsSoftmax := rfl
theorem rounds0_eq : (fn_threefry2x32.body_part0 main_call1_call0.v4 main_call1_call0.v6 main_call1_call0.v17 main_call1_call0.v16
    main_call1_call0_call0 : MainT F) = seq opsRounds0 := rfl
theorem rounds1_eq : (fn_threefry2x32.body_part1 main_call1_call0.v4 main_call1_call0.v6 main_call1_call0.v17 main_call1_call0.v16
    main_call1_call0_call0 : MainT F) = seq opsRounds1 := rfl
theorem rounds2_eq : (fn_threefry2x32.body_part2 main_call1_call0.v4 main_call1_call0.v6 main_call1_call0.v17 main_call1_call0.v16
    main_call1_call0_call0 : MainT F) = seq opsRounds2 := rfl
theorem rounds3_eq : (fn_threefry2x32.body_part3 main_call1_call0.v4 main_call1_call0.v6 main_call1_call0.v17 main_call1_call0.v16
    main_call1_call0_call0 : MainT F) = seq opsRounds3 := rfl
theorem argmax_eq : (fn_argmax.body (.of main_v14) main_call2 : MainT F) = seq opsArgmax := rfl
theorem oneHot_eq : (fn_one_hot.body (.of main_v15) main_call3 : MainT F) = seq opsOneHot := rfl

/-- The rounds are their four parts. -/
theorem rounds_eq : (fn_threefry2x32.body main_call1_call0.v4 main_call1_call0.v6 main_call1_call0.v17 main_call1_call0.v16
    main_call1_call0_call0 : MainT F) = seq (opsRounds0 ++ (opsRounds1 ++ (opsRounds2 ++ opsRounds3))) := by
  rw [seq_append, seq_append, seq_append, ← rounds0_eq, ← rounds1_eq, ← rounds2_eq, ← rounds3_eq]
  rfl

/-- The uniform draw: the counters, the rounds, the floats. -/
theorem uniform_eq : (fn_uniform.body (.of main_v12) main_call1.cst main_call1.cst_0 main_call1_call0 : MainT F)
    = seq (opsUniform0 ++ (opsRounds0 ++ (opsRounds1 ++ (opsRounds2 ++ (opsRounds3 ++ opsUniform1))))) := by
  have h : (fn_uniform.body (.of main_v12) main_call1.cst main_call1.cst_0 main_call1_call0 : MainT F)
      = seqK opsUniform0 (fn_threefry2x32.body main_call1_call0.v4 main_call1_call0.v6 main_call1_call0.v17
          main_call1_call0.v16 main_call1_call0_call0 >>= fun _ => seq opsUniform1) := rfl
  rw [h, rounds_eq, ← seq_bind_seqK, ← seq_append, ← seq_append]
  simp only [List.append_assoc]

/-- The Gumbel draw. -/
theorem gumbel_eq : (fn_gumbel.body (.of main_v12) main_call1 : MainT F)
    = seq (opsGumbel0 ++ (opsUniform0 ++ (opsRounds0 ++ (opsRounds1 ++ (opsRounds2 ++ (opsRounds3
      ++ (opsUniform1 ++ opsGumbel1))))))) := by
  have h : (fn_gumbel.body (.of main_v12) main_call1 : MainT F)
      = seqK opsGumbel0 (fn_uniform.body (.of main_v12) main_call1.cst main_call1.cst_0 main_call1_call0
          >>= fun _ => seq opsGumbel1) := rfl
  rw [h, uniform_eq, ← seq_bind_seqK, ← seq_append, ← seq_append]
  simp only [List.append_assoc]

/-- The reference runs exactly these operations. -/
theorem main_eq (c : Dev nD) : main (F := F) c = seq ops := by
  have h : main (F := F) c = seqK opsPre (fn_log_softmax.body (.of main_v4) main_call0 >>= fun _ =>
      seqK opsKey (fn_gumbel.body (.of main_v12) main_call1 >>= fun _ =>
        seqK opsAdd (fn_argmax.body (.of main_v14) main_call2 >>= fun _ =>
          (fn_one_hot.body (.of main_v15) main_call3 >>= fun _ => seq opsEnd)))) := rfl
  rw [h, softmax_eq, gumbel_eq, argmax_eq, oneHot_eq]
  simp only [← seq_bind_seqK, ← seq_append, List.append_assoc]

set_option maxRecDepth 100000 in
/-- Each operation writes one buffer, as listed. -/
theorem ops_writes : (ops : List (HloOp τ sig (Elt F))).map HloOp.writes
    = outs.map fun w => {Proc.devRef (τ := τ) .tc w} := rfl

set_option maxRecDepth 100000 in
/-- No operation has an unstated result. -/
theorem ops_fresh : (ops : List (HloOp τ sig (Elt F))).Forall fun op => op.fresh = ∅ :=
  StableHlo.forall_fresh_of_map rfl

end Cert.ReferenceIdeal.Hand
-- ==== Proof.Line.lean ====
/-
  A straight line of host operations in which every buffer is written once, in the order of its number: what each
  operation leaves stays to the end, so the final contents satisfy one equation per operation.
-/
module

public import Idealize.ShloMosaic.Lib.StableHlo.RunRead

@[expose] public section

noncomputable section

namespace Cert.Line

open Idealize.ShloMosaic Idealize.ShloMosaic.TcCoe Idealize.ShloMosaic.StableHlo

variable {τ : Topo} {sig : RefSig} {Val : EltTy → Type}

/-- The line `ops` writes the buffers `W`, one per operation, numbered upwards from `k`. -/
structure Ordered (ops : List (HloOp τ sig Val)) (W : List (Ref sig .tc)) (k : ℕ) : Prop where
  writes : ops.map HloOp.writes = W.map fun w => {Proc.devRef (τ := τ) .tc w}
  number : W.map (fun w => w.idx.val) = List.range' k W.length

variable {ops : List (HloOp τ sig Val)} {W : List (Ref sig .tc)} {k : ℕ}

/-- A buffer numbered below operation `n`'s is not written from there on. -/
theorem Ordered.not_mem (h : Ordered ops W k) {n : ℕ} {a : Ref sig .tc} (ha : a.idx.val < k + n) : a ∉ W.drop n := by
  intro hm
  have h1 : a.idx.val ∈ (W.drop n).map (fun w => w.idx.val) := List.mem_map_of_mem hm
  rw [List.map_drop, h.number, List.drop_range'] at h1
  have := (List.mem_range'_1.mp h1).1
  omega

/-- What such a buffer holds after the first `n` operations it holds at the end. -/
theorem Ordered.keep (h : Ordered ops W k) {n : ℕ} {a : Ref sig .tc} (ha : a.idx.val < k + n)
    (V : Valuation τ sig Val) : upto ops V n (Proc.devRef .tc a) = after ops V (Proc.devRef .tc a) := by
  have hW : (ops.drop n).map HloOp.writes = (W.drop n).map fun w => {Proc.devRef (τ := τ) .tc w} := by
    rw [List.map_drop, h.writes, List.map_drop]
  have e := after_of_writes_sub (ops.drop n) (upto ops V n) (forall_writes_sub_of_map hW) (h.not_mem ha)
  rw [← e, upto]
  have hap : ∀ (l₁ l₂ : List (HloOp τ sig Val)) (V : Valuation τ sig Val), after (l₁ ++ l₂) V = after l₂ (after l₁ V) := by
    intro l₁
    induction l₁ with
    | nil => intro l₂ V; rfl
    | cons o l ih => intro l₂ V; exact ih l₂ _
  rw [← hap, List.take_append_drop]

/-- A buffer numbered below all of them holds at the end what it held at the start. -/
theorem Ordered.start (h : Ordered ops W k) {a : Ref sig .tc} (ha : a.idx.val < k) (V : Valuation τ sig Val) :
    after ops V (Proc.devRef .tc a) = V (Proc.devRef .tc a) :=
  (h.keep (n := 0) ha V).symm

/-- Operation `i`'s own result, at the end. -/
theorem Ordered.at_op (h : Ordered ops W k) {i : ℕ} {op : HloOp τ sig Val} (hi : ops[i]? = some op) {y : Ref sig .tc}
    (hy : y.idx.val < k + (i + 1)) (V : Valuation τ sig Val) :
    after ops V (Proc.devRef .tc y) = op.result (upto ops V i) (Proc.devRef .tc y) := by
  rw [← h.keep hy V, upto, upto]
  obtain ⟨hl, rfl⟩ := List.getElem?_eq_some_iff.mp hi
  have hap : ∀ (l₁ l₂ : List (HloOp τ sig Val)) (V : Valuation τ sig Val), after (l₁ ++ l₂) V = after l₂ (after l₁ V) := by
    intro l₁
    induction l₁ with
    | nil => intro l₂ V; rfl
    | cons o l ih => intro l₂ V; exact ih l₂ _
  rw [List.take_succ_eq_append_getElem hl, hap]
  rfl

variable {x a b y : Ref sig .tc}

theorem Ordered.nullary (h : Ordered ops W k) (i : ℕ) {v : y.ty.Contents Val} {hy}
    (hi : ops[i]? = some (StableHlo.nullary y v hy)) (ny : y.idx.val < k + (i + 1)) (V : Valuation τ sig Val) :
    after ops V (Proc.devRef .tc y) = v := by
  rw [h.at_op hi ny V, nullary_result']

theorem Ordered.unary (h : Ordered ops W k) (i : ℕ) {f : x.ty.Contents Val → y.ty.Contents Val} {hx hy}
    (hi : ops[i]? = some (StableHlo.unary x y f hx hy)) (ny : y.idx.val < k + (i + 1)) (nx : x.idx.val < k + i)
    (V : Valuation τ sig Val) :
    after ops V (Proc.devRef .tc y) = f (after ops V (Proc.devRef .tc x)) := by
  rw [h.at_op hi ny V, unary_result', h.keep nx V]

theorem Ordered.binary (h : Ordered ops W k) (i : ℕ) {f : a.ty.Contents Val → b.ty.Contents Val → y.ty.Contents Val}
    {ha hb hy} (hi : ops[i]? = some (StableHlo.binary a b y f ha hb hy)) (ny : y.idx.val < k + (i + 1))
    (na : a.idx.val < k + i) (nb : b.idx.val < k + i) (V : Valuation τ sig Val) :
    after ops V (Proc.devRef .tc y) = f (after ops V (Proc.devRef .tc a)) (after ops V (Proc.devRef .tc b)) := by
  rw [h.at_op hi ny V, binary_result', h.keep na V, h.keep nb V]

theorem Ordered.quaternary (h : Ordered ops W k) (i : ℕ) {c e : Ref sig .tc}
    {f : a.ty.Contents Val → b.ty.Contents Val → c.ty.Contents Val → e.ty.Contents Val → y.ty.Contents Val}
    {ha hb hc he hy} (hi : ops[i]? = some (StableHlo.quaternary a b c e y f ha hb hc he hy)) (ny : y.idx.val < k + (i + 1))
    (na : a.idx.val < k + i) (nb : b.idx.val < k + i) (nc : c.idx.val < k + i) (ne : e.idx.val < k + i)
    (V : Valuation τ sig Val) :
    after ops V (Proc.devRef .tc y) = f (after ops V (Proc.devRef .tc a)) (after ops V (Proc.devRef .tc b))
      (after ops V (Proc.devRef .tc c)) (after ops V (Proc.devRef .tc e)) := by
  rw [h.at_op hi ny V, quaternary_result', h.keep na V, h.keep nb V, h.keep nc V, h.keep ne V]

theorem Ordered.reshape (h : Ordered ops W k) (i : ℕ) {he hn hx hy}
    (hi : ops[i]? = some (StableHlo.reshape x y he hn hx hy)) (ny : y.idx.val < k + (i + 1)) (nx : x.idx.val < k + i)
    (V : Valuation τ sig Val) :
    after ops V (Proc.devRef .tc y)
      = fun j => he ▸ shapeCast y.ty.shape (after ops V (Proc.devRef .tc x)) hn j := by
  rw [h.at_op hi ny V, reshape_result', h.keep nx V]

end Cert.Line
-- ==== Proof.RefRun.lean ====
/-
  The reference's run: from any memory it ends with every counter at zero and every buffer at the operations' results
  folded over the starting contents; the arguments are written by no operation, so they end as they began.
-/
module

public import proofs.«01_k».proof.Proof.RefOps
public import proofs.«01_k».proof.Proof.Line
public import Idealize.ShloMosaic.Lib.Quiescent

@[expose] public section

noncomputable section

namespace Cert.ReferenceIdeal.Hand

open Cert.ReferenceIdeal Cert.ReferenceIdeal.Gen
open Idealize.ShloMosaic Idealize.ShloMosaic.TcCoe Idealize.SL.Sem

variable {F : FTy → Type} [FloatOps F]

set_option maxRecDepth 100000 in
set_option maxHeartbeats 4000000 in
/-- The operations touch no other buffers than the program's own. -/
theorem ops_sub : (ops : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.unary_bufs_sub .., StableHlo.binary_bufs_sub .., StableHlo.nullary_bufs_sub .., StableHlo.nullary_bufs_sub .., StableHlo.binary_bufs_sub .., StableHlo.unary_bufs_sub .., StableHlo.unary_bufs_sub .., StableHlo.nullary_bufs_sub .., StableHlo.binary_bufs_sub .., StableHlo.unary_bufs_sub .., StableHlo.unary_bufs_sub .., StableHlo.binary_bufs_sub .., StableHlo.nullary_bufs_sub .., StableHlo.nullary_bufs_sub .., StableHlo.unary_bufs_sub .., StableHlo.unary_bufs_sub .., StableHlo.unary_bufs_sub .., StableHlo.unary_bufs_sub .., StableHlo.reshape_bufs_sub .., StableHlo.unary_bufs_sub .., StableHlo.reshape_bufs_sub .., StableHlo.nullary_bufs_sub .., StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.unary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.nullary_bufs_sub .., StableHlo.nullary_bufs_sub .., StableHlo.nullary_bufs_sub .., StableHlo.quaternary_bufs_sub .., StableHlo.quaternary_bufs_sub .., StableHlo.unary_bufs_sub .., StableHlo.nullary_bufs_sub .., StableHlo.unary_bufs_sub .., StableHlo.unary_bufs_sub .., StableHlo.binary_bufs_sub .., StableHlo.unary_bufs_sub .., StableHlo.nullary_bufs_sub .., StableHlo.unary_bufs_sub .., StableHlo.nullary_bufs_sub .., StableHlo.unary_bufs_sub .., StableHlo.binary_bufs_sub .., StableHlo.binary_bufs_sub ..⟩

theorem scopedRefs_eq : (Finset.univ.filter fun b : Ref sig .tc => b.isScoped) = ∅ := by
  rw [Finset.filter_eq_empty_iff]
  rintro ⟨sp, i, h⟩ -
  cases sp <;> first | exact Bool.false_ne_true | exact (Fin.elim0 i) | cases h

theorem scopedSems_eq : (Finset.univ.filter fun sm : SemLoc sig => sm.isScoped .tc) = ∅ := by decide

/-- The reference's run. -/
theorem run_ops (m : (ℓ : Loc nD τ sig) → Buf (Elt F) ℓ) (ρ : Dev nD → PrngReg) :
    θ_run defs (onTc main) ⟨m, fun _ => 0, ρ⟩ fun r =>
      ∀ (c : Dev nD) (b : Ref sig .tc),
        r.2.mem ((c.tc : Thread nD τ).loc b) = StableHlo.after ops (StableHlo.launchContents m c) (Proc.devRef .tc b) :=
  StableHlo.run_seq scopedRefs_eq scopedSems_eq defs main (fun _ => ops) main_eq (fun _ => ops_sub) m ρ
    fun _ => (List.forall_iff_forall_mem.mp ops_fresh)

set_option maxRecDepth 100000 in
/-- The buffers are written once each, in the order of their numbers. -/
theorem ordered : Line.Ordered (ops : List (HloOp τ sig (Elt F))) outs 3 := ⟨ops_writes, by rfl⟩

/-- The arguments end as they began, and no counter is left up. -/
theorem frame_ref (m : (ℓ : Loc nD τ sig) → Buf (Elt F) ℓ) (ρ : Dev nD → PrngReg) :
    θ_run defs (onTc main) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  (θ_run defs _ _).mono (fun r h =>
    ⟨fun c => ⟨(h c main_arg0).trans (ordered.start (by decide) _), (h c main_arg1).trans (ordered.start (by decide) _),
      (h c main_arg2).trans (ordered.start (by decide) _)⟩, sem_eq_zero_of_no_sems (by decide) r.2⟩) (run_ops m ρ)

end Cert.ReferenceIdeal.Hand
-- ==== Proof.Online.lean ====
/-
  One row, as plain mathematics over the extended reals: the logits `x 0 … x (N-1)` and `-∞` beyond them; the sum of
  exponentials kept along a running maximum; the first place of the largest value kept block by block; and the same
  place found by comparing all the values pair by pair.
-/
module

public import Idealize.ShloMosaic.PureOps.Ideal
public import Mathlib.Analysis.SpecialFunctions.Log.Basic

@[expose] public section

noncomputable section

namespace Cert.Online

open Idealize.ShloMosaic

/-! ## The sum of exponentials along a running maximum -/

/-- The logits, `-∞` from `N` on. -/
def logit (N : ℕ) (x : ℕ → ℝ) (n : ℕ) : EReal := if n < N then (x n : EReal) else ⊥

/-- The exponential of a logit less `M`, nothing from `N` on. -/
def weight (N : ℕ) (x : ℕ → ℝ) (M : ℝ) (n : ℕ) : ℝ := if n < N then Real.exp (x n - M) else 0

/-- The logarithm of the sum of the logits' exponentials. -/
def lse (N : ℕ) (x : ℕ → ℝ) : ℝ := Real.log (∑ n ∈ Finset.range N, Real.exp (x n))

variable {N : ℕ} {x : ℕ → ℝ}

theorem exp_logit (M : ℝ) (n : ℕ) : Ideal.exp (logit N x n - (M : EReal)) = (weight N x M n : EReal) := by
  unfold logit weight
  split
  · rw [← EReal.coe_sub]; rfl
  · rw [EReal.bot_sub]; rfl

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem weight_rescale (M M' : ℝ) (n : ℕ) : weight N x M n * Real.exp (M - M') = weight N x M' n := by
  unfold weight
  split
  · rw [← Real.exp_add]; congr 1; ring
  · simp

/-- After `k` columns: `m` is some real number and `s` the sum of the exponentials less it. -/
def SoftAt (N : ℕ) (x : ℕ → ℝ) (k : ℕ) (m s : EReal) : Prop :=
  ∃ M : ℝ, m = (M : EReal) ∧ s = ((∑ n ∈ Finset.range k, weight N x M n : ℝ) : EReal)

theorem sum_block (b k : ℕ) (M : ℝ) :
    ∑ c : Fin b, Ideal.exp (logit N x (k + c.val) - (M : EReal))
      = ((∑ c ∈ Finset.range b, weight N x M (k + c) : ℝ) : EReal) := by
  rw [← Fin.sum_univ_eq_sum_range (fun c => weight N x M (k + c)), ← coe_sum]
  exact Finset.sum_congr rfl fun c _ => exp_logit M _

theorem logit_lt_top (n : ℕ) : logit N x n < ⊤ := by
  unfold logit; split
  · exact EReal.coe_lt_top _
  · exact bot_lt_top

/-- The maximum of the first block is a real number, and the sum starts at it. -/
theorem SoftAt.first {b : ℕ} (hN : 0 < N) (hb : 0 < b) {p s : EReal}
    (hp : p = (Finset.univ : Finset (Fin b)).fold max ⊥ fun c => logit N x (0 + c.val))
    (hs : s = ∑ c : Fin b, Ideal.exp (logit N x (0 + c.val) - p)) : SoftAt N x b p s := by
  have h1 : p < ⊤ := by
    rw [hp, Finset.fold_max_lt]; exact ⟨bot_lt_top, fun c _ => logit_lt_top _⟩
  have h2 : ⊥ < p := by
    rw [hp, Finset.lt_fold_max]
    refine Or.inr ⟨⟨0, hb⟩, Finset.mem_univ _, ?_⟩
    simp only [logit, Nat.zero_add, if_pos hN]
    exact EReal.bot_lt_coe _
  lift p to ℝ using ⟨h1.ne, h2.ne'⟩
  refine ⟨p, rfl, ?_⟩
  rw [hs, sum_block]
  simp only [Nat.zero_add]

/-- A later block: the maximum grows, the sum so far is scaled to it and the block's added. -/
theorem SoftAt.later {b k : ℕ} {m s p m' s' : EReal} (h : SoftAt N x k m s)
    (hp : p = (Finset.univ : Finset (Fin b)).fold max ⊥ fun c => logit N x (k + c.val)) (hm : m' = max m p)
    (hs : s' = s * Ideal.exp (m - m') + ∑ c : Fin b, Ideal.exp (logit N x (k + c.val) - m')) :
    SoftAt N x (k + b) m' s' := by
  obtain ⟨M, rfl, rfl⟩ := h
  have h1 : m' < ⊤ := by
    rw [hm, hp, max_lt_iff, Finset.fold_max_lt]
    exact ⟨EReal.coe_lt_top _, bot_lt_top, fun c _ => logit_lt_top _⟩
  have h2 : ⊥ < m' := by rw [hm]; exact lt_max_of_lt_left (EReal.bot_lt_coe _)
  lift m' to ℝ using ⟨h1.ne, h2.ne'⟩
  refine ⟨m', rfl, ?_⟩
  rw [hs, sum_block, ← EReal.coe_sub]
  show ((_ : ℝ) : EReal) * ((Real.exp (M - m') : ℝ) : EReal) + _ = _
  rw [← EReal.coe_mul, ← EReal.coe_add, Finset.sum_mul, Finset.sum_range_add]
  simp only [weight_rescale]

theorem sum_weight {k : ℕ} (hk : N ≤ k) (M : ℝ) :
    ∑ n ∈ Finset.range k, weight N x M n = ∑ n ∈ Finset.range N, Real.exp (x n - M) := by
  rw [← Finset.sum_subset (Finset.range_mono hk) (f := weight N x M)]
  · exact Finset.sum_congr rfl fun n hn => if_pos (Finset.mem_range.mp hn)
  · intro n _ hn; exact if_neg fun h => hn (Finset.mem_range.mpr h)

theorem lse_eq (hN : 0 < N) (M : ℝ) : M + Real.log (∑ n ∈ Finset.range N, Real.exp (x n - M)) = lse N x := by
  have hpos : 0 < ∑ n ∈ Finset.range N, Real.exp (x n - M) :=
    Finset.sum_pos (fun n _ => Real.exp_pos _) ⟨0, Finset.mem_range.mpr hN⟩
  unfold lse
  have e : ∑ n ∈ Finset.range N, Real.exp (x n) = Real.exp M * ∑ n ∈ Finset.range N, Real.exp (x n - M) := by
    rw [Finset.mul_sum]
    refine Finset.sum_congr rfl fun n _ => ?_
    rw [← Real.exp_add]; congr 1; ring
  rw [e, Real.log_mul (Real.exp_pos _).ne' hpos.ne', Real.log_exp]

theorem log_sum (hN : 0 < N) (M : ℝ) :
    Ideal.log ((∑ n ∈ Finset.range N, Real.exp (x n - M) : ℝ) : EReal)
      = ((Real.log (∑ n ∈ Finset.range N, Real.exp (x n - M)) : ℝ) : EReal) := by
  have hpos : 0 < ∑ n ∈ Finset.range N, Real.exp (x n - M) :=
    Finset.sum_pos (fun n _ => Real.exp_pos _) ⟨0, Finset.mem_range.mpr hN⟩
  exact if_neg (not_le.mpr hpos)

/-- Once all the logits are in: the maximum plus the logarithm of the sum is the logarithm of the sum of exponentials. -/
theorem SoftAt.lse {k : ℕ} (hN : 0 < N) (hk : N ≤ k) {m s : EReal} (h : SoftAt N x k m s) :
    m + Ideal.log s = (Online.lse N x : EReal) := by
  obtain ⟨M, rfl, rfl⟩ := h
  rw [sum_weight hk, log_sum hN, ← EReal.coe_add, lse_eq hN]

/-- The direct way: less the maximum, less the logarithm of the sum of exponentials of what remains. -/
theorem direct (hN : 0 < N) {p s : EReal}
    (hp : p = max ⊥ ((Finset.univ : Finset (Fin N)).fold max ⊥ fun c => ((x c.val : ℝ) : EReal)))
    (hs : s = 0 + ∑ c : Fin N, Ideal.exp (((x c.val : ℝ) : EReal) - p)) {n : ℕ} :
    ((x n : ℝ) : EReal) - p - Ideal.log s = (x n : EReal) - (lse N x : EReal) := by
  have h1 : p < ⊤ := by
    rw [hp, max_lt_iff, Finset.fold_max_lt]; exact ⟨bot_lt_top, bot_lt_top, fun c _ => EReal.coe_lt_top _⟩
  have h2 : ⊥ < p := by
    rw [hp]
    refine lt_max_of_lt_right ?_
    rw [Finset.lt_fold_max]
    exact Or.inr ⟨⟨0, hN⟩, Finset.mem_univ _, EReal.bot_lt_coe _⟩
  lift p to ℝ using ⟨h1.ne, h2.ne'⟩
  have e : s = ((∑ n ∈ Finset.range N, Real.exp (x n - p) : ℝ) : EReal) := by
    rw [hs, zero_add, ← Fin.sum_univ_eq_sum_range (fun c => Real.exp (x c - p)), ← coe_sum]
    refine Finset.sum_congr rfl fun c _ => ?_
    rw [← EReal.coe_sub]; rfl
  rw [e, log_sum hN, ← lse_eq hN p, ← EReal.coe_sub, ← EReal.coe_sub, ← EReal.coe_sub]
  congr 1; ring

/-! ## The first place of the largest value -/

/-- `i` is the first of the places below `k` at which `φ` is largest. -/
def IsFirst (φ : ℕ → EReal) (k i : ℕ) : Prop := i < k ∧ (∀ j < k, φ j ≤ φ i) ∧ ∀ j < i, φ j < φ i

theorem IsFirst.unique {φ : ℕ → EReal} {k i i' : ℕ} (h : IsFirst φ k i) (h' : IsFirst φ k i') : i = i' := by
  rcases lt_trichotomy i i' with hl | he | hl
  · exact absurd (h'.2.2 i hl) (not_lt.mpr (h.2.1 i' h'.1))
  · exact he
  · exact absurd (h.2.2 i' hl) (not_lt.mpr (h'.2.1 i h.1))

theorem IsFirst.congr {φ ψ : ℕ → EReal} {k i : ℕ} (h : IsFirst φ k i)
    (hle : ∀ a < k, ∀ b < k, φ a ≤ φ b ↔ ψ a ≤ ψ b) : IsFirst ψ k i :=
  ⟨h.1, fun j hj => (hle j hj i h.1).mp (h.2.1 j hj), fun j hj =>
    not_le.mp fun hc => not_le.mpr (h.2.2 j hj) ((hle i h.1 j (hj.trans h.1)).mpr hc)⟩

/-- Places beyond the values' end, at `-∞`, change nothing. -/
theorem IsFirst.shrink {φ : ℕ → EReal} {k k' i : ℕ} (h : IsFirst φ k i) (h0 : 0 < k') (hk : k' ≤ k)
    (hb : ∀ j, k' ≤ j → φ j = ⊥) : IsFirst φ k' i := by
  refine ⟨?_, fun j hj => h.2.1 j (hj.trans_le hk), h.2.2⟩
  by_contra hc
  have := h.2.2 0 (h0.trans_le (not_lt.mp hc))
  rw [hb i (not_lt.mp hc)] at this
  exact not_lt_bot this

/-- Joining a block on: the block's place where its value is strictly larger, else the old one. -/
theorem IsFirst.join {φ : ℕ → EReal} {k b i c : ℕ} (h : IsFirst φ k i) (h' : IsFirst (fun c => φ (k + c)) b c) :
    IsFirst φ (k + b) (if φ i < φ (k + c) then k + c else i) := by
  obtain ⟨h1, h2, h3⟩ := h
  obtain ⟨g1, g2, g3⟩ := h'
  split
  · rename_i hlt
    refine ⟨by omega, fun j hj => ?_, fun j hj => ?_⟩
    · rcases Nat.lt_or_ge j k with hjk | hjk
      · exact (h2 j hjk).trans hlt.le
      · have := g2 (j - k) (by omega); simpa [Nat.add_sub_cancel' hjk] using this
    · rcases Nat.lt_or_ge j k with hjk | hjk
      · exact (h2 j hjk).trans_lt hlt
      · have := g3 (j - k) (by omega); simpa [Nat.add_sub_cancel' hjk] using this
  · rename_i hlt
    refine ⟨by omega, fun j hj => ?_, h3⟩
    rcases Nat.lt_or_ge j k with hjk | hjk
    · exact h2 j hjk
    · have := g2 (j - k) (by omega)
      simp only [Nat.add_sub_cancel' hjk] at this
      exact this.trans (not_lt.mp hlt)

theorem exists_first (φ : ℕ → EReal) {k : ℕ} (hk : 0 < k) : ∃ i, IsFirst φ k i := by
  induction k with
  | zero => omega
  | succ k ih =>
    have hone : IsFirst (fun c => φ (k + c)) 1 0 :=
      ⟨by omega, fun j hj => by obtain rfl : j = 0 := by omega
                                exact le_refl _, fun j hj => by omega⟩
    rcases Nat.eq_zero_or_pos k with rfl | h0
    · exact ⟨0, by simpa using hone⟩
    · obtain ⟨i, hi⟩ := ih h0
      exact ⟨_, hi.join hone⟩

theorem IsFirst.fold_max {φ : ℕ → EReal} {b c : ℕ} (h : IsFirst φ b c) :
    ((Finset.univ : Finset (Fin b)).fold max ⊥ fun c => φ c.val) = φ c := by
  refine le_antisymm ?_ ?_
  · rw [Finset.fold_max_le]; exact ⟨bot_le, fun j _ => h.2.1 j.val j.isLt⟩
  · rw [Finset.le_fold_max]; exact Or.inr ⟨⟨c, h.1⟩, Finset.mem_univ _, le_refl _⟩

theorem toInt_ofNat {n : ℕ} (h : n < 2 ^ 31) : (BitVec.ofNat 32 n).toInt = n := by
  rw [BitVec.toInt_eq_toNat_of_lt] <;> simp only [BitVec.toNat_ofNat] <;> omega

theorem minsi_toInt (a b : BitVec 32) : (IntOp.minsi a b).toInt = min a.toInt b.toInt := by
  unfold IntOp.minsi
  simp only [BitVec.slt]
  split <;> rename_i h <;> simp at h <;> omega

/-- The least, among words, of the places of a block that hold its maximum (a large word at the others) is the first. -/
theorem fold_minsi {φ : ℕ → EReal} {N b k c : ℕ} (h : IsFirst (fun c => φ (k + c)) b c) (hc : k + c < N) (hN : N < 2 ^ 31)
    (hkb : k + b < 2 ^ 31) (f : Fin b → BitVec 32)
    (hf : ∀ j : Fin b, f j = if φ (k + j.val) = φ (k + c) then BitVec.ofNat 32 (k + j.val) else BitVec.ofNat 32 N)
    [Std.Commutative (IntOp.minsi (w := 32))] [Std.Associative (IntOp.minsi (w := 32))] :
    (Finset.univ : Finset (Fin b)).fold IntOp.minsi 2147483647#32 f = BitVec.ofNat 32 (k + c) := by
  apply BitVec.eq_of_toInt_eq
  have hkc : (BitVec.ofNat 32 (k + c)).toInt = ((k + c : ℕ) : ℤ) := toInt_ofNat (by omega)
  rw [← Finset.fold_hom (op' := min) (m := BitVec.toInt) minsi_toInt, hkc]
  refine le_antisymm ?_ ?_
  · rw [Finset.fold_min_le]
    refine Or.inr ⟨⟨c, h.1⟩, Finset.mem_univ _, ?_⟩
    rw [hf, if_pos rfl, hkc]
  · rw [Finset.le_fold_min]
    refine ⟨?_, fun j _ => ?_⟩
    · have : (2147483647#32 : BitVec 32).toInt = 2147483647 := by decide
      omega
    · rw [hf]
      split
      · rename_i he
        rw [toInt_ofNat (by have := j.isLt; omega)]
        have : ¬ j.val < c := fun hl => absurd (h.2.2 j.val hl) (by simp only [he]; exact lt_irrefl _)
        omega
      · rw [toInt_ofNat hN]; omega

/-! ## The same place by comparing pairs -/

/-- A fold over pairs (value, place) by a choice that keeps the larger value and, of equal ones, the earlier place, from
    `-∞` at place 0, over a list whose places are those below `N`: the first place of the largest. -/
theorem foldl_first {ι : Type} (op : EReal × BitVec 32 → EReal × BitVec 32 → EReal × BitVec 32)
    (hgt : ∀ a b, b.1 < a.1 → op a b = a) (hlt : ∀ a b, a.1 < b.1 → op a b = b)
    (heq : ∀ a b, a.1 = b.1 → op a b = if a.2.toInt < b.2.toInt then a else b)
    {N : ℕ} (hN : N < 2 ^ 31) (h0 : 0 < N) (ψ : ℕ → EReal) (l : List ι) (idx : ι → ℕ) (hi : ∀ i ∈ l, idx i < N)
    (hs : ∀ n < N, ∃ i ∈ l, idx i = n) :
    ∃ n, IsFirst ψ N n
      ∧ (l.foldl (fun acc i => op acc (ψ (idx i), BitVec.ofNat 32 (idx i))) (⊥, 0#32)).2 = BitVec.ofNat 32 n := by
  have key : ∀ (l' : List ι) (seen : ι → Prop) (acc : EReal × BitVec 32), (∀ i ∈ l', idx i < N) →
      (∀ i, seen i → idx i < N) →
      (∀ i, seen i → ψ (idx i) ≤ acc.1 ∧ (ψ (idx i) = acc.1 → acc.2.toInt ≤ idx i)) →
      (acc = (⊥, 0#32) ∨ ∃ i, seen i ∧ acc = (ψ (idx i), BitVec.ofNat 32 (idx i))) →
      let r := l'.foldl (fun acc i => op acc (ψ (idx i), BitVec.ofNat 32 (idx i))) acc
      (∀ i, (seen i ∨ i ∈ l') → ψ (idx i) ≤ r.1 ∧ (ψ (idx i) = r.1 → r.2.toInt ≤ idx i)) ∧
      (r = (⊥, 0#32) ∨ ∃ i, (seen i ∨ i ∈ l') ∧ r = (ψ (idx i), BitVec.ofNat 32 (idx i))) := by
    intro l'
    induction l' with
    | nil =>
      intro seen acc _ _ h1 h2
      simpa using ⟨h1, h2⟩
    | cons a l' ih =>
      intro seen acc hl hse h1 h2
      have ha := hl a List.mem_cons_self
      have hta : (BitVec.ofNat 32 (idx a)).toInt = idx a := toInt_ofNat (by omega)
      have hnew := ih (fun i => seen i ∨ i = a) (op acc (ψ (idx a), BitVec.ofNat 32 (idx a)))
        (fun i hi => hl i (List.mem_cons_of_mem _ hi))
        (fun i hi => hi.elim (hse i) fun e => e ▸ ha)
        (by
          intro i hi
          rcases lt_trichotomy acc.1 (ψ (idx a)) with hc | hc | hc
          · rw [hlt _ _ hc]
            rcases hi with hi | rfl
            · exact ⟨(h1 i hi).1.trans hc.le, fun e => absurd ((h1 i hi).1.trans_lt hc) (by simp only [e]; exact lt_irrefl _)⟩
            · exact ⟨le_refl _, fun _ => hta.le⟩
          · rw [heq _ _ hc]
            split <;> rename_i hcm <;> simp only [hta] at hcm
            · rcases hi with hi | rfl
              · exact h1 i hi
              · exact ⟨hc.ge, fun _ => hcm.le⟩
            · rcases hi with hi | rfl
              · refine ⟨(h1 i hi).1.trans hc.le, fun e => ?_⟩
                have := (h1 i hi).2 (e.trans hc.symm)
                simp only [hta]; omega
              · exact ⟨le_refl _, fun _ => hta.le⟩
          · rw [hgt _ _ hc]
            rcases hi with hi | rfl
            · exact h1 i hi
            · exact ⟨hc.le, fun e => absurd hc (by simp only [e]; exact lt_irrefl _)⟩)
        (by
          rcases lt_trichotomy acc.1 (ψ (idx a)) with hc | hc | hc
          · rw [hlt _ _ hc]; exact Or.inr ⟨a, Or.inr rfl, rfl⟩
          · rw [heq _ _ hc]
            split
            · exact h2.imp id fun ⟨i, hi, e⟩ => ⟨i, Or.inl hi, e⟩
            · exact Or.inr ⟨a, Or.inr rfl, rfl⟩
          · rw [hgt _ _ hc]
            exact h2.imp id fun ⟨i, hi, e⟩ => ⟨i, Or.inl hi, e⟩)
      simpa only [List.foldl_cons, List.mem_cons, or_assoc] using hnew
  obtain ⟨h1, h2⟩ := key l (fun _ => False) (⊥, 0#32) hi (fun _ h => h.elim) (fun _ h => h.elim) (Or.inl rfl)
  simp only [false_or] at h1 h2
  generalize l.foldl (fun acc i => op acc (ψ (idx i), BitVec.ofNat 32 (idx i))) (⊥, 0#32) = r at h1 h2
  rcases h2 with rfl | ⟨i, hil, rfl⟩
  · refine ⟨0, ⟨h0, fun j hj => ?_, fun j hj => by omega⟩, rfl⟩
    obtain ⟨i, hil, rfl⟩ := hs j hj
    exact (h1 i hil).1.trans bot_le
  · refine ⟨idx i, ⟨hi i hil, fun j hj => ?_, fun j hj => ?_⟩, rfl⟩
    · obtain ⟨i', hil', rfl⟩ := hs j hj
      exact (h1 i' hil').1
    · obtain ⟨i', hil', rfl⟩ := hs j (hj.trans (hi i hil))
      refine lt_of_le_of_ne (h1 i' hil').1 fun e => ?_
      have := (h1 i' hil').2 e
      rw [toInt_ofNat (by have := hi i hil; omega)] at this
      omega

/-- Adding a real number keeps the order. -/
theorem add_coe_le_iff (a b : EReal) (r : ℝ) : a + (r : EReal) ≤ b + (r : EReal) ↔ a ≤ b := by
  have e : ∀ a : EReal, a + (r : EReal) + ((-r : ℝ) : EReal) = a := fun a => by
    rw [add_assoc, ← EReal.coe_add, add_neg_cancel, EReal.coe_zero, add_zero]
  refine ⟨fun h => ?_, fun h => by gcongr⟩
  rw [← e a, ← e b]; gcongr

end Cert.Online
-- ==== Proof.Payload.lean ====
/-
  The kernel's values read at one element, over the extended reals: row `r` and column `c` of a block, or row `r` of a
  column of eight.
-/
module

public import proofs.«01_k».proof.Proof.RunIdeal
public import proofs.«01_k».proof.Proof.Online
public import Idealize.ShloMosaic.Lib.MatmulPlain
public import Idealize.ShloMosaic.Lib.Pointwise.Index
public import Idealize.ShloMosaic.Lib.IdealHost
public import Idealize.ShloMosaic.Lib.Pipeline.Value

@[expose] public section

noncomputable section

namespace Cert.KernelIdeal.Hand

open Cert.KernelIdeal Cert.KernelIdeal.Gen Cert.Online
open Idealize.ShloMosaic

/-- A block's largest value in a row. -/
def rowMax (x : S8x32768.Idx → EReal) (r : Fin 8) : EReal := (Finset.univ : Finset (Fin 32768)).fold max ⊥ fun c => x (ix2 r c)

theorem ofBits_neg_inf : Ideal.ofBits .f32 0xFF800000#32 = ⊥ := by simp [Ideal.ofBits, Ideal.ieee]

/-- The index of row `r`, column `c`, inserted at the dropped axis. -/
theorem lift_row (r : Fin 8) (c : Fin 32768) : reduces_S8x32768_S8.lift (ix1 r) c = ix2 r c :=
  Shape.idx_ext₂ rfl rfl

theorem max_row (x : S8x32768.Idx → EReal) (r : Fin 8) :
    multiReduction (F := Ideal) (φ := .f32) .maximumf [1] S8 x 0xFF800000#32 reduces_S8x32768_S8 (.inl rfl) rfl (ix1 r) = rowMax x r := by
  refine (Ideal.multiReduction_maximumf_single (φ := .f32) (a := 1) x 0xFF800000#32 reduces_S8x32768_S8 (.inl rfl) rfl (ix1 r)).trans ?_
  show (Finset.univ : Finset (Fin 32768)).fold max (Ideal.ofBits .f32 0xFF800000#32) (fun c => x (reduces_S8x32768_S8.lift (ix1 r) c)) = _
  rw [ofBits_neg_inf]
  exact congrArg (fun f => (Finset.univ : Finset (Fin 32768)).fold max ⊥ f) (funext fun c => congrArg x (lift_row r c))

theorem sum_row (x : S8x32768.Idx → EReal) (r : Fin 8) :
    multiReduction (F := Ideal) (φ := .f32) .add [1] S8 x 0x00000000#32 reduces_S8x32768_S8 (.inl rfl) rfl (ix1 r) = ∑ c : Fin 32768, x (ix2 r c) := by
  refine (Ideal.multiReduction_add_single (φ := .f32) (a := 1) x 0x00000000#32 reduces_S8x32768_S8 (.inl rfl) rfl (ix1 r)).trans ?_
  exact Finset.sum_congr rfl fun c _ => congrArg x (lift_row r c)

/-- A column of eight made of a vector of eight. -/
theorem col_at {α : Type} (x : S8.Idx → α) (r : Fin 8) : shapeCast S8x1 x shapeCasts_S8_S8x1 (ix2 r 0) = x (ix1 r) :=
  shapeCast_apply x _ _ _ (by rw [Shape.rowMajor_val_one, Shape.rowMajor_val_two]; show r.val = r.val * 1 + 0; omega)

/-- A column of eight spread over a block. -/
theorem spread_at {α : Type} (x : S8x1.Idx → α) (r : Fin 8) (c : Fin 32768) :
    broadcastTo S8x32768 x broadcasts_S8x1_S8x32768 (ix2 r c) = x (ix2 r 0) :=
  broadcastTo_apply x _ _ _ fun a => match a with | ⟨0, _⟩ => rfl | ⟨1, _⟩ => rfl

/-- A row spread over a block. -/
theorem down_at {α : Type} (x : S1x32768.Idx → α) (r : Fin 8) (c : Fin 32768) :
    broadcastTo S8x32768 x broadcasts_S1x32768_S8x32768 (ix2 r c) = x (ix2 0 c) :=
  broadcastTo_apply x _ _ _ fun a => match a with | ⟨0, _⟩ => rfl | ⟨1, _⟩ => rfl

variable (v38 v43 : S8x32768.Idx → EReal) (v44 : S8.Idx → EReal) (m s l bv : S8x1.Idx → EReal) (bi : S8x1.Idx → BitVec 32)
  (cols : S8x32768.Idx → BitVec 32) (r : Fin 8)

theorem pay2_at : k0_pay2 (F := Ideal) v43 (ix2 r 0) = rowMax v43 r := by
  unfold k0_pay2; exact (col_at _ r).trans (max_row v43 r)

theorem pay4_at : k0_pay4 (F := Ideal) v44 (ix2 r 0) = v44 (ix1 r) := by
  unfold k0_pay4 k0_pay1; rw [shapeCast_self]; exact col_at _ r

theorem pay5_at : k0_pay5 (F := Ideal) v38 v44 (ix2 r 0) = ∑ c : Fin 32768, Ideal.exp (v38 (ix2 r c) - v44 (ix1 r)) := by
  unfold k0_pay5 k0_pay1
  dsimp only
  rw [shapeCast_self, col_at, sum_row]
  refine Finset.sum_congr rfl fun c _ => ?_
  show Ideal.exp (v38 (ix2 r c) - broadcastTo S8x32768 _ broadcasts_S8x1_S8x32768 (ix2 r c)) = _
  rw [spread_at, col_at]

theorem pay6_at : k0_pay6 (F := Ideal) v43 (ix2 r 0) = rowMax v43 r := by
  unfold k0_pay6; rw [shapeCast_self]; exact pay2_at v43 r

theorem pay10_at : k0_pay10 (F := Ideal) v44 m (ix2 r 0) = max (m (ix2 r 0)) (v44 (ix1 r)) := by
  unfold k0_pay10 k0_pay8 k0_pay1
  rw [shapeCast_self]
  show max (m (ix2 r 0)) (shapeCast S8x1 v44 shapeCasts_S8_S8x1 (ix2 r 0)) = _
  rw [col_at]

theorem pay9_at : k0_pay9 (F := Ideal) v38 v44 m s (ix2 r 0)
    = s (ix2 r 0) * Ideal.exp (m (ix2 r 0) - max (m (ix2 r 0)) (v44 (ix1 r)))
      + ∑ c : Fin 32768, Ideal.exp (v38 (ix2 r c) - max (m (ix2 r 0)) (v44 (ix1 r))) := by
  have h8 : k0_pay8 (F := Ideal) v44 m (ix2 r 0) = max (m (ix2 r 0)) (v44 (ix1 r)) := by
    unfold k0_pay8 k0_pay1
    show max (m (ix2 r 0)) (shapeCast S8x1 v44 shapeCasts_S8_S8x1 (ix2 r 0)) = _
    rw [col_at]
  unfold k0_pay9
  dsimp only
  rw [shapeCast_self]
  show s (ix2 r 0) * Ideal.exp (m (ix2 r 0) - k0_pay8 (F := Ideal) v44 m (ix2 r 0)) + shapeCast S8x1 _ shapeCasts_S8_S8x1 (ix2 r 0) = _
  rw [h8, col_at, sum_row]
  have e : ∀ c : Fin 32768, exp (F := Ideal) (φ := .f32) (subf v38 (broadcastTo S8x32768 (k0_pay8 (F := Ideal) v44 m) broadcasts_S8x1_S8x32768)) (ix2 r c)
      = Ideal.exp (v38 (ix2 r c) - max (m (ix2 r 0)) (v44 (ix1 r))) := fun c => by
    show Ideal.exp (v38 (ix2 r c) - broadcastTo S8x32768 _ broadcasts_S8x1_S8x32768 (ix2 r c)) = _
    rw [spread_at, h8]
  rw [Finset.sum_congr rfl fun c _ => e c]

theorem pay12_at : k0_pay12 (F := Ideal) v43 bv (ix2 r 0) = max (rowMax v43 r) (bv (ix2 r 0)) := by
  unfold k0_pay12
  rw [shapeCast_self]
  show max (k0_pay2 (F := Ideal) v43 (ix2 r 0)) (bv (ix2 r 0)) = _
  rw [pay2_at]

theorem pay13_at : k0_pay13 (F := Ideal) m s (ix2 r 0) = m (ix2 r 0) + Ideal.log (s (ix2 r 0)) := by
  unfold k0_pay13; rw [shapeCast_self]; rfl

theorem pay14_at (c : Fin 32768) : k0_pay14 (F := Ideal) v38 l (ix2 r c) = v38 (ix2 r c) - l (ix2 r 0) := by
  unfold k0_pay14
  show v38 (ix2 r c) - broadcastTo S8x32768 _ broadcasts_S8x1_S8x32768 (ix2 r c) = _
  rw [spread_at]

/-- The least column among those that hold the row's largest value. -/
theorem pay3_at : k0_pay3 (F := Ideal) cols v43 (ix2 r 0)
    = (Finset.univ : Finset (Fin 32768)).fold IntOp.minsi 2147483647#32
        fun c => if v43 (ix2 r c) = rowMax v43 r then cols (ix2 r c) else 1000000#32 := by
  unfold k0_pay3
  dsimp only
  rw [col_at]
  refine (multiReductionI_eq_fold .minsi _ 2147483647#32 reduces_S8x32768_S8 rfl (ix1 r)).trans
    ((Shape.Reduces.fold_filter_drop_single reduces_S8x32768_S8 IntOp.minsi _ _ (ix1 r)).trans ?_)
  refine congrArg (fun f => (Finset.univ : Finset (Fin 32768)).fold IntOp.minsi 2147483647#32 f) (funext fun (c : Fin 32768) => ?_)
  show Scalar.select (Ideal.cmp .oeq (v43 (reduces_S8x32768_S8.lift (ix1 r) c)) (broadcastTo S8x32768 _ broadcasts_S8x1_S8x32768 (reduces_S8x32768_S8.lift (ix1 r) c)))
    (cols (reduces_S8x32768_S8.lift (ix1 r) c)) 1000000#32 = _
  have e : reduces_S8x32768_S8.lift (ix1 r) c = ix2 r c := lift_row r c
  rw [e, spread_at, pay2_at]
  unfold Ideal.cmp Scalar.select
  by_cases h : v43 (ix2 r c) = rowMax v43 r <;> simp [h]

theorem pay7_at : k0_pay7 (F := Ideal) cols v43 (ix2 r 0) = k0_pay3 (F := Ideal) cols v43 (ix2 r 0) := by
  unfold k0_pay7; rw [shapeCast_self]

theorem pay11_at : k0_pay11 (F := Ideal) cols v43 bv bi (ix2 r 0)
    = if bv (ix2 r 0) < rowMax v43 r then k0_pay3 (F := Ideal) cols v43 (ix2 r 0) else bi (ix2 r 0) := by
  unfold k0_pay11
  rw [shapeCast_self]
  rw [← pay2_at v43 r]
  generalize k0_pay3 (F := Ideal) cols v43 = w
  generalize k0_pay2 (F := Ideal) v43 = p
  show Scalar.select (Ideal.cmp .ogt (p (ix2 r 0)) (bv (ix2 r 0))) (w (ix2 r 0)) (bi (ix2 r 0)) = _
  unfold Ideal.cmp Scalar.select
  by_cases h : bv (ix2 r 0) < p (ix2 r 0) <;> simp [h]

/-! ## The block's logits -/

variable (x1 : S8x64.Idx → EReal) (x2 : S64x32768.Idx → EReal) (x3 : S1x32768.Idx → EReal) (x4 : S8x32768.Idx → EReal) (c : Fin 32768)

theorem pay16_at : k0_pay16 (F := Ideal) x1 x2 x3 (ix2 r c) = (∑ k : Fin 64, x1 (ix2 r k) * x2 (ix2 k c)) + x3 (ix2 0 c) := by
  unfold k0_pay16
  rw [shapeCast_self, shapeCast_self]
  show matmul (F := Ideal) dot_S8x64_S64x32768_S8x32768_1_0_0_1_n_n none x1 x2 (constant S8x32768 .f32 0x00000000#32) (ix2 r c)
    + broadcastTo S8x32768 x3 broadcasts_S1x32768_S8x32768 (ix2 r c) = _
  rw [down_at]
  refine congrArg (· + _) ?_
  refine (Ideal.matmul_plain_apply (M := 8) (K := 64) (N := 32768) (φ₁ := .f32) (φ₂ := .f32) none x1 x2 (constant S8x32768 .f32 0x00000000#32) r c).trans ?_
  show Ideal.ofBits .f32 0x00000000#32 + _ = _
  rw [Ideal.ofBits_zero_f32, zero_add]
  rfl

theorem pay17_at : k0_pay17 (F := Ideal) x1 x2 x3 = k0_pay16 (F := Ideal) x1 x2 x3 := by
  unfold k0_pay17; exact shapeCast_self _ _

variable (t : ℕ)

theorem pay18_at : k0_pay18 (BitVec.ofNat 32 t) (ix2 r c) = BitVec.ofNat 32 (32768 * t + c.val) := by
  unfold k0_pay18
  show IntOp.addi (Scalar.muli (BitVec.ofNat 32 t) 32768#32) (iota .tc S8x32768 32 [1] iota_S8x32768_d1_w32 (ix2 r c)) = _
  rw [iota_single_apply]
  show BitVec.ofNat 32 t * 32768#32 + BitVec.ofNat 32 c.val = _
  rw [Nat.mul_comm, BitVec.ofNat_add, BitVec.ofNat_mul]

/-- Whether the column is kept: it is below the million. -/
theorem kept_at (ht : t < 31) : ori (broadcast S8x32768 (Scalar.cmpi .slt (BitVec.ofNat 32 t) 30#32)) (k0_pay19 (BitVec.ofNat 32 t)) (ix2 r c)
    = if 32768 * t + c.val < 1000000 then 1#1 else 0#1 := by
  have hc := c.isLt
  show IntOp.cmpi .slt (BitVec.ofNat 32 t) 30#32 ||| IntOp.cmpi .slt (k0_pay18 (BitVec.ofNat 32 t) (ix2 r c)) 1000000#32 = _
  rw [pay18_at]
  have e1 : (BitVec.ofNat 32 t).slt 30#32 = decide (t < 30) := by
    unfold BitVec.slt
    rw [toInt_ofNat (by omega), show (30#32).toInt = ((30 : ℕ) : ℤ) from rfl]
    exact decide_eq_decide.2 Nat.cast_lt
  have e2 : (BitVec.ofNat 32 (32768 * t + c.val)).slt 1000000#32 = decide (32768 * t + c.val < 1000000) := by
    unfold BitVec.slt
    rw [toInt_ofNat (by omega), show (1000000#32).toInt = ((1000000 : ℕ) : ℤ) from rfl]
    exact decide_eq_decide.2 Nat.cast_lt
  unfold IntOp.cmpi
  dsimp only
  rw [e1, e2]
  by_cases h : t < 30
  · rw [if_pos (by omega), decide_eq_true h, decide_eq_true (by omega)]; rfl
  · by_cases h' : 32768 * t + c.val < 1000000 <;> simp [h, h']

theorem pay20_at (ht : t < 31) : k0_pay20 (F := Ideal) (BitVec.ofNat 32 t) x1 x2 x3 (ix2 r c)
    = if 32768 * t + c.val < 1000000 then k0_pay16 (F := Ideal) x1 x2 x3 (ix2 r c) else ⊥ := by
  unfold k0_pay20
  show Scalar.select (ori (broadcast S8x32768 (Scalar.cmpi .slt (BitVec.ofNat 32 t) 30#32)) (k0_pay19 (BitVec.ofNat 32 t)) (ix2 r c))
    (k0_pay16 (F := Ideal) x1 x2 x3 (ix2 r c)) ((κ "mask").getD (Ideal.ofBits .f32 0xF149F2CA#32)) = _
  rw [kept_at r c t ht]
  split <;> rfl

theorem pay21_at (ht : t < 31) : k0_pay21 (F := Ideal) (BitVec.ofNat 32 t) x1 x2 x3 x4 (ix2 r c)
    = if 32768 * t + c.val < 1000000 then k0_pay16 (F := Ideal) x1 x2 x3 (ix2 r c) + -Ideal.log (-Ideal.log (x4 (ix2 r c))) else ⊥ := by
  unfold k0_pay21
  rw [shapeCast_self]
  show Scalar.select (ori (broadcast S8x32768 (Scalar.cmpi .slt (BitVec.ofNat 32 t) 30#32)) (k0_pay19 (BitVec.ofNat 32 t)) (ix2 r c))
    (k0_pay16 (F := Ideal) x1 x2 x3 (ix2 r c)
      + (Ideal.ofBits .f32 0x00000000#32 - Ideal.log (Ideal.ofBits .f32 0x00000000#32 - Ideal.log (x4 (ix2 r c))))) ((κ "mask").getD (Ideal.ofBits .f32 0xF149F2CA#32)) = _
  rw [kept_at r c t ht, Ideal.ofBits_zero_f32, zero_sub, zero_sub]
  split <;> rfl

theorem pay22_at : k0_pay22 (F := Ideal) (BitVec.ofNat 32 t) x1 x2 x3 (ix1 r) = rowMax (k0_pay20 (F := Ideal) (BitVec.ofNat 32 t) x1 x2 x3) r := by
  unfold k0_pay22; exact max_row _ r

/-! ## The one-hot proposal -/

theorem pay15_at (i : grid0.Coords) (h31 : 31 ≤ (i 0).val) (best : ℕ) (hb : bi (ix2 r 0) = BitVec.ofNat 32 best) (hbest : best < 1000000) :
    k0_pay15 (F := Ideal) i bi (ix2 r c) = if 32768 * ((i 0).val - 31) + c.val = 0 then Ideal.ofBits .f32 0x3F000000#32
      else if 32768 * ((i 0).val - 31) + c.val = best + 1 then 1 else 0 := by
  have hc := c.isLt
  have hi : (i 0).val < 62 := (i 0).isLt
  have e : addi (broadcast S8x32768 (Scalar.muli (Scalar.subi (BitVec.ofNat 32 (i 0).val) 31#32) 32768#32)) (iota .tc S8x32768 32 [1] iota_S8x32768_d1_w32) (ix2 r c)
      = BitVec.ofNat 32 (32768 * ((i 0).val - 31) + c.val) := by
    show (BitVec.ofNat 32 (i 0).val - 31#32) * 32768#32 + iota .tc S8x32768 32 [1] iota_S8x32768_d1_w32 (ix2 r c) = _
    rw [iota_single_apply]
    show (BitVec.ofNat 32 (i 0).val - 31#32) * 32768#32 + BitVec.ofNat 32 c.val = _
    have e1 : BitVec.ofNat 32 (i 0).val - 31#32 = BitVec.ofNat 32 ((i 0).val - 31) := by
      apply BitVec.eq_of_toNat_eq
      simp only [BitVec.toNat_sub, BitVec.toNat_ofNat]
      omega
    rw [e1, Nat.mul_comm, BitVec.ofNat_add, BitVec.ofNat_mul]
  unfold k0_pay15
  show Scalar.select (IntOp.cmpi .eq (addi (broadcast S8x32768 (Scalar.muli (Scalar.subi (BitVec.ofNat 32 (i 0).val) 31#32) 32768#32)) (iota .tc S8x32768 32 [1] iota_S8x32768_d1_w32) (ix2 r c)) 0#32)
      (Ideal.ofBits .f32 0x3F000000#32)
      (Scalar.select (IntOp.cmpi .eq (addi (broadcast S8x32768 (Scalar.muli (Scalar.subi (BitVec.ofNat 32 (i 0).val) 31#32) 32768#32)) (iota .tc S8x32768 32 [1] iota_S8x32768_d1_w32) (ix2 r c))
          (broadcastTo S8x32768 (addi bi (broadcast S8x1 1#32)) broadcasts_S8x1_S8x32768 (ix2 r c)))
        (Ideal.ofBits .f32 0x3F800000#32) (Ideal.ofBits .f32 0x00000000#32)) = _
  rw [e, spread_at]
  show Scalar.select (IntOp.cmpi .eq (BitVec.ofNat 32 (32768 * ((i 0).val - 31) + c.val)) 0#32) _
    (Scalar.select (IntOp.cmpi .eq (BitVec.ofNat 32 (32768 * ((i 0).val - 31) + c.val)) (bi (ix2 r 0) + 1#32)) _ _) = _
  rw [hb, Ideal.ofBits_zero_f32, Ideal.ofBits_one_f32]
  have c1 : (BitVec.ofNat 32 (32768 * ((i 0).val - 31) + c.val) == 0#32) = decide (32768 * ((i 0).val - 31) + c.val = 0) := by
    rw [Bool.eq_iff_iff, beq_iff_eq, decide_eq_true_iff, ← BitVec.toNat_inj]
    simp only [BitVec.toNat_ofNat]
    omega
  have c2 : (BitVec.ofNat 32 (32768 * ((i 0).val - 31) + c.val) == BitVec.ofNat 32 best + 1#32) = decide (32768 * ((i 0).val - 31) + c.val = best + 1) := by
    rw [Bool.eq_iff_iff, beq_iff_eq, decide_eq_true_iff, ← BitVec.toNat_inj]
    simp only [BitVec.toNat_ofNat, BitVec.toNat_add]
    omega
  unfold IntOp.cmpi Scalar.select
  dsimp only
  rw [c1, c2]
  generalize 32768 * ((i 0).val - 31) + c.val = n
  by_cases h1 : n = 0
  · simp [h1]
  · by_cases h2 : n = best + 1 <;> simp [h1, h2]

end Cert.KernelIdeal.Hand
-- ==== Proof.Rows.lean ====
/-
  What the scratches hold as the grid goes, row by row, over the extended reals: the logits kept so far, the running
  maximum and sum, the best score so far with its column, and from the end of the first pass on the logarithm of the sum.
-/
module

public import proofs.«01_k».proof.Proof.Payload

@[expose] public section

noncomputable section

namespace Cert.KernelIdeal.Hand

open Cert.KernelIdeal Cert.KernelIdeal.Gen Cert.Online
open Idealize.ShloMosaic

variable (x : Fin 8 → ℕ → ℝ) (g : Fin 8 → ℕ → EReal)

/-- A row's scores: the logit plus the noise, `-∞` from the millionth on. -/
def score (r : Fin 8) (n : ℕ) : EReal := if n < 1000000 then (x r n : EReal) + g r n else ⊥

/-- The operands' blocks at point `t` give the logits and the noise of that block's columns below the million. -/
structure Block (t : ℕ) (x1 : S8x64.Idx → EReal) (x2 : S64x32768.Idx → EReal) (x3 : S1x32768.Idx → EReal) (x4 : S8x32768.Idx → EReal) : Prop where
  logits : ∀ (r : Fin 8) (c : Fin 32768), 32768 * t + c.val < 1000000 → k0_pay16 (F := Ideal) x1 x2 x3 (ix2 r c) = (x r (32768 * t + c.val) : EReal)
  noise : ∀ (r : Fin 8) (c : Fin 32768), 32768 * t + c.val < 1000000 → -Ideal.log (-Ideal.log (x4 (ix2 r c))) = g r (32768 * t + c.val)

variable {x g} {t : ℕ} {x1 : S8x64.Idx → EReal} {x2 : S64x32768.Idx → EReal} {x3 : S1x32768.Idx → EReal} {x4 : S8x32768.Idx → EReal}

theorem Block.logit (h : Block x g t x1 x2 x3 x4) (ht : t < 31) (r : Fin 8) (c : Fin 32768) :
    k0_pay20 (F := Ideal) (BitVec.ofNat 32 t) x1 x2 x3 (ix2 r c) = logit 1000000 (x r) (32768 * t + c.val) := by
  rw [pay20_at r x1 x2 x3 c t ht]
  unfold Online.logit
  split
  · next hn => exact h.logits r c hn
  · rfl

theorem Block.score (h : Block x g t x1 x2 x3 x4) (ht : t < 31) (r : Fin 8) (c : Fin 32768) :
    k0_pay21 (F := Ideal) (BitVec.ofNat 32 t) x1 x2 x3 x4 (ix2 r c) = score x g r (32768 * t + c.val) := by
  rw [pay21_at r x1 x2 x3 x4 c t ht]
  unfold Hand.score
  split
  · next hn => rw [h.logits r c hn, h.noise r c hn]
  · rfl

/-- The row's largest logit in the block. -/
theorem Block.top (h : Block x g t x1 x2 x3 x4) (ht : t < 31) (r : Fin 8) :
    k0_pay22 (F := Ideal) (BitVec.ofNat 32 t) x1 x2 x3 (ix1 r)
      = (Finset.univ : Finset (Fin 32768)).fold max ⊥ fun c => Online.logit 1000000 (x r) (32768 * t + c.val) := by
  rw [pay22_at]
  unfold rowMax
  exact congrArg (fun f => (Finset.univ : Finset (Fin 32768)).fold max ⊥ f) (funext fun c => h.logit ht r c)

/-- The first place of the row's largest score in the block: it lies below the million, the block's maximum is its score,
    and the least column the kernel finds is its. -/
theorem Block.best (h : Block x g t x1 x2 x3 x4) (ht : t < 31) (r : Fin 8) :
    ∃ c, IsFirst (fun c => Hand.score x g r (32768 * t + c)) 32768 c
      ∧ rowMax (k0_pay21 (F := Ideal) (BitVec.ofNat 32 t) x1 x2 x3 x4) r = Hand.score x g r (32768 * t + c)
      ∧ k0_pay3 (F := Ideal) (k0_pay18 (BitVec.ofNat 32 t)) (k0_pay21 (F := Ideal) (BitVec.ofNat 32 t) x1 x2 x3 x4) (ix2 r 0) = BitVec.ofNat 32 (32768 * t + c) := by
  obtain ⟨c, hc⟩ := exists_first (fun c => Hand.score x g r (32768 * t + c)) (k := 32768) (by omega)
  have hmax : rowMax (k0_pay21 (F := Ideal) (BitVec.ofNat 32 t) x1 x2 x3 x4) r = Hand.score x g r (32768 * t + c) := by
    unfold rowMax
    exact (congrArg (fun f => (Finset.univ : Finset (Fin 32768)).fold max ⊥ f) (funext fun c => h.score ht r c)).trans hc.fold_max
  have hlt : 32768 * t + c < 1000000 := by
    by_contra hn
    have hc0 : 0 < c := by omega
    have := hc.2.2 0 hc0
    simp only [Hand.score, if_neg hn] at this
    exact not_lt_bot this
  refine ⟨c, hc, hmax, ?_⟩
  rw [pay3_at]
  refine fold_minsi hc hlt (by norm_num) (by omega) _ fun j => ?_
  rw [hmax, h.score ht r j, pay18_at]

variable (x g)

/-- The invariant before point `n`. -/
def Held (n : ℕ) (a : S8x1015808.Idx → EReal) (m s l bv : S8x1.Idx → EReal) (bi : S8x1.Idx → BitVec 32) : Prop :=
  (0 < n → ∀ r : Fin 8, SoftAt 1000000 (x r) (32768 * min n 31) (m (ix2 r 0)) (s (ix2 r 0))
      ∧ ∃ i, IsFirst (score x g r) (32768 * min n 31) i ∧ bv (ix2 r 0) = score x g r i ∧ bi (ix2 r 0) = BitVec.ofNat 32 i)
  ∧ (∀ (r : Fin 8) (j : Fin 1015808), j.val < 1000000 → j.val < 32768 * min n 31 → a (ix2 r j) = (x r j.val : EReal))
  ∧ (31 ≤ n → ∀ r : Fin 8, l (ix2 r 0) = (lse 1000000 (x r) : EReal))

/-- A point of the second pass leaves the log-probabilities of its block. -/
def LogProb (n : ℕ) (X : S8x32768.Idx → EReal) : Prop :=
  ∀ (r : Fin 8) (c : Fin 32768), 32768 * (n - 31) + c.val < 1000000 →
    X (ix2 r c) = (x r (32768 * (n - 31) + c.val) : EReal) - (lse 1000000 (x r) : EReal)

/-- A point of the second pass leaves its block of the one-hot proposal. -/
def OneHot (n : ℕ) (X : S8x32768.Idx → EReal) : Prop :=
  ∀ (r : Fin 8) (c : Fin 32768) (i : ℕ), IsFirst (score x g r) 1000000 i →
    X (ix2 r c) = if 32768 * (n - 31) + c.val = 0 then Ideal.ofBits .f32 0x3F000000#32
      else if 32768 * (n - 31) + c.val = i + 1 then 1 else 0

variable {x g}

/-- The logits kept after a point of the first pass. -/
theorem kept_next (i : grid0.Coords) (hi : (i 0).val < 31) (hB : Block x g (i 0).val x1 x2 x3 x4) (a : S8x1015808.Idx → EReal)
    (ha : ∀ (r : Fin 8) (j : Fin 1015808), j.val < 1000000 → j.val < 32768 * (i 0).val → a (ix2 r j) = (x r j.val : EReal))
    (r : Fin 8) (j : Fin 1015808) (hN : j.val < 1000000) (hj : j.val < 32768 * ((i 0).val + 1)) :
    accNext (F := Ideal) i x1 x2 x3 a (ix2 r j) = (x r j.val : EReal) := by
  unfold accNext VecWindow.put
  rw [k0_off1_eq]
  by_cases hlo : j.val < 32768 * (i 0).val
  · rw [dif_neg]
    · exact ha r j hN hlo
    · intro h
      exact absurd (h 1).1 (Nat.not_le.2 hlo)
  · have hin : ∀ b : Fin 2, (![0, 32768 * (i 0).val] : Fin 2 → ℕ) b ≤ ((ix2 r j : S8x1015808.Idx) b).val
        ∧ ((ix2 r j : S8x1015808.Idx) b).val < (![0, 32768 * (i 0).val] : Fin 2 → ℕ) b + S8x32768.size b := fun b =>
      match b with
      | ⟨0, _⟩ => ⟨Nat.zero_le _, by show r.val < 0 + 8; omega⟩
      | ⟨1, _⟩ => ⟨Nat.not_lt.1 hlo, by show j.val < 32768 * (i 0).val + 32768; omega⟩
    rw [dif_pos hin, pay17_at]
    have hc : j.val - 32768 * (i 0).val < 32768 := by omega
    have e := hB.logits r ⟨j.val - 32768 * (i 0).val, hc⟩ (by show 32768 * (i 0).val + (j.val - 32768 * (i 0).val) < _; omega)
    rw [show 32768 * (i 0).val + (⟨j.val - 32768 * (i 0).val, hc⟩ : Fin 32768).val = j.val by
      show 32768 * (i 0).val + (j.val - 32768 * (i 0).val) = j.val; omega] at e
    rw [← e]
    exact congrArg _ (Shape.idx_ext₂ (Nat.sub_zero _) rfl)

/-- The first point starts everything from its block. -/
theorem held_first (i : grid0.Coords) (hi : (i 0).val = 0) (hB : Block x g (i 0).val x1 x2 x3 x4) (a : S8x1015808.Idx → EReal) (l : S8x1.Idx → EReal) :
    Held x g ((i 0).val + 1) (accNext (F := Ideal) i x1 x2 x3 a) (k0_pay4 (F := Ideal) (k0_pay22 (jw i) x1 x2 x3))
      (k0_pay5 (F := Ideal) (k0_pay20 (jw i) x1 x2 x3) (k0_pay22 (jw i) x1 x2 x3)) l
      (k0_pay6 (F := Ideal) (k0_pay21 (jw i) x1 x2 x3 x4)) (k0_pay7 (F := Ideal) (k0_pay18 (jw i)) (k0_pay21 (jw i) x1 x2 x3 x4)) := by
  have hlt : (i 0).val < 31 := by omega
  refine ⟨fun _ r => ?_, fun r j hN hj => ?_, fun h => absurd h (by omega)⟩
  · rw [show 32768 * min ((i 0).val + 1) 31 = 32768 by omega]
    constructor
    · rw [pay4_at, pay5_at]
      refine SoftAt.first (by norm_num) (by norm_num) ?_ (Finset.sum_congr rfl fun c _ => ?_)
      · exact (hB.top hlt r).trans (by rw [hi, Nat.mul_zero])
      · rw [hB.logit hlt r c]
        rw [hi]
    · obtain ⟨c, hc, hmax, hcol⟩ := hB.best hlt r
      refine ⟨c, ?_, ?_, ?_⟩
      · rw [hi] at hc
        simpa using hc
      · rw [pay6_at, hmax, hi]; simp
      · rw [pay7_at, hcol, hi]; simp
  · exact kept_next i hlt hB a (fun r j _ h => absurd h (by omega)) r j hN (by omega)

/-- A later point of the first pass joins its block to what is kept: the logits, the sum, the best score. -/
theorem held_later (i : grid0.Coords) (h0 : 0 < (i 0).val) (hlt : (i 0).val < 31) (hB : Block x g (i 0).val x1 x2 x3 x4)
    {a : S8x1015808.Idx → EReal} {m s l bv : S8x1.Idx → EReal} {bi : S8x1.Idx → BitVec 32} (l' : S8x1.Idx → EReal)
    (hI : Held x g (i 0).val a m s l bv bi)
    (hl : 31 ≤ (i 0).val + 1 → ∀ r : Fin 8, l' (ix2 r 0) = (lse 1000000 (x r) : EReal)) :
    Held x g ((i 0).val + 1) (accNext (F := Ideal) i x1 x2 x3 a) (k0_pay10 (F := Ideal) (k0_pay22 (jw i) x1 x2 x3) m)
      (k0_pay9 (F := Ideal) (k0_pay20 (jw i) x1 x2 x3) (k0_pay22 (jw i) x1 x2 x3) m s) l'
      (k0_pay12 (F := Ideal) (k0_pay21 (jw i) x1 x2 x3 x4) bv) (k0_pay11 (F := Ideal) (k0_pay18 (jw i)) (k0_pay21 (jw i) x1 x2 x3 x4) bv bi) := by
  refine ⟨fun _ r => ?_, fun r j hN hj => ?_, hl⟩
  · have hk : 32768 * min ((i 0).val + 1) 31 = 32768 * (i 0).val + 32768 := by omega
    obtain ⟨hs, b, hb, hbv, hbi⟩ := hI.1 h0 r
    rw [show 32768 * min (i 0).val 31 = 32768 * (i 0).val by omega] at hs hb
    rw [hk]
    constructor
    · refine hs.later (hB.top hlt r) (pay10_at _ _ r) ?_
      rw [pay9_at, pay10_at]
      rw [Finset.sum_congr rfl fun c _ => congrArg (fun e => Ideal.exp (e - _)) (hB.logit hlt r c)]
    · obtain ⟨c, hc, hmax, hcol⟩ := hB.best hlt r
      refine ⟨_, hb.join hc, ?_, ?_⟩
      · rw [pay12_at, hmax, hbv]
        split
        · next h => exact max_eq_left h.le
        · next h => exact max_eq_right (not_lt.1 h)
      · rw [pay11_at, hmax, hcol, hbv, hbi]
        split <;> rfl
  · exact kept_next i hlt hB a (fun r j hN h => hI.2.1 r j hN (by omega)) r j hN (by omega)

/-- At the end of the first pass the logarithm of the sum is the row's. -/
theorem lse_last (i : grid0.Coords) (hi : (i 0).val = 30) (hB : Block x g (i 0).val x1 x2 x3 x4)
    {a : S8x1015808.Idx → EReal} {m s l bv : S8x1.Idx → EReal} {bi : S8x1.Idx → BitVec 32} (hI : Held x g (i 0).val a m s l bv bi) (r : Fin 8) :
    k0_pay13 (F := Ideal) (k0_pay10 (F := Ideal) (k0_pay22 (jw i) x1 x2 x3) m)
      (k0_pay9 (F := Ideal) (k0_pay20 (jw i) x1 x2 x3) (k0_pay22 (jw i) x1 x2 x3) m s) (ix2 r 0) = (lse 1000000 (x r) : EReal) := by
  rw [pay13_at]
  have h := ((held_later i (by omega) (by omega) hB (fun y => (lse 1000000 (x (y 0)) : EReal)) hI (fun _ r => rfl)).1 (by omega) r).1
  exact h.lse (by norm_num) (by omega)

/-- The offsets of the second pass's read. -/
theorem off2_at (i : grid0.Coords) (h : 31 ≤ (i 0).val) : k0_off2 i = ![0, 32768 * ((i 0).val - 31)] := by
  revert i; decide +kernel

/-- A point of the second pass. -/
theorem held_write (i : grid0.Coords) (h5 : k0_cond5 i = 1#1) (hi : 31 ≤ (i 0).val)
    {a : S8x1015808.Idx → EReal} {m s l bv : S8x1.Idx → EReal} {bi : S8x1.Idx → BitVec 32} (hI : Held x g (i 0).val a m s l bv bi) :
    LogProb x (i 0).val (k0_pay14 (F := Ideal) (VecWindow.window a (k0_off2 i) S8x32768.size (k0_off2_inb i h5)) l)
      ∧ OneHot x g (i 0).val (k0_pay15 (F := Ideal) i bi) ∧ Held x g ((i 0).val + 1) a m s l bv bi := by
  have hi' : (i 0).val < 62 := (i 0).isLt
  refine ⟨fun r c hn => ?_, fun r c b hb => ?_, ?_⟩
  · rw [pay14_at, hI.2.2 hi r]
    refine congrArg (· - (lse 1000000 (x r) : EReal)) ?_
    have e := hI.2.1 r ⟨32768 * ((i 0).val - 31) + c.val, by omega⟩ hn (by show 32768 * ((i 0).val - 31) + c.val < _; omega)
    refine Eq.trans (congrArg a ?_) e
    refine Shape.idx_ext₂ ?_ ?_
    · show k0_off2 i 0 + 1 * r.val = r.val
      rw [off2_at i hi]; show 0 + 1 * r.val = r.val; omega
    · show k0_off2 i 1 + 1 * c.val = 32768 * ((i 0).val - 31) + c.val
      rw [off2_at i hi]; show 32768 * ((i 0).val - 31) + 1 * c.val = _; omega
  · obtain ⟨-, b', hb', -, hbi⟩ := hI.1 (by omega) r
    have hs := hb'.shrink (k' := 1000000) (by norm_num) (by omega) fun j hj => if_neg (by omega)
    rw [hb.unique hs]
    exact pay15_at bi r c i hi b' hbi hs.1
  · refine ⟨fun _ r => ?_, fun r j hN hj => hI.2.1 r j hN (by omega), fun _ => hI.2.2 hi⟩
    have h := hI.1 (by omega) r
    rw [show min (i 0).val 31 = 31 by omega] at h
    rw [show min ((i 0).val + 1) 31 = 31 by omega]
    exact h

/-- The facts the run of the grid asks for, from the blocks the fetches bring. -/
def track (m : (ℓ : Loc nD τ sig) → Buf (Elt Ideal) ℓ) (c : Dev nD) (x : Fin 8 → ℕ → ℝ) (g : Fin 8 → ℕ → EReal)
    (hB : ∀ (t : Fin cfg0.N) (x1 : S8x64.Idx → EReal) (x2 : S64x32768.Idx → EReal) (x3 : S1x32768.Idx → EReal) (x4 : S8x32768.Idx → EReal),
      t.val < 31 → Fetched m c 0 t x1 → Fetched m c 1 t x2 → Fetched m c 2 t x3 → Fetched m c 3 t x4 → Block x g t.val x1 x2 x3 x4) :
    Track m c where
  Inv n a m s l bv bi := Held x g n a m s l bv bi
  P4 t X := LogProb x t.val X
  P5 t X := OneHot x g t.val X
  init a m s l bv bi := ⟨fun h => absurd h (lt_irrefl 0), fun r j _ h => absurd h (by omega), fun h => absurd h (by omega)⟩
  first t x1 x2 x3 x4 a m' s l bv bi ht h1 h2 h3 h4 _ := by
    have hc := coord_val t
    have hb := hB t x1 x2 x3 x4 (by omega) h1 h2 h3 h4
    rw [← hc] at hb ht ⊢
    exact held_first _ ht hb a l
  later t x1 x2 x3 x4 a m' s l bv bi ht ht' h1 h2 h3 h4 hI := by
    have hc := coord_val t
    have hb := hB t x1 x2 x3 x4 (by omega) h1 h2 h3 h4
    rw [← hc] at hb ht ht' hI ⊢
    exact held_later _ ht (by omega) hb l hI (fun h => absurd h (by omega))
  last t x1 x2 x3 x4 a m' s l bv bi ht h1 h2 h3 h4 hI := by
    have hc := coord_val t
    have hb := hB t x1 x2 x3 x4 (by omega) h1 h2 h3 h4
    rw [← hc] at hb ht hI ⊢
    exact held_later _ (by omega) (by omega) hb _ hI (fun _ r => lse_last _ ht hb hI r)
  write t a m' s l bv bi h5 ht hI := by
    have hc := coord_val t
    rw [← hc] at ht hI ⊢
    exact held_write _ h5 ht hI

end Cert.KernelIdeal.Hand
-- ==== Proof.Rounds.lean ====
/-
  The counter-based generator's steps as they stand in a straight line of host operations: a mixing round is nine
  operations, adding key words to the pair nine with constant words and seven with words computed before. Each is read
  at one element, where it acts on a pair of words.
-/
module

public import proofs.«01_k».proof.Proof.Line

@[expose] public section

noncomputable section

namespace Cert.Line

open Idealize.ShloMosaic Idealize.ShloMosaic.TcCoe Idealize.ShloMosaic.StableHlo

/-- A pair of words. -/
abbrev Pair := BitVec 32 × BitVec 32

/-- One round: the sum, and the second word, turned by `n` (its bits shifted up by `n` and down by `n'`), against it. -/
def mix (n n' : BitVec 32) (p : Pair) : Pair :=
  (IntOp.addi p.1 p.2, IntOp.xori (IntOp.addi p.1 p.2) (IntOp.ori (IntOp.shli .host p.2 n) (IntOp.shrui .host p.2 n')))

/-- Adding key words, and the count of the group to the second word. -/
def key (a b n : BitVec 32) (p : Pair) : Pair := (IntOp.addi p.1 a, IntOp.addi (IntOp.addi p.2 b) n)

/-- Four rounds of the first kind, and of the second. -/
def mixA (p : Pair) : Pair := mix 6#32 26#32 (mix 26#32 6#32 (mix 15#32 17#32 (mix 13#32 19#32 p)))
def mixB (p : Pair) : Pair := mix 24#32 8#32 (mix 16#32 16#32 (mix 29#32 3#32 (mix 17#32 15#32 p)))

/-- The whole generator under the key (0, 42), from the pair with the key already added. -/
def stir (p : Pair) : Pair :=
  key 466689008#32 0#32 5#32 (mixA (key 42#32 466689008#32 4#32 (mixB (key 0#32 42#32 3#32 (mixA
    (key 466689008#32 0#32 2#32 (mixB (key 42#32 466689008#32 1#32 (mixA p)))))))))

variable {τ : Topo} {sig : RefSig} {F : FTy → Type} [FloatOps F]
variable {ops : List (HloOp τ sig (Elt F))} {W : List (Ref sig .tc)} {k : ℕ}

/-- The shape of a single number. -/
abbrev S0 : Shape := ⟨0, ![]⟩
/-- Its one index. -/
abbrev at0 : S0.Idx := fun a => a.elim0

/-- A typed buffer's contents at the end of the line. -/
def rd {T : BufTy} (ops : List (HloOp τ sig (Elt F))) (V : Valuation τ sig (Elt F)) (x : TRef sig T) : T.Contents (Elt F) :=
  x.ofBuf (after ops V (Proc.devRef .tc x.ref))

/-- Two word arrays' contents at one element. -/
def rd2 {s : Shape} (ops : List (HloOp τ sig (Elt F))) (V : Valuation τ sig (Elt F)) (x y : TRef sig ⟨s, .i32⟩) (j : s.Idx) : Pair :=
  (rd ops V x j, rd ops V y j)

section typed

variable {T Tx Ta Tb : BufTy}

theorem Ordered.tnullary (h : Ordered ops W k) (i : ℕ) {y : TRef sig T} {v : T.Contents (Elt F)}
    (hi : ops[i]? = some (TRef.nullary y v)) (ny : y.ref.idx.val < k + (i + 1)) (V : Valuation τ sig (Elt F)) :
    rd ops V y = v := by
  obtain ⟨y, rfl, _, _⟩ := y
  exact h.nullary i hi ny V

theorem Ordered.tunary (h : Ordered ops W k) (i : ℕ) {x : TRef sig Tx} {y : TRef sig T} {f : Tx.Contents (Elt F) → T.Contents (Elt F)}
    (hi : ops[i]? = some (TRef.unary x y f)) (ny : y.ref.idx.val < k + (i + 1)) (nx : x.ref.idx.val < k + i)
    (V : Valuation τ sig (Elt F)) : rd ops V y = f (rd ops V x) := by
  obtain ⟨y, rfl, _, _⟩ := y
  obtain ⟨x, rfl, _, _⟩ := x
  exact h.unary i hi ny nx V

theorem Ordered.tbinary (h : Ordered ops W k) (i : ℕ) {a : TRef sig Ta} {b : TRef sig Tb} {y : TRef sig T}
    {f : Ta.Contents (Elt F) → Tb.Contents (Elt F) → T.Contents (Elt F)}
    (hi : ops[i]? = some (TRef.binary a b y f)) (ny : y.ref.idx.val < k + (i + 1)) (na : a.ref.idx.val < k + i)
    (nb : b.ref.idx.val < k + i) (V : Valuation τ sig (Elt F)) : rd ops V y = f (rd ops V a) (rd ops V b) := by
  obtain ⟨y, rfl, _, _⟩ := y
  obtain ⟨a, rfl, _, _⟩ := a
  obtain ⟨b, rfl, _, _⟩ := b
  exact h.binary i hi ny na nb V

end typed

variable {s : Shape} {bc : S0.BroadcastsInDim s ![]}

theorem getElem?_of_take {α : Type} {l l' : List α} {i n : ℕ} (h : (l.drop i).take n = l') (r : ℕ) {a : α}
    (hr : l'[r]? = some a) : l[i + r]? = some a := by
  subst h
  rw [List.getElem?_take] at hr
  split at hr
  · rwa [List.getElem?_drop] at hr
  · cases hr

theorem num {l : List ℕ} {m n : ℕ} (h : l = List.range' m n) (r : ℕ) {a : ℕ} (hr : l[r]? = some a) : a < m + (r + 1) := by
  subst h
  rw [List.getElem?_eq_some_iff] at hr
  obtain ⟨hl, rfl⟩ := hr
  rw [List.getElem_range']
  omega

/-- A round, read at an element. -/
theorem Ordered.round (h : Ordered ops W k) (i : ℕ) {n n' : BitVec 32} (x0 x1 y0 b l b' r o y1 : TRef sig ⟨s, .i32⟩)
    (c c' : TRef sig ⟨S0, .i32⟩)
    (hi : (ops.drop i).take 9 = [TRef.binary x0 x1 y0 addi, TRef.nullary c (constantI S0 32 n),
      TRef.unary c b (broadcastInDim s ![] bc), TRef.binary x1 b l Host.shli, TRef.nullary c' (constantI S0 32 n'),
      TRef.unary c' b' (broadcastInDim s ![] bc), TRef.binary x1 b' r Host.shrui, TRef.binary l r o ori, TRef.binary y0 o y1 xori])
    (hx : x0.ref.idx.val < k + i ∧ x1.ref.idx.val < k + i)
    (hn : [y0.ref.idx.val, c.ref.idx.val, b.ref.idx.val, l.ref.idx.val, c'.ref.idx.val, b'.ref.idx.val, r.ref.idx.val, o.ref.idx.val,
      y1.ref.idx.val] = List.range' (k + i) 9)
    (V : Valuation τ sig (Elt F)) (j : s.Idx) : rd2 ops V y0 y1 j = mix n n' (rd2 ops V x0 x1 j) := by
  have n0 := num hn 0 rfl; have n1 := num hn 1 rfl; have n2 := num hn 2 rfl; have n3 := num hn 3 rfl
  have n4 := num hn 4 rfl; have n5 := num hn 5 rfl; have n6 := num hn 6 rfl; have n7 := num hn 7 rfl
  have n8 := num hn 8 rfl
  have e0 := h.tbinary _ (getElem?_of_take hi 0 rfl) (by omega) (by omega) (by omega) V
  have e1 := h.tnullary _ (getElem?_of_take hi 1 rfl) (by omega) V
  have e2 := h.tunary _ (getElem?_of_take hi 2 rfl) (by omega) (by omega) V
  have e3 := h.tbinary _ (getElem?_of_take hi 3 rfl) (by omega) (by omega) (by omega) V
  have e4 := h.tnullary _ (getElem?_of_take hi 4 rfl) (by omega) V
  have e5 := h.tunary _ (getElem?_of_take hi 5 rfl) (by omega) (by omega) V
  have e6 := h.tbinary _ (getElem?_of_take hi 6 rfl) (by omega) (by omega) (by omega) V
  have e7 := h.tbinary _ (getElem?_of_take hi 7 rfl) (by omega) (by omega) (by omega) V
  have e8 := h.tbinary _ (getElem?_of_take hi 8 rfl) (by omega) (by omega) (by omega) V
  unfold rd2
  rw [e8, e7, e6, e5, e4, e3, e2, e1, e0]
  rfl

/-- Adding a constant word, read at an element. -/
theorem Ordered.addConst (h : Ordered ops W k) (i : ℕ) {n : BitVec 32} (x b y : TRef sig ⟨s, .i32⟩) (c : TRef sig ⟨S0, .i32⟩)
    (hi : (ops.drop i).take 3 = [TRef.nullary c (constantI S0 32 n), TRef.unary c b (broadcastInDim s ![] bc), TRef.binary x b y addi])
    (hx : x.ref.idx.val < k + i) (hn : [c.ref.idx.val, b.ref.idx.val, y.ref.idx.val] = List.range' (k + i) 3)
    (V : Valuation τ sig (Elt F)) (j : s.Idx) : rd ops V y j = IntOp.addi (rd ops V x j) n := by
  have n0 := num hn 0 rfl; have n1 := num hn 1 rfl; have n2 := num hn 2 rfl
  have e0 := h.tnullary _ (getElem?_of_take hi 0 rfl) (by omega) V
  have e1 := h.tunary _ (getElem?_of_take hi 1 rfl) (by omega) (by omega) V
  have e2 := h.tbinary _ (getElem?_of_take hi 2 rfl) (by omega) (by omega) (by omega) V
  rw [e2, e1, e0]
  rfl

/-- Adding a word computed before, read at an element. -/
theorem Ordered.addWord (h : Ordered ops W k) (i : ℕ) {n : BitVec 32} (x b y : TRef sig ⟨s, .i32⟩) (c : TRef sig ⟨S0, .i32⟩)
    (V : Valuation τ sig (Elt F)) (hc : rd ops V c at0 = n)
    (hi : (ops.drop i).take 2 = [TRef.unary c b (broadcastInDim s ![] bc), TRef.binary x b y addi])
    (hx : c.ref.idx.val < k + i ∧ x.ref.idx.val < k + i) (hn : [b.ref.idx.val, y.ref.idx.val] = List.range' (k + i) 2)
    (j : s.Idx) : rd ops V y j = IntOp.addi (rd ops V x j) n := by
  have n0 := num hn 0 rfl; have n1 := num hn 1 rfl
  have e0 := h.tunary _ (getElem?_of_take hi 0 rfl) (by omega) (by omega) V
  have e1 := h.tbinary _ (getElem?_of_take hi 1 rfl) (by omega) (by omega) (by omega) V
  rw [e1, e0, ← hc]
  show IntOp.addi _ (rd ops V c _) = _
  congr 2
  funext a; exact a.elim0

/-- Key words added as constants. -/
theorem Ordered.keyConst (h : Ordered ops W k) (i : ℕ) {n0 n1 n2 : BitVec 32} (x0 x1 b0 y0 b1 z1 b2 y1 : TRef sig ⟨s, .i32⟩)
    (c0 c1 c2 : TRef sig ⟨S0, .i32⟩)
    (hi : (ops.drop i).take 9 = [TRef.nullary c0 (constantI S0 32 n0), TRef.unary c0 b0 (broadcastInDim s ![] bc), TRef.binary x0 b0 y0 addi,
      TRef.nullary c1 (constantI S0 32 n1), TRef.unary c1 b1 (broadcastInDim s ![] bc), TRef.binary x1 b1 z1 addi,
      TRef.nullary c2 (constantI S0 32 n2), TRef.unary c2 b2 (broadcastInDim s ![] bc), TRef.binary z1 b2 y1 addi])
    (hx : x0.ref.idx.val < k + i ∧ x1.ref.idx.val < k + i)
    (hn : [c0.ref.idx.val, b0.ref.idx.val, y0.ref.idx.val, c1.ref.idx.val, b1.ref.idx.val, z1.ref.idx.val, c2.ref.idx.val,
      b2.ref.idx.val, y1.ref.idx.val] = List.range' (k + i) 9)
    (V : Valuation τ sig (Elt F)) (j : s.Idx) : rd2 ops V y0 y1 j = key n0 n1 n2 (rd2 ops V x0 x1 j) := by
  have m0 := num hn 0 rfl; have m1 := num hn 1 rfl; have m2 := num hn 2 rfl; have m3 := num hn 3 rfl
  have m4 := num hn 4 rfl; have m5 := num hn 5 rfl; have m6 := num hn 6 rfl; have m7 := num hn 7 rfl
  have m8 := num hn 8 rfl
  have e0 := h.tnullary _ (getElem?_of_take hi 0 rfl) (by omega) V
  have e1 := h.tunary _ (getElem?_of_take hi 1 rfl) (by omega) (by omega) V
  have e2 := h.tbinary _ (getElem?_of_take hi 2 rfl) (by omega) (by omega) (by omega) V
  have e3 := h.tnullary _ (getElem?_of_take hi 3 rfl) (by omega) V
  have e4 := h.tunary _ (getElem?_of_take hi 4 rfl) (by omega) (by omega) V
  have e5 := h.tbinary _ (getElem?_of_take hi 5 rfl) (by omega) (by omega) (by omega) V
  have e6 := h.tnullary _ (getElem?_of_take hi 6 rfl) (by omega) V
  have e7 := h.tunary _ (getElem?_of_take hi 7 rfl) (by omega) (by omega) V
  have e8 := h.tbinary _ (getElem?_of_take hi 8 rfl) (by omega) (by omega) (by omega) V
  unfold rd2
  rw [e8, e7, e6, e5, e4, e3, e2, e1, e0]
  rfl

/-- Key words added as computed before. -/
theorem Ordered.keyWord (h : Ordered ops W k) (i : ℕ) {n0 n1 n2 : BitVec 32} (x0 x1 b0 y0 b1 z1 b2 y1 : TRef sig ⟨s, .i32⟩)
    (c0 c1 c2 : TRef sig ⟨S0, .i32⟩) (V : Valuation τ sig (Elt F)) (h0 : rd ops V c0 at0 = n0) (h1 : rd ops V c1 at0 = n1)
    (hi : (ops.drop i).take 7 = [TRef.unary c0 b0 (broadcastInDim s ![] bc), TRef.binary x0 b0 y0 addi,
      TRef.unary c1 b1 (broadcastInDim s ![] bc), TRef.binary x1 b1 z1 addi,
      TRef.nullary c2 (constantI S0 32 n2), TRef.unary c2 b2 (broadcastInDim s ![] bc), TRef.binary z1 b2 y1 addi])
    (hx : (c0.ref.idx.val < k + i ∧ c1.ref.idx.val < k + i) ∧ x0.ref.idx.val < k + i ∧ x1.ref.idx.val < k + i)
    (hn : [b0.ref.idx.val, y0.ref.idx.val, b1.ref.idx.val, z1.ref.idx.val, c2.ref.idx.val,
      b2.ref.idx.val, y1.ref.idx.val] = List.range' (k + i) 7)
    (j : s.Idx) : rd2 ops V y0 y1 j = key n0 n1 n2 (rd2 ops V x0 x1 j) := by
  have m0 := num hn 0 rfl; have m1 := num hn 1 rfl; have m2 := num hn 2 rfl; have m3 := num hn 3 rfl
  have m4 := num hn 4 rfl; have m5 := num hn 5 rfl; have m6 := num hn 6 rfl
  have e0 := h.tunary _ (getElem?_of_take hi 0 rfl) (by omega) (by omega) V
  have e1 := h.tbinary _ (getElem?_of_take hi 1 rfl) (by omega) (by omega) (by omega) V
  have e2 := h.tunary _ (getElem?_of_take hi 2 rfl) (by omega) (by omega) V
  have e3 := h.tbinary _ (getElem?_of_take hi 3 rfl) (by omega) (by omega) (by omega) V
  have e4 := h.tnullary _ (getElem?_of_take hi 4 rfl) (by omega) V
  have e5 := h.tunary _ (getElem?_of_take hi 5 rfl) (by omega) (by omega) V
  have e6 := h.tbinary _ (getElem?_of_take hi 6 rfl) (by omega) (by omega) (by omega) V
  have q : ∀ c : TRef sig ⟨S0, .i32⟩, broadcastInDim s ![] bc (rd ops V c) j = rd ops V c at0 := fun c => by
    show rd ops V c _ = _
    congr 1
    funext a; exact a.elim0
  unfold rd2
  rw [e6, e5, e4, e3, e2, e1, e0]
  show (IntOp.addi (rd ops V x0 j) (broadcastInDim s ![] bc (rd ops V c0) j),
    IntOp.addi (IntOp.addi (rd ops V x1 j) (broadcastInDim s ![] bc (rd ops V c1) j)) n2) = _
  rw [q, q, h0, h1]
  rfl

end Cert.Line
-- ==== Proof.Uniform.lean ====
/-
  From a place's number to its uniform number: the words the generator starts from, and the number made of the pair it
  ends with. Both programs compute this one function of the place.
-/
module

public import proofs.«01_k».proof.Proof.Rounds

@[expose] public section

noncomputable section

namespace Cert.Line

open Idealize.ShloMosaic

variable {F : FTy → Type} [FloatOps F]

/-- The pair before the rounds: the place's number in the second word, the key (0, 42) added. -/
def seed (lo : BitVec 32) : Pair := (0#32, IntOp.addi lo 42#32)

/-- The two words against each other; 23 bits of the result as a fraction of one, then scaled to lie between the least
    positive normal number and one. -/
def unif (p : Pair) : F .f32 :=
  FloatOps.maximumf (FloatOps.ofBits .f32 0x00800000#32)
    (FloatOps.addf
      (FloatOps.mulf
        (FloatOps.subf (FloatOps.ofBits .f32 (IntOp.ori (IntOp.shrui .host (IntOp.xori p.1 p.2) 9#32) 1065353216#32))
          (FloatOps.ofBits .f32 0x3F800000#32))
        (FloatOps.subf (FloatOps.ofBits .f32 0x3F800000#32) (FloatOps.ofBits .f32 0x00800000#32)))
      (FloatOps.ofBits .f32 0x00800000#32))

end Cert.Line
-- ==== Proof.Table.lean ====
/-
  What the operations before the kernel leave in its operands: the table of uniform numbers, the transposed weights and
  the biases as a row.
-/
module

public import proofs.«01_k».proof.Proof.Uniform
public import proofs.«01_k».proof.Proof.Gen.KernelIdeal.Frame

@[expose] public section

noncomputable section

namespace Cert.KernelIdeal.Hand

open Cert.KernelIdeal Cert.KernelIdeal.Gen Cert.Line
open Idealize.ShloMosaic Idealize.ShloMosaic.TcCoe Idealize.ShloMosaic.StableHlo

variable {F : FTy → Type} [FloatOps F] [Named F]

/-- The buffers the operations write, in order. -/
abbrev houts : List (Ref sig .tc) :=
  [main_c, main_v0, main_c_0, main_v1, main_v2, main_v3, main_c_1, main_v4, main_v5, main_c_2, main_v6, main_v7, main_v8, main_v9,
   main_v10, main_c_3, main_v11, main_v12, main_c_4, main_v13, main_v14, main_v15, main_v16, main_v17, main_c_5, main_v18, main_v19,
   main_c_6, main_v20, main_v21, main_v22, main_v23, main_v24, main_c_7, main_v25, main_v26, main_c_8, main_v27, main_v28, main_v29,
   main_v30, main_c_9, main_v31, main_v32, main_c_10, main_v33, main_v34, main_c_11, main_v35, main_v36, main_v37, main_c_12,
   main_v38, main_v39, main_c_13, main_v40, main_v41, main_v42, main_v43, main_v44, main_c_14, main_v45, main_v46, main_c_15,
   main_v47, main_v48, main_v49, main_v50, main_v51, main_c_16, main_v52, main_v53, main_c_17, main_v54, main_v55, main_v56, main_v57,
   main_v58, main_c_18, main_v59, main_v60, main_c_19, main_v61, main_v62, main_v63, main_v64, main_c_20, main_v65, main_v66,
   main_c_21, main_v67, main_v68, main_c_22, main_v69, main_v70, main_v71, main_c_23, main_v72, main_v73, main_c_24, main_v74,
   main_v75, main_v76, main_v77, main_v78, main_c_25, main_v79, main_v80, main_c_26, main_v81, main_v82, main_v83, main_v84, main_v85,
   main_c_27, main_v86, main_v87, main_c_28, main_v88, main_v89, main_v90, main_v91, main_v92, main_c_29, main_v93, main_v94,
   main_c_30, main_v95, main_v96, main_v97, main_v98, main_c_31, main_v99, main_v100, main_c_32, main_v101, main_v102, main_c_33,
   main_v103, main_v104, main_v105, main_c_34, main_v106, main_v107, main_c_35, main_v108, main_v109, main_v110, main_v111, main_v112,
   main_c_36, main_v113, main_v114, main_c_37, main_v115, main_v116, main_v117, main_v118, main_v119, main_c_38, main_v120, main_v121,
   main_c_39, main_v122, main_v123, main_v124, main_v125, main_v126, main_c_40, main_v127, main_v128, main_c_41, main_v129, main_v130,
   main_v131, main_v132, main_c_42, main_v133, main_v134, main_c_43, main_v135, main_v136, main_c_44, main_v137, main_v138, main_v139,
   main_c_45, main_v140, main_v141, main_c_46, main_v142, main_v143, main_v144, main_v145, main_v146, main_c_47, main_v147, main_v148,
   main_c_48, main_v149, main_v150, main_v151, main_v152, main_v153, main_c_49, main_v154, main_v155, main_c_50, main_v156, main_v157,
   main_v158, main_v159, main_v160, main_c_51, main_v161, main_v162, main_c_52, main_v163, main_v164, main_v165, main_v166, main_c_53,
   main_v167, main_v168, main_c_54, main_v169, main_v170, main_c_55, main_v171, main_v172, main_v173, main_c_56, main_v174, main_v175,
   main_c_57, main_v176, main_v177, main_v178, main_cst, main_v179, main_v180, main_cst_58, main_cst_59, main_v181, main_v182,
   main_v183, main_cst_60, main_v184, main_v185, main_cst_61, main_v186, main_v187, main_v188, main_v189, main_v190]

set_option maxHeartbeats 4000000 in
set_option maxRecDepth 100000 in
theorem ordered : Ordered (hostOps0 : List (HloOp τ sig (Elt F))) houts 3 := ⟨rfl, rfl⟩

set_option maxHeartbeats 4000000 in
set_option maxRecDepth 100000 in
/-- The pair of words after all the rounds. -/
theorem stirred (V : Valuation τ sig (Elt F)) (j : S8000000.Idx) :
    rd2 hostOps0 V (.of main_v168) (.of main_v172) j = stir (rd2 hostOps0 V (.of main_c) (.of main_v2) j) := by
  have r0 := ordered.round (s := S8000000) (bc := bcast_S_S8000000) 5 (.of main_c) (.of main_v2) (.of main_v3) (.of main_v4) (.of main_v5) (.of main_v6) (.of main_v7) (.of main_v8) (.of main_v9) (.of main_c_1) (.of main_c_2) rfl (by decide) rfl V j
  have r1 := ordered.round (s := S8000000) (bc := bcast_S_S8000000) 14 (.of main_v3) (.of main_v9) (.of main_v10) (.of main_v11) (.of main_v12) (.of main_v13) (.of main_v14) (.of main_v15) (.of main_v16) (.of main_c_3) (.of main_c_4) rfl (by decide) rfl V j
  have r2 := ordered.round (s := S8000000) (bc := bcast_S_S8000000) 23 (.of main_v10) (.of main_v16) (.of main_v17) (.of main_v18) (.of main_v19) (.of main_v20) (.of main_v21) (.of main_v22) (.of main_v23) (.of main_c_5) (.of main_c_6) rfl (by decide) rfl V j
  have r3 := ordered.round (s := S8000000) (bc := bcast_S_S8000000) 32 (.of main_v17) (.of main_v23) (.of main_v24) (.of main_v25) (.of main_v26) (.of main_v27) (.of main_v28) (.of main_v29) (.of main_v30) (.of main_c_7) (.of main_c_8) rfl (by decide) rfl V j
  have r4 := ordered.keyConst (s := S8000000) (bc := bcast_S_S8000000) 41 (.of main_v24) (.of main_v30) (.of main_v31) (.of main_v32) (.of main_v33) (.of main_v34) (.of main_v35) (.of main_v36) (.of main_c_9) (.of main_c_10) (.of main_c_11) rfl (by decide) rfl V j
  have r5 := ordered.round (s := S8000000) (bc := bcast_S_S8000000) 50 (.of main_v32) (.of main_v36) (.of main_v37) (.of main_v38) (.of main_v39) (.of main_v40) (.of main_v41) (.of main_v42) (.of main_v43) (.of main_c_12) (.of main_c_13) rfl (by decide) rfl V j
  have r6 := ordered.round (s := S8000000) (bc := bcast_S_S8000000) 59 (.of main_v37) (.of main_v43) (.of main_v44) (.of main_v45) (.of main_v46) (.of main_v47) (.of main_v48) (.of main_v49) (.of main_v50) (.of main_c_14) (.of main_c_15) rfl (by decide) rfl V j
  have r7 := ordered.round (s := S8000000) (bc := bcast_S_S8000000) 68 (.of main_v44) (.of main_v50) (.of main_v51) (.of main_v52) (.of main_v53) (.of main_v54) (.of main_v55) (.of main_v56) (.of main_v57) (.of main_c_16) (.of main_c_17) rfl (by decide) rfl V j
  have r8 := ordered.round (s := S8000000) (bc := bcast_S_S8000000) 77 (.of main_v51) (.of main_v57) (.of main_v58) (.of main_v59) (.of main_v60) (.of main_v61) (.of main_v62) (.of main_v63) (.of main_v64) (.of main_c_18) (.of main_c_19) rfl (by decide) rfl V j
  have r9 := ordered.keyConst (s := S8000000) (bc := bcast_S_S8000000) 86 (.of main_v58) (.of main_v64) (.of main_v65) (.of main_v66) (.of main_v67) (.of main_v68) (.of main_v69) (.of main_v70) (.of main_c_20) (.of main_c_21) (.of main_c_22) rfl (by decide) rfl V j
  have r10 := ordered.round (s := S8000000) (bc := bcast_S_S8000000) 95 (.of main_v66) (.of main_v70) (.of main_v71) (.of main_v72) (.of main_v73) (.of main_v74) (.of main_v75) (.of main_v76) (.of main_v77) (.of main_c_23) (.of main_c_24) rfl (by decide) rfl V j
  have r11 := ordered.round (s := S8000000) (bc := bcast_S_S8000000) 104 (.of main_v71) (.of main_v77) (.of main_v78) (.of main_v79) (.of main_v80) (.of main_v81) (.of main_v82) (.of main_v83) (.of main_v84) (.of main_c_25) (.of main_c_26) rfl (by decide) rfl V j
  have r12 := ordered.round (s := S8000000) (bc := bcast_S_S8000000) 113 (.of main_v78) (.of main_v84) (.of main_v85) (.of main_v86) (.of main_v87) (.of main_v88) (.of main_v89) (.of main_v90) (.of main_v91) (.of main_c_27) (.of main_c_28) rfl (by decide) rfl V j
  have r13 := ordered.round (s := S8000000) (bc := bcast_S_S8000000) 122 (.of main_v85) (.of main_v91) (.of main_v92) (.of main_v93) (.of main_v94) (.of main_v95) (.of main_v96) (.of main_v97) (.of main_v98) (.of main_c_29) (.of main_c_30) rfl (by decide) rfl V j
  have r14 := ordered.keyConst (s := S8000000) (bc := bcast_S_S8000000) 131 (.of main_v92) (.of main_v98) (.of main_v99) (.of main_v100) (.of main_v101) (.of main_v102) (.of main_v103) (.of main_v104) (.of main_c_31) (.of main_c_32) (.of main_c_33) rfl (by decide) rfl V j
  have r15 := ordered.round (s := S8000000) (bc := bcast_S_S8000000) 140 (.of main_v100) (.of main_v104) (.of main_v105) (.of main_v106) (.of main_v107) (.of main_v108) (.of main_v109) (.of main_v110) (.of main_v111) (.of main_c_34) (.of main_c_35) rfl (by decide) rfl V j
  have r16 := ordered.round (s := S8000000) (bc := bcast_S_S8000000) 149 (.of main_v105) (.of main_v111) (.of main_v112) (.of main_v113) (.of main_v114) (.of main_v115) (.of main_v116) (.of main_v117) (.of main_v118) (.of main_c_36) (.of main_c_37) rfl (by decide) rfl V j
  have r17 := ordered.round (s := S8000000) (bc := bcast_S_S8000000) 158 (.of main_v112) (.of main_v118) (.of main_v119) (.of main_v120) (.of main_v121) (.of main_v122) (.of main_v123) (.of main_v124) (.of main_v125) (.of main_c_38) (.of main_c_39) rfl (by decide) rfl V j
  have r18 := ordered.round (s := S8000000) (bc := bcast_S_S8000000) 167 (.of main_v119) (.of main_v125) (.of main_v126) (.of main_v127) (.of main_v128) (.of main_v129) (.of main_v130) (.of main_v131) (.of main_v132) (.of main_c_40) (.of main_c_41) rfl (by decide) rfl V j
  have r19 := ordered.keyConst (s := S8000000) (bc := bcast_S_S8000000) 176 (.of main_v126) (.of main_v132) (.of main_v133) (.of main_v134) (.of main_v135) (.of main_v136) (.of main_v137) (.of main_v138) (.of main_c_42) (.of main_c_43) (.of main_c_44) rfl (by decide) rfl V j
  have r20 := ordered.round (s := S8000000) (bc := bcast_S_S8000000) 185 (.of main_v134) (.of main_v138) (.of main_v139) (.of main_v140) (.of main_v141) (.of main_v142) (.of main_v143) (.of main_v144) (.of main_v145) (.of main_c_45) (.of main_c_46) rfl (by decide) rfl V j
  have r21 := ordered.round (s := S8000000) (bc := bcast_S_S8000000) 194 (.of main_v139) (.of main_v145) (.of main_v146) (.of main_v147) (.of main_v148) (.of main_v149) (.of main_v150) (.of main_v151) (.of main_v152) (.of main_c_47) (.of main_c_48) rfl (by decide) rfl V j
  have r22 := ordered.round (s := S8000000) (bc := bcast_S_S8000000) 203 (.of main_v146) (.of main_v152) (.of main_v153) (.of main_v154) (.of main_v155) (.of main_v156) (.of main_v157) (.of main_v158) (.of main_v159) (.of main_c_49) (.of main_c_50) rfl (by decide) rfl V j
  have r23 := ordered.round (s := S8000000) (bc := bcast_S_S8000000) 212 (.of main_v153) (.of main_v159) (.of main_v160) (.of main_v161) (.of main_v162) (.of main_v163) (.of main_v164) (.of main_v165) (.of main_v166) (.of main_c_51) (.of main_c_52) rfl (by decide) rfl V j
  have r24 := ordered.keyConst (s := S8000000) (bc := bcast_S_S8000000) 221 (.of main_v160) (.of main_v166) (.of main_v167) (.of main_v168) (.of main_v169) (.of main_v170) (.of main_v171) (.of main_v172) (.of main_c_53) (.of main_c_54) (.of main_c_55) rfl (by decide) rfl V j
  rw [r24, r23, r22, r21, r20, r19, r18, r17, r16, r15, r14, r13, r12, r11, r10, r9, r8, r7, r6, r5, r4, r3, r2, r1, r0]
  rfl

set_option maxHeartbeats 4000000 in
set_option maxRecDepth 100000 in
/-- The pair of words to begin with. -/
theorem begun (V : Valuation τ sig (Elt F)) (j : S8000000.Idx) :
    rd2 hostOps0 V (.of main_c) (.of main_v2) j = seed (BitVec.ofNat 32 (j 0).val) := by
  have e0 := (ordered (F := F)).nullary (y := main_c) 0 rfl (by decide) V
  have e1 := (ordered (F := F)).nullary (y := main_v0) 1 rfl (by decide) V
  have e2 := (ordered (F := F)).nullary (y := main_c_0) 2 rfl (by decide) V
  have e3 := (ordered (F := F)).unary (x := main_c_0) (y := main_v1) 3 rfl (by decide) (by decide) V
  have e4 := (ordered (F := F)).binary (a := main_v0) (b := main_v1) (y := main_v2) 4 rfl (by decide) (by decide) (by decide) V
  show (after hostOps0 V (Proc.devRef .tc main_c) j, after hostOps0 V (Proc.devRef .tc main_v2) j) = _
  rw [e4, e3, e2, e1, e0]
  rfl

set_option maxHeartbeats 4000000 in
set_option maxRecDepth 100000 in
/-- The uniform number made of the pair. -/
theorem uniform (V : Valuation τ sig (Elt F)) (j : S8000000.Idx) :
    rd hostOps0 V (.of main_v187 : TRef sig ⟨S8000000, .f32⟩) j = unif (rd2 hostOps0 V (.of main_v168) (.of main_v172) j) := by
  have e0 := (ordered (F := F)).binary (a := main_v168) (b := main_v172) (y := main_v173) 230 rfl (by decide) (by decide) (by decide) V
  have e1 := (ordered (F := F)).nullary (y := main_c_56) 231 rfl (by decide) V
  have e2 := (ordered (F := F)).unary (x := main_c_56) (y := main_v174) 232 rfl (by decide) (by decide) V
  have e3 := (ordered (F := F)).binary (a := main_v173) (b := main_v174) (y := main_v175) 233 rfl (by decide) (by decide) (by decide) V
  have e4 := (ordered (F := F)).nullary (y := main_c_57) 234 rfl (by decide) V
  have e5 := (ordered (F := F)).unary (x := main_c_57) (y := main_v176) 235 rfl (by decide) (by decide) V
  have e6 := (ordered (F := F)).binary (a := main_v175) (b := main_v176) (y := main_v177) 236 rfl (by decide) (by decide) (by decide) V
  have e7 := (ordered (F := F)).unary (x := main_v177) (y := main_v178) 237 rfl (by decide) (by decide) V
  have e8 := (ordered (F := F)).nullary (y := main_cst) 238 rfl (by decide) V
  have e9 := (ordered (F := F)).unary (x := main_cst) (y := main_v179) 239 rfl (by decide) (by decide) V
  have e10 := (ordered (F := F)).binary (a := main_v178) (b := main_v179) (y := main_v180) 240 rfl (by decide) (by decide) (by decide) V
  have e11 := (ordered (F := F)).nullary (y := main_cst_58) 241 rfl (by decide) V
  have e12 := (ordered (F := F)).nullary (y := main_cst_59) 242 rfl (by decide) V
  have e13 := (ordered (F := F)).binary (a := main_cst_58) (b := main_cst_59) (y := main_v181) 243 rfl (by decide) (by decide) (by decide) V
  have e14 := (ordered (F := F)).unary (x := main_v181) (y := main_v182) 244 rfl (by decide) (by decide) V
  have e15 := (ordered (F := F)).binary (a := main_v180) (b := main_v182) (y := main_v183) 245 rfl (by decide) (by decide) (by decide) V
  have e16 := (ordered (F := F)).nullary (y := main_cst_60) 246 rfl (by decide) V
  have e17 := (ordered (F := F)).unary (x := main_cst_60) (y := main_v184) 247 rfl (by decide) (by decide) V
  have e18 := (ordered (F := F)).binary (a := main_v183) (b := main_v184) (y := main_v185) 248 rfl (by decide) (by decide) (by decide) V
  have e19 := (ordered (F := F)).nullary (y := main_cst_61) 249 rfl (by decide) V
  have e20 := (ordered (F := F)).unary (x := main_cst_61) (y := main_v186) 250 rfl (by decide) (by decide) V
  have e21 := (ordered (F := F)).binary (a := main_v186) (b := main_v185) (y := main_v187) 251 rfl (by decide) (by decide) (by decide) V
  show after hostOps0 V (Proc.devRef .tc main_v187) j = _
  rw [e21, e20, e19, e18, e17, e16, e15, e14, e13, e12, e11, e10, e9, e8, e7, e6, e5, e4, e3, e2, e1, e0]
  rfl

set_option maxRecDepth 100000 in
theorem folded (V : Valuation τ sig (Elt F)) :
    after hostOps0 V (Proc.devRef .tc main_v188) = shapeCast S8x1000000 (after hostOps0 V (Proc.devRef .tc main_v187)) shapeCasts_S8000000_S8x1000000 :=
  (ordered (F := F)).reshape (x := main_v187) (y := main_v188) 252 rfl (by decide) (by decide) V

/-- The element of the table before it is folded into rows. -/
theorem table (V : Valuation τ sig (Elt F)) (j : S8000000.Idx) :
    rd hostOps0 V (.of main_v187 : TRef sig ⟨S8000000, .f32⟩) j = unif (stir (seed (BitVec.ofNat 32 (j 0).val))) := by
  rw [← begun V j, ← stirred V j]
  exact uniform V j

set_option maxRecDepth 100000 in
theorem weights (V : Valuation τ sig (Elt F)) :
    after hostOps0 V (Proc.devRef .tc main_v189)
      = transpose S64x1000000 [1, 0] (after hostOps0 V (Proc.devRef .tc main_arg1)) transposes_S1000000x64_S64x1000000_1_0 :=
  (ordered (F := F)).unary (x := main_arg1) (y := main_v189) 253 rfl (by decide) (by decide) V

set_option maxRecDepth 100000 in
theorem biases (V : Valuation τ sig (Elt F)) :
    after hostOps0 V (Proc.devRef .tc main_v190)
      = shapeCast S1x1000000 (after hostOps0 V (Proc.devRef .tc main_arg2)) shapeCasts_S1000000_S1x1000000 :=
  (ordered (F := F)).reshape (x := main_arg2) (y := main_v190) 254 rfl (by decide) (by decide) V

end Cert.KernelIdeal.Hand
-- ==== Proof.Operands.lean ====
/-
  The blocks the fetches bring in the first pass, element by element of the arrays they come from.
-/
module

public import proofs.«01_k».proof.Proof.Rows
public import proofs.«01_k».proof.Proof.Table

@[expose] public section

noncomputable section

namespace Cert.KernelIdeal.Hand

open Cert.KernelIdeal Cert.KernelIdeal.Gen Cert.Online Cert.Line
open Idealize.ShloMosaic Idealize.ShloMosaic.TcCoe

section Any

variable {F : FTy → Type} [FloatOps F] [Named F] [∀ e, Nonempty (Elt F e)] {m : (ℓ : Loc nD τ sig) → Buf (Elt F) ℓ} {c : Dev nD}

/-- A place of the part a fetch moves holds the array's block there. -/
theorem fetched_at {w : Fin cfg0.W} {t : Fin cfg0.N} {Y : (cfg0.win w).block.Idx → Elt F (cfg0.win w).elt} (h : Fetched m c w t Y)
    (j : (cfg0.win w).block.Idx) (hj : ∀ a, (j a).val < (cfg0.win w).xsize (cfg0.grid.coords t) a) :
    Y j = iblk m c w t fun a => ⟨(j a).val, hj a⟩ := by
  obtain ⟨d, rfl⟩ := h
  exact dif_pos (((cfg0.win w).moved_iff _ _).2 hj)

/-- A place of a block that lies inside the array is in the part moved. -/
theorem lt_extent {ix k d n : ℕ} (hn : n < k) (h : ix * k + n < d) : n < (Pipeline.Clip.of ix k d).extent k := by
  unfold Pipeline.Clip.of
  split
  · exact hn
  · show n < d - ix * k
    omega

theorem index1 : ∀ t : Fin cfg0.N, t.val < 31 → cc0_transform_1 (grid0.coords t) = ![0, t.val] := by decide +kernel
theorem index2 : ∀ t : Fin cfg0.N, t.val < 31 → cc0_transform_2 (grid0.coords t) = ![0, t.val] := by decide +kernel
theorem index3 : ∀ t : Fin cfg0.N, t.val < 31 → cc0_transform_3 (grid0.coords t) = ![0, t.val] := by decide +kernel

theorem fetched_latent {t : Fin cfg0.N} {Y : S8x64.Idx → Elt F .f32} (h : Fetched m c 0 t Y) (r : Fin 8) (k : Fin 64) :
    Y (ix2 r k) = V m c main_arg0 (ix2 r k) := by
  refine (fetched_at h (ix2 r k) fun a => match a with | ⟨0, _⟩ => r.isLt | ⟨1, _⟩ => k.isLt).trans ?_
  refine congrArg (V m c main_arg0) (Shape.idx_ext₂ ?_ ?_)
  · exact (Pipeline.Window.rect_emb_val win0_0 t _ 0).trans (by show 0 * 8 + r.val = r.val; omega)
  · exact (Pipeline.Window.rect_emb_val win0_0 t _ 1).trans (by show 0 * 64 + k.val = k.val; omega)

theorem fetched_weights {t : Fin cfg0.N} (ht : t.val < 31) {Y : S64x32768.Idx → Elt F .f32} (h : Fetched m c 1 t Y) (k : Fin 64) (j : Fin 32768)
    (hn : 32768 * t.val + j.val < 1000000) : Y (ix2 k j) = V m c main_v189 (ix2 k ⟨32768 * t.val + j.val, hn⟩) := by
  have hix := index1 t ht
  refine (fetched_at h (ix2 k j) fun a => ?_).trans ?_
  · match a with
    | ⟨0, _⟩ => exact lt_extent (ix := cc0_transform_1 (grid0.coords t) 0) (k := 64) (d := 64) k.isLt (by rw [hix]; show 0 * 64 + k.val < 64; omega)
    | ⟨1, _⟩ => exact lt_extent (ix := cc0_transform_1 (grid0.coords t) 1) (k := 32768) (d := 1000000) j.isLt (by rw [hix]; show t.val * 32768 + j.val < 1000000; omega)
  · refine congrArg (V m c main_v189) (Shape.idx_ext₂ ?_ ?_)
    · refine (Pipeline.Window.rect_emb_val win0_1 t _ 0).trans ?_
      show cc0_transform_1 (grid0.coords t) 0 * 64 + k.val = k.val
      rw [hix]; show 0 * 64 + k.val = k.val; omega
    · refine (Pipeline.Window.rect_emb_val win0_1 t _ 1).trans ?_
      show cc0_transform_1 (grid0.coords t) 1 * 32768 + j.val = 32768 * t.val + j.val
      rw [hix]; show t.val * 32768 + j.val = 32768 * t.val + j.val; omega

theorem fetched_biases {t : Fin cfg0.N} (ht : t.val < 31) {Y : S1x32768.Idx → Elt F .f32} (h : Fetched m c 2 t Y) (j : Fin 32768)
    (hn : 32768 * t.val + j.val < 1000000) : Y (ix2 0 j) = V m c main_v190 (ix2 0 ⟨32768 * t.val + j.val, hn⟩) := by
  have hix := index2 t ht
  refine (fetched_at h (ix2 0 j) fun a => ?_).trans ?_
  · match a with
    | ⟨0, _⟩ => exact lt_extent (ix := cc0_transform_2 (grid0.coords t) 0) (k := 1) (d := 1) (n := 0) Nat.one_pos (by rw [hix]; show 0 * 1 + 0 < 1; omega)
    | ⟨1, _⟩ => exact lt_extent (ix := cc0_transform_2 (grid0.coords t) 1) (k := 32768) (d := 1000000) j.isLt (by rw [hix]; show t.val * 32768 + j.val < 1000000; omega)
  · refine congrArg (V m c main_v190) (Shape.idx_ext₂ ?_ ?_)
    · refine (Pipeline.Window.rect_emb_val win0_2 t _ 0).trans ?_
      show cc0_transform_2 (grid0.coords t) 0 * 1 + 0 = 0
      rw [hix]; rfl
    · refine (Pipeline.Window.rect_emb_val win0_2 t _ 1).trans ?_
      show cc0_transform_2 (grid0.coords t) 1 * 32768 + j.val = 32768 * t.val + j.val
      rw [hix]; show t.val * 32768 + j.val = 32768 * t.val + j.val; omega

theorem fetched_table {t : Fin cfg0.N} (ht : t.val < 31) {Y : S8x32768.Idx → Elt F .f32} (h : Fetched m c 3 t Y) (r : Fin 8) (j : Fin 32768)
    (hn : 32768 * t.val + j.val < 1000000) : Y (ix2 r j) = V m c main_v188 (ix2 r ⟨32768 * t.val + j.val, hn⟩) := by
  have hix := index3 t ht
  refine (fetched_at h (ix2 r j) fun a => ?_).trans ?_
  · match a with
    | ⟨0, _⟩ => exact lt_extent (ix := cc0_transform_3 (grid0.coords t) 0) (k := 8) (d := 8) r.isLt (by rw [hix]; show 0 * 8 + r.val < 8; omega)
    | ⟨1, _⟩ => exact lt_extent (ix := cc0_transform_3 (grid0.coords t) 1) (k := 32768) (d := 1000000) j.isLt (by rw [hix]; show t.val * 32768 + j.val < 1000000; omega)
  · refine congrArg (V m c main_v188) (Shape.idx_ext₂ ?_ ?_)
    · refine (Pipeline.Window.rect_emb_val win0_3 t _ 0).trans ?_
      show cc0_transform_3 (grid0.coords t) 0 * 8 + r.val = r.val
      rw [hix]; show 0 * 8 + r.val = r.val; omega
    · refine (Pipeline.Window.rect_emb_val win0_3 t _ 1).trans ?_
      show cc0_transform_3 (grid0.coords t) 1 * 32768 + j.val = 32768 * t.val + j.val
      rw [hix]; show t.val * 32768 + j.val = 32768 * t.val + j.val; omega

end Any

end Cert.KernelIdeal.Hand
-- ==== Proof.Logits.lean ====
/-
  The real numbers both programs score the columns by: a row's logits, and the noise added to them, as functions of the
  column's number; and when the arrays hold reals.
-/
module

public import proofs.«01_k».proof.Proof.Uniform
public import proofs.«01_k».proof.Proof.Online
public import Idealize.ShloMosaic.Lib.Pointwise.Index

@[expose] public section

noncomputable section

namespace Cert.Row

open Idealize.ShloMosaic Cert.Line Cert.Online

/-- The number of a place of the table of words: a million places to a row. -/
def place (r n : ℕ) : BitVec 32 := IntOp.addi (IntOp.muli (BitVec.ofNat 32 r) 1000000#32) (BitVec.ofNat 32 n)

/-- The noise of row `r`'s column `n`. -/
def noise (r : Fin 8) (n : ℕ) : EReal := -Ideal.log (-Ideal.log (unif (F := Ideal) (stir (seed (place r.val n)))))

/-- Reals for the entries of the three arguments. -/
structure Entries where
  z : Fin 8 → Fin 64 → ℝ
  W : Fin 1000000 → Fin 64 → ℝ
  b : Fin 1000000 → ℝ

/-- The arguments' entries are these reals. -/
structure Entries.Of (e : Entries) (A0 : (⟨2, ![8, 64]⟩ : Shape).Idx → EReal) (A1 : (⟨2, ![1000000, 64]⟩ : Shape).Idx → EReal)
    (A2 : (⟨1, ![1000000]⟩ : Shape).Idx → EReal) : Prop where
  z : ∀ r k, A0 (ix2 r k) = (e.z r k : EReal)
  W : ∀ n k, A1 (ix2 n k) = (e.W n k : EReal)
  b : ∀ n, A2 (ix1 n) = (e.b n : EReal)

/-- Row `r`'s logit at column `n`. -/
def Entries.x (e : Entries) (r : Fin 8) (n : ℕ) : ℝ := if h : n < 1000000 then (∑ k : Fin 64, e.z r k * e.W ⟨n, h⟩ k) + e.b ⟨n, h⟩ else 0

/-- The sum of products of the entries, the bias added, is the logit. -/
theorem Entries.logit_eq (e : Entries) (r : Fin 8) {n : ℕ} (h : n < 1000000) :
    (∑ k : Fin 64, (e.z r k : EReal) * (e.W ⟨n, h⟩ k : EReal)) + (e.b ⟨n, h⟩ : EReal) = (e.x r n : EReal) := by
  unfold Entries.x
  rw [dif_pos h, EReal.coe_add, ← coe_sum]
  exact congrArg (· + (e.b ⟨n, h⟩ : EReal)) (Finset.sum_congr rfl fun k _ => (EReal.coe_mul _ _).symm)

/-- Extended reals strictly between the infinities are reals. -/
theorem real_of_abs {a : EReal} (h : max a (-a) < ⊤) : a = (a.toReal : EReal) := by
  refine (EReal.coe_toReal ?_ ?_).symm
  · rintro rfl; exact absurd h (by simp)
  · rintro rfl; exact absurd h (by simp)

/-- Arrays whose entries are all between the infinities hold reals. -/
theorem entries_of {A0 : (⟨2, ![8, 64]⟩ : Shape).Idx → EReal} {A1 : (⟨2, ![1000000, 64]⟩ : Shape).Idx → EReal}
    {A2 : (⟨1, ![1000000]⟩ : Shape).Idx → EReal} (h0 : ∀ i, max (A0 i) (-A0 i) < ⊤) (h1 : ∀ i, max (A1 i) (-A1 i) < ⊤)
    (h2 : ∀ i, max (A2 i) (-A2 i) < ⊤) : ∃ e : Entries, e.Of A0 A1 A2 :=
  ⟨⟨fun r k => (A0 (ix2 r k)).toReal, fun n k => (A1 (ix2 n k)).toReal, fun n => (A2 (ix1 n)).toReal⟩,
    ⟨fun _ _ => real_of_abs (h0 _), fun _ _ => real_of_abs (h1 _), fun _ => real_of_abs (h2 _)⟩⟩

/-! ## What both programs return -/

/-- The column of row `r`'s largest score, the first of them. -/
def Entries.hit (e : Entries) (r : Fin 8) : ℕ :=
  Classical.choose (exists_first (fun n => (e.x r n : EReal) + noise r n) (k := 1000000) (by norm_num))

theorem Entries.hit_first (e : Entries) (r : Fin 8) : IsFirst (fun n => (e.x r n : EReal) + noise r n) 1000000 (e.hit r) :=
  Classical.choose_spec (exists_first (fun n => (e.x r n : EReal) + noise r n) (k := 1000000) (by norm_num))

/-- The log-probability of row `r`'s column `n`. -/
def Entries.logp (e : Entries) (r : Fin 8) (n : ℕ) : EReal := (e.x r n : EReal) - (lse 1000000 (e.x r) : EReal)

/-- The proposal: one half in column 0, then the one-hot row of the best column. -/
def Entries.proposal (e : Entries) (r : Fin 8) (n : ℕ) : EReal :=
  if n = 0 then Ideal.ofBits .f32 0x3F000000#32 else if n = e.hit r + 1 then 1 else 0

end Cert.Row
-- ==== Proof.Blocks.lean ====
/-
  The blocks fetched in the first pass give the logits and the noise of their columns.
-/
module

public import proofs.«01_k».proof.Proof.Operands
public import proofs.«01_k».proof.Proof.Logits

@[expose] public section

noncomputable section

namespace Cert.KernelIdeal.Hand

open Cert.KernelIdeal Cert.KernelIdeal.Gen Cert.Online Cert.Line Cert.Row
open Idealize.ShloMosaic Idealize.ShloMosaic.TcCoe

variable {m : (ℓ : Loc nD τ sig) → Buf (Elt Ideal) ℓ} {c : Dev nD}

theorem weight_at (k : Fin 64) (n : Fin 1000000) :
    V m c main_v189 (ix2 k n) = m ((c : Thread nD τ).loc main_arg1) (ix2 n k) := by
  refine (congrFun (weights (F := Ideal) (fun b => m (c, b))) (ix2 k n)).trans ?_
  refine (transpose_apply [1, 0] _ transposes_S1000000x64_S64x1000000_1_0 (ix2 k n) (ix2 n k) fun b => ?_).trans ?_
  · match b with
    | ⟨0, _⟩ => rfl
    | ⟨1, _⟩ => rfl
  · exact congrFun (V_main_arg1 m c) (ix2 n k)

theorem bias_at (n : Fin 1000000) : V m c main_v190 (ix2 0 n) = m ((c : Thread nD τ).loc main_arg2) (ix1 n) := by
  refine (congrFun (biases (F := Ideal) (fun b => m (c, b))) (ix2 0 n)).trans ?_
  refine (shapeCast_apply _ shapeCasts_S1000000_S1x1000000 (ix2 0 n) (ix1 n) ?_).trans (congrFun (V_main_arg2 m c) (ix1 n))
  rw [Shape.rowMajor_val_one, Shape.rowMajor_val_two]
  show n.val = 0 * 1000000 + n.val
  omega

/-- The word of a place: a row's words, then the column's, counted through. -/
theorem word_place (r n : ℕ) : BitVec.ofNat 32 (r * 1000000 + n) = IntOp.addi (IntOp.muli (BitVec.ofNat 32 r) 1000000#32) (BitVec.ofNat 32 n) := by
  show BitVec.ofNat 32 (r * 1000000 + n) = BitVec.ofNat 32 r * BitVec.ofNat 32 1000000 + BitVec.ofNat 32 n
  rw [BitVec.ofNat_add, BitVec.ofNat_mul]

/-- Rows one after the other, made a table. -/
theorem rows_at {α : Type} {K N L : ℕ} (X : (⟨1, ![L]⟩ : Shape).Idx → α) (h : (⟨1, ![L]⟩ : Shape).ShapeCasts ⟨2, ![K, N]⟩)
    (r : Fin K) (n : Fin N) (hl : r.val * N + n.val < L) : shapeCast ⟨2, ![K, N]⟩ X h (ix2 r n) = X (ix1 ⟨r.val * N + n.val, hl⟩) := by
  refine shapeCast_apply _ h (ix2 r n) (ix1 ⟨r.val * N + n.val, hl⟩) ?_
  rw [Shape.rowMajor_val_one, Shape.rowMajor_val_two]
  rfl

theorem table_at (r : Fin 8) (n : Fin 1000000) :
    V m c main_v188 (ix2 r n) = unif (F := Ideal) (stir (seed (place r.val n.val))) := by
  have hl : r.val * 1000000 + n.val < 8000000 := by omega
  refine (congrFun (folded (F := Ideal) (fun b => m (c, b))) (ix2 r n)).trans ((rows_at _ shapeCasts_S8000000_S8x1000000 r n hl).trans ?_)
  refine (table (F := Ideal) (fun b => m (c, b)) (ix1 ⟨r.val * 1000000 + n.val, hl⟩)).trans (congrArg (fun w => unif (F := Ideal) (stir (seed w))) ?_)
  exact word_place r.val n.val

variable {e : Entries}
  (he : e.Of (m ((c : Thread nD τ).loc main_arg0)) (m ((c : Thread nD τ).loc main_arg1)) (m ((c : Thread nD τ).loc main_arg2)))

include he in
/-- What the fetches of a point of the first pass bring. -/
theorem blocks (t : Fin cfg0.N) (x1 : S8x64.Idx → EReal) (x2 : S64x32768.Idx → EReal) (x3 : S1x32768.Idx → EReal) (x4 : S8x32768.Idx → EReal)
    (ht : t.val < 31) (h0 : Fetched (F := Ideal) m c 0 t x1) (h1 : Fetched (F := Ideal) m c 1 t x2) (h2 : Fetched (F := Ideal) m c 2 t x3)
    (h3 : Fetched (F := Ideal) m c 3 t x4) : Block e.x noise t.val x1 x2 x3 x4 where
  logits r j hn := by
    rw [pay16_at r x1 x2 x3 j, ← e.logit_eq r hn]
    have hb : x3 (ix2 0 j) = (e.b ⟨32768 * t.val + j.val, hn⟩ : EReal) :=
      (fetched_biases ht h2 j hn).trans ((bias_at _).trans (he.b _))
    have hs : ∀ k : Fin 64, x1 (ix2 r k) * x2 (ix2 k j) = (e.z r k : EReal) * (e.W ⟨32768 * t.val + j.val, hn⟩ k : EReal) := fun k => by
      have hz : x1 (ix2 r k) = (e.z r k : EReal) := (fetched_latent h0 r k).trans ((congrFun (V_main_arg0 m c) _).trans (he.z r k))
      have hw : x2 (ix2 k j) = (e.W ⟨32768 * t.val + j.val, hn⟩ k : EReal) :=
        (fetched_weights ht h1 k j hn).trans ((weight_at k _).trans (he.W _ k))
      rw [hz, hw]
    rw [hb, Finset.sum_congr rfl fun k _ => hs k]
  noise r j hn := by
    have hx : x4 (ix2 r j) = unif (F := Ideal) (stir (seed (place r.val (32768 * t.val + j.val)))) :=
      (fetched_table ht h3 r j hn).trans (table_at r _)
    rw [hx]; rfl

end Cert.KernelIdeal.Hand
-- ==== Proof.Arrays.lean ====
/-
  The two arrays the kernel fills, whole: the second pass' blocks cover them, and each place holds what its block was left with.
-/
module

public import proofs.«01_k».proof.Proof.Blocks

@[expose] public section

noncomputable section

namespace Cert.KernelIdeal.Hand

open Cert.KernelIdeal Cert.KernelIdeal.Gen Cert.Online Cert.Line Cert.Row
open Idealize.ShloMosaic Idealize.ShloMosaic.TcCoe Idealize.ShloMosaic.Pipeline

/-- The outputs' blocks are written back in the second pass alone. -/
theorem flush4 : ∀ t : Fin cfg0.N, (cfg0.win 4).flush t = true ↔ 31 ≤ t.val := by decide +kernel
theorem flush5 : ∀ t : Fin cfg0.N, (cfg0.win 5).flush t = true ↔ 31 ≤ t.val := by decide +kernel

theorem index4 : ∀ t : Fin cfg0.N, 31 ≤ t.val → cc0_transform_4 (grid0.coords t) = ![0, t.val - 31] := by decide +kernel
theorem index5 : ∀ t : Fin cfg0.N, 31 ≤ t.val → cc0_transform_5 (grid0.coords t) = ![0, t.val - 31] := by decide +kernel

/-- Where a place of a block of window 4 lies in the array. -/
theorem place4 {t : Fin cfg0.N} (ht : 31 ≤ t.val) (y : (win0_4.xblock (grid0.coords t)).Idx) :
    ((win0_4.rect t).emb y 0).val = (y 0).val ∧ ((win0_4.rect t).emb y 1).val = 32768 * (t.val - 31) + (y 1).val := by
  have hix := index4 t ht
  refine ⟨(Pipeline.Window.rect_emb_val win0_4 t y 0).trans ?_, (Pipeline.Window.rect_emb_val win0_4 t y 1).trans ?_⟩
  · show cc0_transform_4 (grid0.coords t) 0 * 8 + (y 0).val = _
    rw [hix]; show 0 * 8 + (y 0).val = _; omega
  · show cc0_transform_4 (grid0.coords t) 1 * 32768 + (y 1).val = _
    rw [hix]; show (t.val - 31) * 32768 + (y 1).val = _; omega

/-- Where a place of a block of window 5 lies in the array. -/
theorem place5 {t : Fin cfg0.N} (ht : 31 ≤ t.val) (y : (win0_5.xblock (grid0.coords t)).Idx) :
    ((win0_5.rect t).emb y 0).val = (y 0).val ∧ ((win0_5.rect t).emb y 1).val = 32768 * (t.val - 31) + (y 1).val := by
  have hix := index5 t ht
  refine ⟨(Pipeline.Window.rect_emb_val win0_5 t y 0).trans ?_, (Pipeline.Window.rect_emb_val win0_5 t y 1).trans ?_⟩
  · show cc0_transform_5 (grid0.coords t) 0 * 8 + (y 0).val = _
    rw [hix]; show 0 * 8 + (y 0).val = _; omega
  · show cc0_transform_5 (grid0.coords t) 1 * 32768 + (y 1).val = _
    rw [hix]; show (t.val - 31) * 32768 + (y 1).val = _; omega

/-- The point of the second pass whose block a column lies in. -/
def pointOf (n : ℕ) (hn : n < 1015808) : Fin cfg0.N := ⟨31 + n / 32768, by show _ < 62; omega⟩

theorem cover4 (i : S8x1000000.Idx) : ∃ t : Fin cfg0.N, (cfg0.win 4).flush t = true ∧ i ∈ ((cfg0.win 4).blk t).view.set := by
  have hi0 : (i 0).val < 8 := (i 0).isLt
  have hi1 : (i 1).val < 1000000 := (i 1).isLt
  have ht : 31 ≤ (pointOf (i 1).val (by omega)).val := Nat.le_add_right _ _
  have htv : (pointOf (i 1).val (by omega)).val - 31 = (i 1).val / 32768 := by show 31 + _ - 31 = _; omega
  generalize pointOf (i 1).val _ = t at ht htv
  have hix := index4 t ht
  have hy : ∀ a, (![(i 0).val, (i 1).val % 32768] : Fin 2 → ℕ) a < win0_4.xsize (grid0.coords t) a := fun a => by
    match a with
    | ⟨0, _⟩ => exact lt_extent (ix := cc0_transform_4 (grid0.coords t) 0) (k := 8) (d := 8) (n := (i 0).val) hi0 (by rw [hix]; show 0 * 8 + (i 0).val < 8; omega)
    | ⟨1, _⟩ => exact lt_extent (ix := cc0_transform_4 (grid0.coords t) 1) (k := 32768) (d := 1000000) (n := (i 1).val % 32768) (by omega) (by rw [hix]; show (t.val - 31) * 32768 + (i 1).val % 32768 < 1000000; omega)
  refine ⟨t, (flush4 t).2 ht, ?_⟩
  have e : (win0_4.rect t).emb (fun a => ⟨(![(i 0).val, (i 1).val % 32768] : Fin 2 → ℕ) a, hy a⟩) = i := by
    obtain ⟨h0, h1⟩ := place4 ht (fun a => ⟨(![(i 0).val, (i 1).val % 32768] : Fin 2 → ℕ) a, hy a⟩)
    refine Shape.idx_ext₂ (h0.trans rfl) (h1.trans ?_)
    show 32768 * (t.val - 31) + (i 1).val % 32768 = (i 1).val
    omega
  rw [← e]
  exact View.emb_mem_set ((cfg0.win 4).blk t).view _

theorem cover5 (i : S8x1000001.Idx) : ∃ t : Fin cfg0.N, (cfg0.win 5).flush t = true ∧ i ∈ ((cfg0.win 5).blk t).view.set := by
  have hi0 : (i 0).val < 8 := (i 0).isLt
  have hi1 : (i 1).val < 1000001 := (i 1).isLt
  have ht : 31 ≤ (pointOf (i 1).val (by omega)).val := Nat.le_add_right _ _
  have htv : (pointOf (i 1).val (by omega)).val - 31 = (i 1).val / 32768 := by show 31 + _ - 31 = _; omega
  generalize pointOf (i 1).val _ = t at ht htv
  have hix := index5 t ht
  have hy : ∀ a, (![(i 0).val, (i 1).val % 32768] : Fin 2 → ℕ) a < win0_5.xsize (grid0.coords t) a := fun a => by
    match a with
    | ⟨0, _⟩ => exact lt_extent (ix := cc0_transform_5 (grid0.coords t) 0) (k := 8) (d := 8) (n := (i 0).val) hi0 (by rw [hix]; show 0 * 8 + (i 0).val < 8; omega)
    | ⟨1, _⟩ => exact lt_extent (ix := cc0_transform_5 (grid0.coords t) 1) (k := 32768) (d := 1000001) (n := (i 1).val % 32768) (by omega) (by rw [hix]; show (t.val - 31) * 32768 + (i 1).val % 32768 < 1000001; omega)
  refine ⟨t, (flush5 t).2 ht, ?_⟩
  have e : (win0_5.rect t).emb (fun a => ⟨(![(i 0).val, (i 1).val % 32768] : Fin 2 → ℕ) a, hy a⟩) = i := by
    obtain ⟨h0, h1⟩ := place5 ht (fun a => ⟨(![(i 0).val, (i 1).val % 32768] : Fin 2 → ℕ) a, hy a⟩)
    refine Shape.idx_ext₂ (h0.trans rfl) (h1.trans ?_)
    show 32768 * (t.val - 31) + (i 1).val % 32768 = (i 1).val
    omega
  rw [← e]
  exact View.emb_mem_set ((cfg0.win 5).blk t).view _

variable {m : (ℓ : Loc nD τ sig) → Buf (Elt Ideal) ℓ}

/-- What one run ends with, all the entries reals. -/
theorem filled {r : PUnit × MemSt nD τ sig (Elt Ideal)} {T : (c : Dev nD) → Track (F := Ideal) m c} {c : Dev nD} {e : Entries}
    (h4 : ∀ t X, (T c).P4 t X → LogProb e.x t.val X) (h5 : ∀ t X, (T c).P5 t X → OneHot e.x noise t.val X)
    (h : RDat.FramePost (cfgs 0) (fun c => rdat T c) (V m) r) :
    (∀ i : S8x1000000.Idx, r.2.mem ((c : Thread nD τ).loc main_v191_0) i = e.logp (i 0) (i 1).val)
      ∧ ∀ i : S8x1000001.Idx, r.2.mem ((c : Thread nD τ).loc main_v191_1) i = e.proposal (i 0) (i 1).val := by
  obtain ⟨X, hX, hA⟩ := RDat.FramePost.exists_exact h c
  constructor
  · intro i
    refine (congrFun (hA 4) i).trans ?_
    refine Dat.arrAt_forall_of_cover ((rdat T c).withAfter X) (4 : Fin cfg0.W)
      (fun (i : S8x1000000.Idx) (v : EReal) => v = e.logp (i 0) (i 1).val) (fun t hf y => ?_) cover4 i
    have ht := (flush4 t).1 hf
    obtain ⟨Y, -, hY⟩ := hX 4 t hf
    have hP := h4 t _ (hY ht)
    obtain ⟨p0, p1⟩ := place4 ht y
    have hy0 : (y 0).val < 8 := p0 ▸ ((win0_4.rect t).emb y 0).isLt
    have hy1 : (y 1).val < 32768 := (win0_4.xinj (grid0.coords t) y 1).isLt
    have hn : 32768 * (t.val - 31) + (y 1).val < 1000000 := p1 ▸ ((win0_4.rect t).emb y 1).isLt
    have key := hP ⟨(y 0).val, hy0⟩ ⟨(y 1).val, hy1⟩ hn
    have hi : win0_4.xinj (grid0.coords t) y = ix2 (⟨(y 0).val, hy0⟩ : Fin 8) (⟨(y 1).val, hy1⟩ : Fin 32768) := Shape.idx_ext₂ rfl rfl
    have hr : (win0_4.rect t).emb y 0 = (⟨(y 0).val, hy0⟩ : Fin 8) := Fin.ext p0
    show X 4 t (win0_4.xinj (grid0.coords t) y) = e.logp ((win0_4.rect t).emb y 0) ((win0_4.rect t).emb y 1).val
    rw [hi, hr, p1]
    exact key
  · intro i
    refine (congrFun (hA 5) i).trans ?_
    refine Dat.arrAt_forall_of_cover ((rdat T c).withAfter X) (5 : Fin cfg0.W)
      (fun (i : S8x1000001.Idx) (v : EReal) => v = e.proposal (i 0) (i 1).val) (fun t hf y => ?_) cover5 i
    have ht := (flush5 t).1 hf
    obtain ⟨Y, -, hY⟩ := hX 5 t hf
    have hP := h5 t _ (hY ht)
    obtain ⟨p0, p1⟩ := place5 ht y
    have hy0 : (y 0).val < 8 := p0 ▸ ((win0_5.rect t).emb y 0).isLt
    have hy1 : (y 1).val < 32768 := (win0_5.xinj (grid0.coords t) y 1).isLt
    have hb : IsFirst (score e.x noise ⟨(y 0).val, hy0⟩) 1000000 (e.hit ⟨(y 0).val, hy0⟩) :=
      (e.hit_first _).congr fun a ha b hb => by unfold score; rw [if_pos ha, if_pos hb]
    have key := hP ⟨(y 0).val, hy0⟩ ⟨(y 1).val, hy1⟩ _ hb
    have hi : win0_5.xinj (grid0.coords t) y = ix2 (⟨(y 0).val, hy0⟩ : Fin 8) (⟨(y 1).val, hy1⟩ : Fin 32768) := Shape.idx_ext₂ rfl rfl
    have hr : (win0_5.rect t).emb y 0 = (⟨(y 0).val, hy0⟩ : Fin 8) := Fin.ext p0
    show X 5 t (win0_5.xinj (grid0.coords t) y) = e.proposal ((win0_5.rect t).emb y 0) ((win0_5.rect t).emb y 1).val
    rw [hi, hr, p1]
    exact key

/-- The kernel's run: its two results are the log-probabilities and the proposal, and the arguments end as they began. -/
theorem kernel_run (ρ : Dev nD → PrngReg) (e : Dev nD → Entries)
    (he : ∀ c : Dev nD, (e c).Of (m ((c : Thread nD τ).loc main_arg0)) (m ((c : Thread nD τ).loc main_arg1)) (m ((c : Thread nD τ).loc main_arg2))) :
    θ_run (defs (F := Ideal)) (onTc (τ := τ) (main (F := Ideal))) ⟨m, fun _ => 0, ρ⟩ (fun r => ∀ c : Dev nD,
      ((∀ i : S8x1000000.Idx, r.2.mem ((c : Thread nD τ).loc main_v191_0) i = (e c).logp (i 0) (i 1).val)
        ∧ ∀ i : S8x1000001.Idx, r.2.mem ((c : Thread nD τ).loc main_v191_1) i = (e c).proposal (i 0) (i 1).val)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun _ (h : _ ∧ _) c => ⟨filled (fun _ _ h => h) (fun _ _ h => h) h.1, args_kept (fun c => track m c (e c).x noise (blocks (he c))) h.1 c⟩)
    (run_main ρ fun c => track m c (e c).x noise (blocks (he c)))

end Cert.KernelIdeal.Hand
-- ==== Proof.RefTable.lean ====
/-
  The reference's table of uniform numbers: the same function of the place as the kernel's.
-/
module

public import proofs.«01_k».proof.Proof.Uniform
public import proofs.«01_k».proof.Proof.RefRun

@[expose] public section

noncomputable section

namespace Cert.ReferenceIdeal.Hand

open Cert.ReferenceIdeal Cert.ReferenceIdeal.Gen Cert.Line
open Idealize.ShloMosaic Idealize.ShloMosaic.TcCoe Idealize.ShloMosaic.StableHlo

variable {F : FTy → Type} [FloatOps F]

set_option maxHeartbeats 4000000 in
set_option maxRecDepth 100000 in
/-- The seed as two words. -/
theorem seedWords (V : Valuation τ sig (Elt F)) :
    after ops V (Proc.devRef .tc main_v12) = concatenate S2 0 [⟨S1, fun _ => (0#32 : BitVec 32)⟩, ⟨S1, fun _ => 42#32⟩] concatenates_S1_S1_S2_d0 := by
  have e20 := (ordered (F := F)).nullary (y := main_c) 20 rfl (by decide) V
  have e21 := (ordered (F := F)).nullary (y := main_c_0) 21 rfl (by decide) V
  have e22 := (ordered (F := F)).binary (a := main_c) (b := main_c_0) (y := main_v6) 22 rfl (by decide) (by decide) (by decide) V
  have e23 := (ordered (F := F)).unary (x := main_v6) (y := main_v7) 23 rfl (by decide) (by decide) V
  have e24 := (ordered (F := F)).unary (x := main_v7) (y := main_v8) 24 rfl (by decide) (by decide) V
  have e25 := (ordered (F := F)).nullary (y := main_c_1) 25 rfl (by decide) V
  have e26 := (ordered (F := F)).binary (a := main_c) (b := main_c_1) (y := main_v9) 26 rfl (by decide) (by decide) (by decide) V
  have e27 := (ordered (F := F)).unary (x := main_v9) (y := main_v10) 27 rfl (by decide) (by decide) V
  have e28 := (ordered (F := F)).unary (x := main_v10) (y := main_v11) 28 rfl (by decide) (by decide) V
  have e29 := (ordered (F := F)).binary (a := main_v8) (b := main_v11) (y := main_v12) 29 rfl (by decide) (by decide) (by decide) V
  rw [e29, e28, e27, e26, e25, e24, e23, e22, e21, e20]
  have q : IntOp.shrui .host 42#32 32#32 = 0#32 := by simp [IntOp.shrui, IntOp.cornerWord]
  have q' : IntOp.andi 42#32 4294967295#32 = 42#32 := by decide
  show concatenate S2 0 [⟨S1, fun _ => IntOp.shrui .host 42#32 32#32⟩, ⟨S1, fun _ => IntOp.andi 42#32 4294967295#32⟩] _ = _
  rw [q, q']

set_option maxHeartbeats 4000000 in
set_option maxRecDepth 100000 in
theorem key0 (V : Valuation τ sig (Elt F)) : rd ops V (.of main_call1_call0_v4 : TRef sig ⟨S0, .i32⟩) at0 = 0#32 := by
  have e35 := (ordered (F := F)).unary (x := main_v12) (y := main_call1_call0_v3) 35 rfl (by decide) (by decide) V
  have e36 := (ordered (F := F)).reshape (x := main_call1_call0_v3) (y := main_call1_call0_v4) 36 rfl (by decide) (by decide) V
  show after ops V (Proc.devRef .tc main_call1_call0_v4) at0 = _
  rw [e36, e35, seedWords V]
  rfl

set_option maxHeartbeats 4000000 in
set_option maxRecDepth 100000 in
theorem key1 (V : Valuation τ sig (Elt F)) : rd ops V (.of main_call1_call0_v6 : TRef sig ⟨S0, .i32⟩) at0 = 42#32 := by
  have e37 := (ordered (F := F)).unary (x := main_v12) (y := main_call1_call0_v5) 37 rfl (by decide) (by decide) V
  have e38 := (ordered (F := F)).reshape (x := main_call1_call0_v5) (y := main_call1_call0_v6) 38 rfl (by decide) (by decide) V
  show after ops V (Proc.devRef .tc main_call1_call0_v6) at0 = _
  rw [e38, e37, seedWords V]
  rfl

set_option maxHeartbeats 4000000 in
set_option maxRecDepth 100000 in
theorem key2 (V : Valuation τ sig (Elt F)) : rd ops V (.of main_call1_call0_call0_v1 : TRef sig ⟨S0, .i32⟩) at0 = 466689008#32 := by
  have h0 : after ops V (Proc.devRef .tc main_call1_call0_v4) at0 = 0#32 := key0 V
  have h1 : after ops V (Proc.devRef .tc main_call1_call0_v6) at0 = 42#32 := key1 V
  have e53 := (ordered (F := F)).binary (a := main_call1_call0_v4) (b := main_call1_call0_v6) (y := main_call1_call0_call0_v0) 53 rfl (by decide) (by decide) (by decide) V
  have e54 := (ordered (F := F)).nullary (y := main_call1_call0_call0_c) 54 rfl (by decide) V
  have e55 := (ordered (F := F)).binary (a := main_call1_call0_call0_v0) (b := main_call1_call0_call0_c) (y := main_call1_call0_call0_v1) 55 rfl (by decide) (by decide) (by decide) V
  show after ops V (Proc.devRef .tc main_call1_call0_call0_v1) at0 = _
  rw [e55, e54, e53]
  show IntOp.xori (IntOp.xori (after ops V (Proc.devRef .tc main_call1_call0_v4) at0) (after ops V (Proc.devRef .tc main_call1_call0_v6) at0)) 466688986#32 = _
  rw [h0, h1]
  rfl

set_option maxHeartbeats 4000000 in
set_option maxRecDepth 100000 in
/-- The pair of words after all the rounds. -/
theorem stirred (V : Valuation τ sig (Elt F)) (j : S8x1000000.Idx) :
    rd2 ops V (.of main_call1_call0_v18_0) (.of main_call1_call0_v18_1) j = stir (rd2 ops V (.of main_call1_call0_call0_v3) (.of main_call1_call0_call0_v5) j) := by
  have r0 := ordered.round (s := S8x1000000) (bc := bcast_S_S8x1000000) 60 (.of main_call1_call0_call0_v3) (.of main_call1_call0_call0_v5) (.of main_call1_call0_call0_v6) (.of main_call1_call0_call0_v7) (.of main_call1_call0_call0_v8) (.of main_call1_call0_call0_v9) (.of main_call1_call0_call0_v10) (.of main_call1_call0_call0_v11) (.of main_call1_call0_call0_v12) (.of main_call1_call0_call0_c_0) (.of main_call1_call0_call0_c_1) rfl (by decide) rfl V j
  have r1 := ordered.round (s := S8x1000000) (bc := bcast_S_S8x1000000) 69 (.of main_call1_call0_call0_v6) (.of main_call1_call0_call0_v12) (.of main_call1_call0_call0_v13) (.of main_call1_call0_call0_v14) (.of main_call1_call0_call0_v15) (.of main_call1_call0_call0_v16) (.of main_call1_call0_call0_v17) (.of main_call1_call0_call0_v18) (.of main_call1_call0_call0_v19) (.of main_call1_call0_call0_c_2) (.of main_call1_call0_call0_c_3) rfl (by decide) rfl V j
  have r2 := ordered.round (s := S8x1000000) (bc := bcast_S_S8x1000000) 78 (.of main_call1_call0_call0_v13) (.of main_call1_call0_call0_v19) (.of main_call1_call0_call0_v20) (.of main_call1_call0_call0_v21) (.of main_call1_call0_call0_v22) (.of main_call1_call0_call0_v23) (.of main_call1_call0_call0_v24) (.of main_call1_call0_call0_v25) (.of main_call1_call0_call0_v26) (.of main_call1_call0_call0_c_4) (.of main_call1_call0_call0_c_5) rfl (by decide) rfl V j
  have r3 := ordered.round (s := S8x1000000) (bc := bcast_S_S8x1000000) 87 (.of main_call1_call0_call0_v20) (.of main_call1_call0_call0_v26) (.of main_call1_call0_call0_v27) (.of main_call1_call0_call0_v28) (.of main_call1_call0_call0_v29) (.of main_call1_call0_call0_v30) (.of main_call1_call0_call0_v31) (.of main_call1_call0_call0_v32) (.of main_call1_call0_call0_v33) (.of main_call1_call0_call0_c_6) (.of main_call1_call0_call0_c_7) rfl (by decide) rfl V j
  have r4 := ordered.keyWord (s := S8x1000000) (bc := bcast_S_S8x1000000) 96 (.of main_call1_call0_call0_v27) (.of main_call1_call0_call0_v33) (.of main_call1_call0_call0_v34) (.of main_call1_call0_call0_v35) (.of main_call1_call0_call0_v36) (.of main_call1_call0_call0_v37) (.of main_call1_call0_call0_v38) (.of main_call1_call0_call0_v39) (.of main_call1_call0_v6) (.of main_call1_call0_call0_v1) (.of main_call1_call0_call0_c_8) V (key1 V) (key2 V) rfl (by decide) rfl j
  have r5 := ordered.round (s := S8x1000000) (bc := bcast_S_S8x1000000) 103 (.of main_call1_call0_call0_v35) (.of main_call1_call0_call0_v39) (.of main_call1_call0_call0_v40) (.of main_call1_call0_call0_v41) (.of main_call1_call0_call0_v42) (.of main_call1_call0_call0_v43) (.of main_call1_call0_call0_v44) (.of main_call1_call0_call0_v45) (.of main_call1_call0_call0_v46) (.of main_call1_call0_call0_c_9) (.of main_call1_call0_call0_c_10) rfl (by decide) rfl V j
  have r6 := ordered.round (s := S8x1000000) (bc := bcast_S_S8x1000000) 112 (.of main_call1_call0_call0_v40) (.of main_call1_call0_call0_v46) (.of main_call1_call0_call0_v47) (.of main_call1_call0_call0_v48) (.of main_call1_call0_call0_v49) (.of main_call1_call0_call0_v50) (.of main_call1_call0_call0_v51) (.of main_call1_call0_call0_v52) (.of main_call1_call0_call0_v53) (.of main_call1_call0_call0_c_11) (.of main_call1_call0_call0_c_12) rfl (by decide) rfl V j
  have r7 := ordered.round (s := S8x1000000) (bc := bcast_S_S8x1000000) 121 (.of main_call1_call0_call0_v47) (.of main_call1_call0_call0_v53) (.of main_call1_call0_call0_v54) (.of main_call1_call0_call0_v55) (.of main_call1_call0_call0_v56) (.of main_call1_call0_call0_v57) (.of main_call1_call0_call0_v58) (.of main_call1_call0_call0_v59) (.of main_call1_call0_call0_v60) (.of main_call1_call0_call0_c_13) (.of main_call1_call0_call0_c_14) rfl (by decide) rfl V j
  have r8 := ordered.round (s := S8x1000000) (bc := bcast_S_S8x1000000) 130 (.of main_call1_call0_call0_v54) (.of main_call1_call0_call0_v60) (.of main_call1_call0_call0_v61) (.of main_call1_call0_call0_v62) (.of main_call1_call0_call0_v63) (.of main_call1_call0_call0_v64) (.of main_call1_call0_call0_v65) (.of main_call1_call0_call0_v66) (.of main_call1_call0_call0_v67) (.of main_call1_call0_call0_c_15) (.of main_call1_call0_call0_c_16) rfl (by decide) rfl V j
  have r9 := ordered.keyWord (s := S8x1000000) (bc := bcast_S_S8x1000000) 139 (.of main_call1_call0_call0_v61) (.of main_call1_call0_call0_v67) (.of main_call1_call0_call0_v68) (.of main_call1_call0_call0_v69) (.of main_call1_call0_call0_v70) (.of main_call1_call0_call0_v71) (.of main_call1_call0_call0_v72) (.of main_call1_call0_call0_v73) (.of main_call1_call0_call0_v1) (.of main_call1_call0_v4) (.of main_call1_call0_call0_c_17) V (key2 V) (key0 V) rfl (by decide) rfl j
  have r10 := ordered.round (s := S8x1000000) (bc := bcast_S_S8x1000000) 146 (.of main_call1_call0_call0_v69) (.of main_call1_call0_call0_v73) (.of main_call1_call0_call0_v74) (.of main_call1_call0_call0_v75) (.of main_call1_call0_call0_v76) (.of main_call1_call0_call0_v77) (.of main_call1_call0_call0_v78) (.of main_call1_call0_call0_v79) (.of main_call1_call0_call0_v80) (.of main_call1_call0_call0_c_18) (.of main_call1_call0_call0_c_19) rfl (by decide) rfl V j
  have r11 := ordered.round (s := S8x1000000) (bc := bcast_S_S8x1000000) 155 (.of main_call1_call0_call0_v74) (.of main_call1_call0_call0_v80) (.of main_call1_call0_call0_v81) (.of main_call1_call0_call0_v82) (.of main_call1_call0_call0_v83) (.of main_call1_call0_call0_v84) (.of main_call1_call0_call0_v85) (.of main_call1_call0_call0_v86) (.of main_call1_call0_call0_v87) (.of main_call1_call0_call0_c_20) (.of main_call1_call0_call0_c_21) rfl (by decide) rfl V j
  have r12 := ordered.round (s := S8x1000000) (bc := bcast_S_S8x1000000) 164 (.of main_call1_call0_call0_v81) (.of main_call1_call0_call0_v87) (.of main_call1_call0_call0_v88) (.of main_call1_call0_call0_v89) (.of main_call1_call0_call0_v90) (.of main_call1_call0_call0_v91) (.of main_call1_call0_call0_v92) (.of main_call1_call0_call0_v93) (.of main_call1_call0_call0_v94) (.of main_call1_call0_call0_c_22) (.of main_call1_call0_call0_c_23) rfl (by decide) rfl V j
  have r13 := ordered.round (s := S8x1000000) (bc := bcast_S_S8x1000000) 173 (.of main_call1_call0_call0_v88) (.of main_call1_call0_call0_v94) (.of main_call1_call0_call0_v95) (.of main_call1_call0_call0_v96) (.of main_call1_call0_call0_v97) (.of main_call1_call0_call0_v98) (.of main_call1_call0_call0_v99) (.of main_call1_call0_call0_v100) (.of main_call1_call0_call0_v101) (.of main_call1_call0_call0_c_24) (.of main_call1_call0_call0_c_25) rfl (by decide) rfl V j
  have r14 := ordered.keyWord (s := S8x1000000) (bc := bcast_S_S8x1000000) 182 (.of main_call1_call0_call0_v95) (.of main_call1_call0_call0_v101) (.of main_call1_call0_call0_v102) (.of main_call1_call0_call0_v103) (.of main_call1_call0_call0_v104) (.of main_call1_call0_call0_v105) (.of main_call1_call0_call0_v106) (.of main_call1_call0_call0_v107) (.of main_call1_call0_v4) (.of main_call1_call0_v6) (.of main_call1_call0_call0_c_26) V (key0 V) (key1 V) rfl (by decide) rfl j
  have r15 := ordered.round (s := S8x1000000) (bc := bcast_S_S8x1000000) 189 (.of main_call1_call0_call0_v103) (.of main_call1_call0_call0_v107) (.of main_call1_call0_call0_v108) (.of main_call1_call0_call0_v109) (.of main_call1_call0_call0_v110) (.of main_call1_call0_call0_v111) (.of main_call1_call0_call0_v112) (.of main_call1_call0_call0_v113) (.of main_call1_call0_call0_v114) (.of main_call1_call0_call0_c_27) (.of main_call1_call0_call0_c_28) rfl (by decide) rfl V j
  have r16 := ordered.round (s := S8x1000000) (bc := bcast_S_S8x1000000) 198 (.of main_call1_call0_call0_v108) (.of main_call1_call0_call0_v114) (.of main_call1_call0_call0_v115) (.of main_call1_call0_call0_v116) (.of main_call1_call0_call0_v117) (.of main_call1_call0_call0_v118) (.of main_call1_call0_call0_v119) (.of main_call1_call0_call0_v120) (.of main_call1_call0_call0_v121) (.of main_call1_call0_call0_c_29) (.of main_call1_call0_call0_c_30) rfl (by decide) rfl V j
  have r17 := ordered.round (s := S8x1000000) (bc := bcast_S_S8x1000000) 207 (.of main_call1_call0_call0_v115) (.of main_call1_call0_call0_v121) (.of main_call1_call0_call0_v122) (.of main_call1_call0_call0_v123) (.of main_call1_call0_call0_v124) (.of main_call1_call0_call0_v125) (.of main_call1_call0_call0_v126) (.of main_call1_call0_call0_v127) (.of main_call1_call0_call0_v128) (.of main_call1_call0_call0_c_31) (.of main_call1_call0_call0_c_32) rfl (by decide) rfl V j
  have r18 := ordered.round (s := S8x1000000) (bc := bcast_S_S8x1000000) 216 (.of main_call1_call0_call0_v122) (.of main_call1_call0_call0_v128) (.of main_call1_call0_call0_v129) (.of main_call1_call0_call0_v130) (.of main_call1_call0_call0_v131) (.of main_call1_call0_call0_v132) (.of main_call1_call0_call0_v133) (.of main_call1_call0_call0_v134) (.of main_call1_call0_call0_v135) (.of main_call1_call0_call0_c_33) (.of main_call1_call0_call0_c_34) rfl (by decide) rfl V j
  have r19 := ordered.keyWord (s := S8x1000000) (bc := bcast_S_S8x1000000) 225 (.of main_call1_call0_call0_v129) (.of main_call1_call0_call0_v135) (.of main_call1_call0_call0_v136) (.of main_call1_call0_call0_v137) (.of main_call1_call0_call0_v138) (.of main_call1_call0_call0_v139) (.of main_call1_call0_call0_v140) (.of main_call1_call0_call0_v141) (.of main_call1_call0_v6) (.of main_call1_call0_call0_v1) (.of main_call1_call0_call0_c_35) V (key1 V) (key2 V) rfl (by decide) rfl j
  have r20 := ordered.round (s := S8x1000000) (bc := bcast_S_S8x1000000) 232 (.of main_call1_call0_call0_v137) (.of main_call1_call0_call0_v141) (.of main_call1_call0_call0_v142) (.of main_call1_call0_call0_v143) (.of main_call1_call0_call0_v144) (.of main_call1_call0_call0_v145) (.of main_call1_call0_call0_v146) (.of main_call1_call0_call0_v147) (.of main_call1_call0_call0_v148) (.of main_call1_call0_call0_c_36) (.of main_call1_call0_call0_c_37) rfl (by decide) rfl V j
  have r21 := ordered.round (s := S8x1000000) (bc := bcast_S_S8x1000000) 241 (.of main_call1_call0_call0_v142) (.of main_call1_call0_call0_v148) (.of main_call1_call0_call0_v149) (.of main_call1_call0_call0_v150) (.of main_call1_call0_call0_v151) (.of main_call1_call0_call0_v152) (.of main_call1_call0_call0_v153) (.of main_call1_call0_call0_v154) (.of main_call1_call0_call0_v155) (.of main_call1_call0_call0_c_38) (.of main_call1_call0_call0_c_39) rfl (by decide) rfl V j
  have r22 := ordered.round (s := S8x1000000) (bc := bcast_S_S8x1000000) 250 (.of main_call1_call0_call0_v149) (.of main_call1_call0_call0_v155) (.of main_call1_call0_call0_v156) (.of main_call1_call0_call0_v157) (.of main_call1_call0_call0_v158) (.of main_call1_call0_call0_v159) (.of main_call1_call0_call0_v160) (.of main_call1_call0_call0_v161) (.of main_call1_call0_call0_v162) (.of main_call1_call0_call0_c_40) (.of main_call1_call0_call0_c_41) rfl (by decide) rfl V j
  have r23 := ordered.round (s := S8x1000000) (bc := bcast_S_S8x1000000) 259 (.of main_call1_call0_call0_v156) (.of main_call1_call0_call0_v162) (.of main_call1_call0_call0_v163) (.of main_call1_call0_call0_v164) (.of main_call1_call0_call0_v165) (.of main_call1_call0_call0_v166) (.of main_call1_call0_call0_v167) (.of main_call1_call0_call0_v168) (.of main_call1_call0_call0_v169) (.of main_call1_call0_call0_c_42) (.of main_call1_call0_call0_c_43) rfl (by decide) rfl V j
  have r24 := ordered.keyWord (s := S8x1000000) (bc := bcast_S_S8x1000000) 268 (.of main_call1_call0_call0_v163) (.of main_call1_call0_call0_v169) (.of main_call1_call0_call0_v170) (.of main_call1_call0_v18_0) (.of main_call1_call0_call0_v172) (.of main_call1_call0_call0_v173) (.of main_call1_call0_call0_v174) (.of main_call1_call0_v18_1) (.of main_call1_call0_call0_v1) (.of main_call1_call0_v4) (.of main_call1_call0_call0_c_44) V (key2 V) (key0 V) rfl (by decide) rfl j
  rw [r24, r23, r22, r21, r20, r19, r18, r17, r16, r15, r14, r13, r12, r11, r10, r9, r8, r7, r6, r5, r4, r3, r2, r1, r0]
  rfl

/-- The place's number, computed in 64 bits, has an empty upper half. -/
theorem halves (r n : ℕ) (hr : r < 8) (hn : n < 1000000) :
    (IntOp.shrui .host (IntOp.addi (IntOp.muli 1000000#64 (BitVec.ofNat 64 r)) (IntOp.muli 1#64 (BitVec.ofNat 64 n))) 32#64).setWidth 32 = 0#32
    ∧ (IntOp.addi (IntOp.muli 1000000#64 (BitVec.ofNat 64 r)) (IntOp.muli 1#64 (BitVec.ofNat 64 n))).setWidth 32
      = IntOp.addi (IntOp.muli (BitVec.ofNat 32 r) 1000000#32) (BitVec.ofNat 32 n) := by
  have e : IntOp.addi (IntOp.muli 1000000#64 (BitVec.ofNat 64 r)) (IntOp.muli 1#64 (BitVec.ofNat 64 n)) = BitVec.ofNat 64 (1000000 * r + n) := by
    apply BitVec.eq_of_toNat_eq
    simp only [IntOp.addi, IntOp.muli, BitVec.toNat_add, BitVec.toNat_mul, BitVec.toNat_ofNat]
    omega
  rw [e]
  constructor
  · apply BitVec.eq_of_toNat_eq
    unfold IntOp.shrui
    rw [if_pos (by decide)]
    simp only [BitVec.toNat_setWidth, BitVec.toNat_ushiftRight, BitVec.ushiftRight_eq', BitVec.toNat_ofNat, Nat.shiftRight_eq_div_pow,
      show (32 % 2 ^ 64 : ℕ) = 32 from rfl]
    rw [Nat.mod_eq_of_lt (show 1000000 * r + n < 2 ^ 64 by omega), Nat.div_eq_of_lt (show 1000000 * r + n < 2 ^ 32 by omega)]
  · apply BitVec.eq_of_toNat_eq
    simp only [IntOp.addi, IntOp.muli, BitVec.toNat_add, BitVec.toNat_mul, BitVec.toNat_ofNat, BitVec.toNat_setWidth]
    omega

set_option maxHeartbeats 4000000 in
set_option maxRecDepth 100000 in
/-- The pair of words to begin with. -/
theorem begun (V : Valuation τ sig (Elt F)) (j : S8x1000000.Idx) :
    rd2 ops V (.of main_call1_call0_call0_v3) (.of main_call1_call0_call0_v5) j
      = seed (IntOp.addi (IntOp.muli (BitVec.ofNat 32 (j 0).val) 1000000#32) (BitVec.ofNat 32 (j 1).val)) := by
  have w0 := (ordered (F := F)).addWord (s := S8x1000000) (bc := bcast_S_S8x1000000) 56 (.of main_call1_call0_v17) (.of main_call1_call0_call0_v2) (.of main_call1_call0_call0_v3) (.of main_call1_call0_v4) V (key0 V) rfl (by decide) rfl j
  have w1 := (ordered (F := F)).addWord (s := S8x1000000) (bc := bcast_S_S8x1000000) 58 (.of main_call1_call0_v16) (.of main_call1_call0_call0_v4) (.of main_call1_call0_call0_v5) (.of main_call1_call0_v6) V (key1 V) rfl (by decide) rfl j
  have e39 := (ordered (F := F)).nullary (y := main_call1_call0_v7) 39 rfl (by decide) V
  have e40 := (ordered (F := F)).nullary (y := main_call1_call0_v8) 40 rfl (by decide) V
  have e41 := (ordered (F := F)).nullary (y := main_call1_call0_c) 41 rfl (by decide) V
  have e42 := (ordered (F := F)).unary (x := main_call1_call0_c) (y := main_call1_call0_v9) 42 rfl (by decide) (by decide) V
  have e43 := (ordered (F := F)).binary (a := main_call1_call0_v9) (b := main_call1_call0_v7) (y := main_call1_call0_v10) 43 rfl (by decide) (by decide) (by decide) V
  have e44 := (ordered (F := F)).nullary (y := main_call1_call0_c_0) 44 rfl (by decide) V
  have e45 := (ordered (F := F)).unary (x := main_call1_call0_c_0) (y := main_call1_call0_v11) 45 rfl (by decide) (by decide) V
  have e46 := (ordered (F := F)).binary (a := main_call1_call0_v11) (b := main_call1_call0_v8) (y := main_call1_call0_v12) 46 rfl (by decide) (by decide) (by decide) V
  have e47 := (ordered (F := F)).binary (a := main_call1_call0_v10) (b := main_call1_call0_v12) (y := main_call1_call0_v13) 47 rfl (by decide) (by decide) (by decide) V
  have e48 := (ordered (F := F)).nullary (y := main_call1_call0_c_1) 48 rfl (by decide) V
  have e49 := (ordered (F := F)).unary (x := main_call1_call0_c_1) (y := main_call1_call0_v14) 49 rfl (by decide) (by decide) V
  have e50 := (ordered (F := F)).binary (a := main_call1_call0_v13) (b := main_call1_call0_v14) (y := main_call1_call0_v15) 50 rfl (by decide) (by decide) (by decide) V
  have e51 := (ordered (F := F)).unary (x := main_call1_call0_v13) (y := main_call1_call0_v16) 51 rfl (by decide) (by decide) V
  have e52 := (ordered (F := F)).unary (x := main_call1_call0_v15) (y := main_call1_call0_v17) 52 rfl (by decide) (by decide) V
  obtain ⟨hh, hl⟩ := halves (j 0).val (j 1).val (j 0).isLt (j 1).isLt
  unfold rd2
  rw [w0, w1]
  show (IntOp.addi (after ops V (Proc.devRef .tc main_call1_call0_v17) j) _, IntOp.addi (after ops V (Proc.devRef .tc main_call1_call0_v16) j) _) = _
  rw [e52, e51, e50, e49, e48, e47, e46, e45, e44, e43, e42, e41, e40, e39]
  unfold seed
  rw [← hl]
  refine Prod.ext ?_ rfl
  show IntOp.addi (BitVec.setWidth 32 _) 0#32 = 0#32
  exact (congrArg (fun z => IntOp.addi z 0#32) hh).trans rfl

set_option maxHeartbeats 4000000 in
set_option maxRecDepth 100000 in
/-- The uniform number made of the pair. -/
theorem uniform (V : Valuation τ sig (Elt F)) (j : S8x1000000.Idx) :
    rd ops V (.of main_call1_v0 : TRef sig ⟨S8x1000000, .f32⟩) j = unif (rd2 ops V (.of main_call1_call0_v18_0) (.of main_call1_call0_v18_1) j) := by
  have e30 := (ordered (F := F)).nullary (y := main_call1_cst) 30 rfl (by decide) V
  have e31 := (ordered (F := F)).nullary (y := main_call1_cst_0) 31 rfl (by decide) V
  have e32 := (ordered (F := F)).unary (x := main_call1_cst) (y := main_call1_call0_v0) 32 rfl (by decide) (by decide) V
  have e33 := (ordered (F := F)).unary (x := main_call1_cst_0) (y := main_call1_call0_v1) 33 rfl (by decide) (by decide) V
  have e34 := (ordered (F := F)).unary (x := main_call1_call0_v0) (y := main_call1_call0_v2) 34 rfl (by decide) (by decide) V
  have e275 := (ordered (F := F)).binary (a := main_call1_call0_v18_0) (b := main_call1_call0_v18_1) (y := main_call1_call0_v19) 275 rfl (by decide) (by decide) (by decide) V
  have e276 := (ordered (F := F)).nullary (y := main_call1_call0_c_2) 276 rfl (by decide) V
  have e277 := (ordered (F := F)).unary (x := main_call1_call0_c_2) (y := main_call1_call0_v20) 277 rfl (by decide) (by decide) V
  have e278 := (ordered (F := F)).binary (a := main_call1_call0_v19) (b := main_call1_call0_v20) (y := main_call1_call0_v21) 278 rfl (by decide) (by decide) (by decide) V
  have e279 := (ordered (F := F)).nullary (y := main_call1_call0_c_3) 279 rfl (by decide) V
  have e280 := (ordered (F := F)).unary (x := main_call1_call0_c_3) (y := main_call1_call0_v22) 280 rfl (by decide) (by decide) V
  have e281 := (ordered (F := F)).binary (a := main_call1_call0_v21) (b := main_call1_call0_v22) (y := main_call1_call0_v23) 281 rfl (by decide) (by decide) (by decide) V
  have e282 := (ordered (F := F)).unary (x := main_call1_call0_v23) (y := main_call1_call0_v24) 282 rfl (by decide) (by decide) V
  have e283 := (ordered (F := F)).nullary (y := main_call1_call0_cst) 283 rfl (by decide) V
  have e284 := (ordered (F := F)).unary (x := main_call1_call0_cst) (y := main_call1_call0_v25) 284 rfl (by decide) (by decide) V
  have e285 := (ordered (F := F)).binary (a := main_call1_call0_v24) (b := main_call1_call0_v25) (y := main_call1_call0_v26) 285 rfl (by decide) (by decide) (by decide) V
  have e286 := (ordered (F := F)).binary (a := main_call1_call0_v2) (b := main_call1_call0_v1) (y := main_call1_call0_v27) 286 rfl (by decide) (by decide) (by decide) V
  have e287 := (ordered (F := F)).unary (x := main_call1_call0_v27) (y := main_call1_call0_v28) 287 rfl (by decide) (by decide) V
  have e288 := (ordered (F := F)).binary (a := main_call1_call0_v26) (b := main_call1_call0_v28) (y := main_call1_call0_v29) 288 rfl (by decide) (by decide) (by decide) V
  have e289 := (ordered (F := F)).unary (x := main_call1_call0_v1) (y := main_call1_call0_v30) 289 rfl (by decide) (by decide) V
  have e290 := (ordered (F := F)).binary (a := main_call1_call0_v29) (b := main_call1_call0_v30) (y := main_call1_call0_v31) 290 rfl (by decide) (by decide) (by decide) V
  have e291 := (ordered (F := F)).unary (x := main_call1_call0_v1) (y := main_call1_call0_v32) 291 rfl (by decide) (by decide) V
  have e292 := (ordered (F := F)).binary (a := main_call1_call0_v32) (b := main_call1_call0_v31) (y := main_call1_v0) 292 rfl (by decide) (by decide) (by decide) V
  show after ops V (Proc.devRef .tc main_call1_v0) j = _
  rw [e292, e291, e290, e289, e288, e287, e286, e285, e284, e283, e282, e281, e280, e279, e278, e277, e276, e275, e34, e33, e32, e31, e30]
  rfl

/-- The table's element at row `j 0`, column `j 1`. -/
theorem table (V : Valuation τ sig (Elt F)) (j : S8x1000000.Idx) :
    after ops V (Proc.devRef .tc main_call1_v0) j
      = unif (stir (seed (IntOp.addi (IntOp.muli (BitVec.ofNat 32 (j 0).val) 1000000#32) (BitVec.ofNat 32 (j 1).val)))) := by
  rw [← begun V j, ← stirred V j]
  exact uniform V j

end Cert.ReferenceIdeal.Hand
-- ==== Proof.RefRows.lean ====
/-
  The reference's operations row by row, over the extended reals: the logits, their logarithms of softmax, the best column,
  and the one-hot proposal.
-/
module

public import proofs.«01_k».proof.Proof.RefTable
public import proofs.«01_k».proof.Proof.Logits
public import Idealize.ShloMosaic.Lib.StackMember
public import Idealize.ShloMosaic.Lib.IdealHost
public import Idealize.ShloMosaic.Lib.Pipeline.Value

@[expose] public section

noncomputable section

namespace Cert.ReferenceIdeal.Hand

open Cert.ReferenceIdeal Cert.ReferenceIdeal.Gen Cert.Online Cert.Line Cert.Row
open Idealize.ShloMosaic

theorem ofBits_neg_inf : Ideal.ofBits .f32 0xFF800000#32 = ⊥ := by simp [Ideal.ofBits, Ideal.ieee]

/-! ## Reductions along the rows, at any row length -/

section Rows

variable {N : ℕ} (h' : (⟨2, ![8, N]⟩ : Shape).ReducesTo [1] ⟨1, ![8]⟩) (h : (⟨2, ![8, N]⟩ : Shape).Reduces [1] ⟨1, ![8]⟩)
  {u : Shape} (hu : 0 < u.numel) (r : Fin 8)

theorem lift_row (n : Fin N) : h.lift (ix1 r) n = ix2 r n := Shape.idx_ext₂ rfl rfl

include h in
theorem max_row (X : (⟨2, ![8, N]⟩ : Shape).Idx → EReal) (init : u.Idx → EReal) :
    Host.reduce (FloatOps.maximumf (F := Ideal) (φ := .f32)) X init h' hu (ix1 r)
      = (Finset.univ : Finset (Fin N)).fold max (init (Shape.Idx.first hu)) fun n => X (ix2 r n) :=
  (Host.reduce_eq_fold_single (a := 1) (max : EReal → EReal → EReal) X init h' h hu (ix1 r)).trans
    (congrArg (fun f => (Finset.univ : Finset (Fin N)).fold max (init (Shape.Idx.first hu)) f) (funext fun (n : Fin N) => congrArg X (lift_row h r n)))

include h in
theorem sum_row (X : (⟨2, ![8, N]⟩ : Shape).Idx → EReal) (init : u.Idx → EReal) :
    Host.reduceAdd (F := Ideal) (φ := .f32) X init h' hu (ix1 r) = init (Shape.Idx.first hu) + ∑ n : Fin N, X (ix2 r n) :=
  (Ideal.hostReduceAdd_single (a := 1) h' h X (init (Shape.Idx.first hu)) (ix1 r)).trans
    (congrArg (fun s => init (Shape.Idx.first hu) + s) (Finset.sum_congr rfl fun (n : Fin N) _ => congrArg X (lift_row h r n)))

/-- A reduction that keeps the pair of the larger value, of the lesser number among equals, keeps the number of the first largest. -/
theorem first_row (op : EReal × BitVec 32 → EReal × BitVec 32 → EReal × BitVec 32)
    (hgt : ∀ a b, b.1 < a.1 → op a b = a) (hlt : ∀ a b, a.1 < b.1 → op a b = b)
    (heq : ∀ a b, a.1 = b.1 → op a b = if a.2.toInt < b.2.toInt then a else b) (hN : N < 2 ^ 31) (h0 : 0 < N)
    (Y : (⟨2, ![8, N]⟩ : Shape).Idx → EReal) (iv : u.Idx → EReal) (hv : iv (Shape.Idx.first hu) = ⊥)
    (iw : u.Idx → BitVec 32) (hw : iw (Shape.Idx.first hu) = 0#32) (ψ : ℕ → EReal) (hY : ∀ n : Fin N, Y (ix2 r n) = ψ n.val) :
    ∃ n, IsFirst ψ N n ∧ (Host.reduce2 op Y (iotaInDim ⟨2, ![8, N]⟩ 32 1) iv iw h' hu (ix1 r)).2 = BitVec.ofNat 32 n := by
  obtain ⟨n, hn, hp⟩ := foldl_first op hgt hlt heq hN h0 ψ
    ((List.finRange (⟨2, ![8, N]⟩ : Shape).numel).filter fun n => h'.drop ((⟨2, ![8, N]⟩ : Shape).rowMajor.symm n) = ix1 r)
    (fun n => ((⟨2, ![8, N]⟩ : Shape).rowMajor.symm n 1).val) (fun n _ => ((⟨2, ![8, N]⟩ : Shape).rowMajor.symm n 1).isLt)
    (fun n hn => ⟨(⟨2, ![8, N]⟩ : Shape).rowMajor (ix2 r ⟨n, hn⟩), by
      rw [List.mem_filter, decide_eq_true_eq, Equiv.symm_apply_apply]
      exact ⟨List.mem_finRange _, funext fun a => match a with | ⟨0, _⟩ => rfl⟩, by rw [Equiv.symm_apply_apply]; rfl⟩)
  refine ⟨n, hn, ?_⟩
  rw [← hp, Host.reduce2_eq_foldl_fiber, Host.argReduceFiber, List.foldl_map, hv, hw]
  refine congrArg Prod.snd (List.foldl_ext _ _ _ fun acc n hm => ?_)
  rw [List.mem_filter, decide_eq_true_eq] at hm
  have h0 : ((⟨2, ![8, N]⟩ : Shape).rowMajor.symm n 0).val = r.val := congrArg (fun j : (⟨1, ![8]⟩ : Shape).Idx => (j 0).val) hm.2
  have hi : (⟨2, ![8, N]⟩ : Shape).rowMajor.symm n = ix2 r ((⟨2, ![8, N]⟩ : Shape).rowMajor.symm n 1 : Fin N) := Shape.idx_ext₂ h0 rfl
  have hv : Y ((⟨2, ![8, N]⟩ : Shape).rowMajor.symm n) = ψ ((⟨2, ![8, N]⟩ : Shape).rowMajor.symm n 1).val := (congrArg Y hi).trans (hY _)
  rw [hv]
  rfl

end Rows

theorem reduces : S8x1000000.Reduces [1] S8 := by decide

/-! ## Broadcasts -/

theorem spread_at {α : Type} (x : S8x1.Idx → α) (r : Fin 8) (n : Fin 1000000) :
    broadcastInDim S8x1000000 ![0, 1] bcast_S8x1_S8x1000000_0_1 x (ix2 r n) = x (ix2 r 0) :=
  broadcastInDim_apply _ _ _ _ _ fun a => match a with | ⟨0, _⟩ => rfl | ⟨1, _⟩ => rfl

theorem col_at {α : Type} (x : S8.Idx → α) (r : Fin 8) :
    broadcastInDim S8x1 ![0] bcast_S8_S8x1_0 x (ix2 r 0) = x (ix1 r) :=
  broadcastInDim_apply _ _ _ _ _ fun a => match a with | ⟨0, _⟩ => rfl

theorem down_at {α : Type} (x : S1x1000000.Idx → α) (r : Fin 8) (n : Fin 1000000) :
    broadcastInDim S8x1000000 ![0, 1] bcast_S1x1000000_S8x1000000_0_1 x (ix2 r n) = x (ix2 0 n) :=
  broadcastInDim_apply _ _ _ _ _ fun a => match a with | ⟨0, _⟩ => rfl | ⟨1, _⟩ => rfl

theorem row_at {α : Type} (x : S1000000.Idx → α) (n : Fin 1000000) :
    broadcastInDim S1x1000000 ![1] bcast_S1000000_S1x1000000_1 x (ix2 0 n) = x (ix1 n) :=
  broadcastInDim_apply _ _ _ _ _ fun a => match a with | ⟨0, _⟩ => rfl

/-! ## The logits -/

/-- The linear map, as the reference computes it. -/
def linear (A0 : FVec Ideal S8x64 .f32) (A1 : FVec Ideal S1000000x64 .f32) (A2 : FVec Ideal S1000000 .f32) : FVec Ideal S8x1000000 .f32 :=
  addf (Host.dotGeneral dot_S8x64_S64x1000000_S8x1000000_1_0_0_1_n_n none A0 (transpose S64x1000000 [1, 0] A1 transposes_S1000000x64_S64x1000000_1_0))
    (broadcastInDim S8x1000000 ![0, 1] bcast_S1x1000000_S8x1000000_0_1 (broadcastInDim S1x1000000 ![1] bcast_S1000000_S1x1000000_1 A2))

theorem linear_at {e : Entries} {A0 : S8x64.Idx → EReal} {A1 : S1000000x64.Idx → EReal} {A2 : S1000000.Idx → EReal} (he : e.Of A0 A1 A2)
    (r : Fin 8) (n : Fin 1000000) : linear A0 A1 A2 (ix2 r n) = (e.x r n.val : EReal) := by
  have hd : Host.dotGeneral (F := Ideal) (φ₁ := .f32) (φ₂ := .f32) dot_S8x64_S64x1000000_S8x1000000_1_0_0_1_n_n none A0
      (transpose S64x1000000 [1, 0] A1 transposes_S1000000x64_S64x1000000_1_0) (ix2 r n)
      = ∑ k : Fin 64, (e.z r k : EReal) * (e.W n k : EReal) := by
    refine (StackMember.dotGeneral_plain_apply (m := 8) (k := 64) (n := 1000000) (φ₁ := .f32) (φ₂ := .f32) none A0
      (transpose S64x1000000 [1, 0] A1 transposes_S1000000x64_S64x1000000_1_0) r n).trans ?_
    refine Finset.sum_congr rfl fun k _ => ?_
    have hw : transpose S64x1000000 [1, 0] A1 transposes_S1000000x64_S64x1000000_1_0 (ix2 k n) = (e.W n k : EReal) :=
      (transpose_apply [1, 0] A1 transposes_S1000000x64_S64x1000000_1_0 (ix2 k n) (ix2 n k)
        fun b => match b with | ⟨0, _⟩ => rfl | ⟨1, _⟩ => rfl).trans (he.W n k)
    exact congrArg₂ (· * ·) (he.z r k) hw
  have hb : broadcastInDim S8x1000000 ![0, 1] bcast_S1x1000000_S8x1000000_0_1 (broadcastInDim S1x1000000 ![1] bcast_S1000000_S1x1000000_1 A2) (ix2 r n)
      = (e.b n : EReal) := (down_at _ r n).trans ((row_at A2 n).trans (he.b n))
  exact (congrArg₂ (· + ·) hd hb).trans (e.logit_eq r n.isLt)

/-! ## The logarithm of softmax, at any row length -/

section Softmax

variable {N : ℕ} (hb : S8x1.BroadcastsInDim ⟨2, ![8, N]⟩ (![0, 1] : Fin 2 → Fin 2)) (h' : (⟨2, ![8, N]⟩ : Shape).ReducesTo [1] S8)
  (h : (⟨2, ![8, N]⟩ : Shape).Reduces [1] S8)

/-- The rows' maxima. -/
def peak (X : FVec Ideal ⟨2, ![8, N]⟩ .f32) : FVec Ideal S8 .f32 :=
  maximumf (broadcastInDim S8 ![] bcast_S_S8 (constant S_ .f32 0xFF800000#32))
    (Host.reduce FloatOps.maximumf X (constant S_ .f32 0xFF800000#32) h' h_S_)

/-- The logits less their row's maximum. -/
def less (X : FVec Ideal ⟨2, ![8, N]⟩ .f32) : FVec Ideal ⟨2, ![8, N]⟩ .f32 :=
  subf X (broadcastInDim ⟨2, ![8, N]⟩ ![0, 1] hb (broadcastInDim S8x1 ![0] bcast_S8_S8x1_0 (peak h' X)))

/-- The rows' sums of exponentials. -/
def total (X : FVec Ideal ⟨2, ![8, N]⟩ .f32) : FVec Ideal S8 .f32 :=
  Host.reduceAdd (Host.exp (less hb h' X)) (constant S_ .f32 0x00000000#32) h' h_S_

/-- The logarithm of softmax. -/
def logSoftmax (X : FVec Ideal ⟨2, ![8, N]⟩ .f32) : FVec Ideal ⟨2, ![8, N]⟩ .f32 :=
  subf (less hb h' X) (broadcastInDim ⟨2, ![8, N]⟩ ![0, 1] hb (Host.log (broadcastInDim S8x1 ![0] bcast_S8_S8x1_0 (total hb h' X))))

theorem over_at {α : Type} (x : S8x1.Idx → α) (r : Fin 8) (n : Fin N) : broadcastInDim ⟨2, ![8, N]⟩ ![0, 1] hb x (ix2 r n) = x (ix2 r 0) :=
  broadcastInDim_apply _ _ _ _ _ fun a => match a with | ⟨0, _⟩ => rfl | ⟨1, _⟩ => rfl

variable {X : (⟨2, ![8, N]⟩ : Shape).Idx → EReal} {x : Fin 8 → ℕ → ℝ} (hX : ∀ (r : Fin 8) (n : Fin N), X (ix2 r n) = (x r n.val : EReal))

include h hX in
theorem peak_at (r : Fin 8) : peak h' X (ix1 r) = max ⊥ ((Finset.univ : Finset (Fin N)).fold max ⊥ fun n => (x r n.val : EReal)) := by
  have e : peak h' X (ix1 r) = max (Ideal.ofBits .f32 0xFF800000#32)
    ((Finset.univ : Finset (Fin N)).fold max (Ideal.ofBits .f32 0xFF800000#32) fun n => X (ix2 r n)) :=
    congrArg (max (Ideal.ofBits .f32 0xFF800000#32)) (max_row h' h h_S_ r X (constant (F := Ideal) S_ .f32 0xFF800000#32))
  rw [e, ofBits_neg_inf, funext fun n => hX r n]

include hX in
theorem less_at (r : Fin 8) (n : Fin N) : less hb h' X (ix2 r n) = (x r n.val : EReal) - peak h' X (ix1 r) := by
  have e : less hb h' X (ix2 r n)
    = X (ix2 r n) - broadcastInDim ⟨2, ![8, N]⟩ ![0, 1] hb (broadcastInDim S8x1 ![0] bcast_S8_S8x1_0 (peak h' X)) (ix2 r n) := rfl
  rw [e, over_at, col_at, hX]

include h hX in
theorem total_at (r : Fin 8) : total hb h' X (ix1 r) = 0 + ∑ n : Fin N, Ideal.exp ((x r n.val : EReal) - peak h' X (ix1 r)) := by
  have e : total hb h' X (ix1 r) = Ideal.ofBits .f32 0x00000000#32 + ∑ n : Fin N, Ideal.exp (less hb h' X (ix2 r n)) :=
    sum_row h' h h_S_ r (Host.exp (F := Ideal) (φ := .f32) (less hb h' X)) (constant (F := Ideal) S_ .f32 0x00000000#32)
  rw [e, Ideal.ofBits_zero_f32, Finset.sum_congr rfl fun n _ => congrArg Ideal.exp (less_at hb h' hX r n)]

include h hX in
theorem logSoftmax_at (hN : 0 < N) (r : Fin 8) (n : Fin N) :
    logSoftmax hb h' X (ix2 r n) = (x r n.val : EReal) - (lse N (x r) : EReal) := by
  have e : logSoftmax hb h' X (ix2 r n)
    = less hb h' X (ix2 r n) - broadcastInDim ⟨2, ![8, N]⟩ ![0, 1] hb (Host.log (F := Ideal) (φ := .f32) (broadcastInDim S8x1 ![0] bcast_S8_S8x1_0 (total hb h' X))) (ix2 r n) := rfl
  have e' : ∀ T : S8x1.Idx → EReal, Host.log (F := Ideal) (φ := .f32) T (ix2 r 0) = Ideal.log (T (ix2 r 0)) := fun _ => rfl
  rw [e, over_at, e', col_at, less_at hb h' hX]
  exact direct hN (peak_at h' h hX r) (total_at hb h' h hX r)

end Softmax

/-! ## The best column -/

/-- The columns of the largest elements. -/
def pick {N : ℕ} (h' : (⟨2, ![8, N]⟩ : Shape).ReducesTo [1] S8) (Y : FVec Ideal ⟨2, ![8, N]⟩ .f32) : IVec S8 32 := fun j =>
  (Host.argReduce reducer_argmax_f32_i32 Y (iotaInDim ⟨2, ![8, N]⟩ 32 1) (constant S_ .f32 0xFF800000#32) (constantI S_ 32 0#32) h' h_S_ j).2

theorem reducer_gt (a b : EReal × BitVec 32) (h : b.1 < a.1) : reducer_argmax_f32_i32 (F := Ideal) a b = a := by
  unfold reducer_argmax_f32_i32
  have h1 : ∀ y : BitVec 1, 1#1 ||| y = 1#1 := by decide
  simp [Ideal.cmpf_def, Ideal.cmp, h, h1, Scalar.select, IntOp.ori, IntOp.andi]

theorem reducer_lt (a b : EReal × BitVec 32) (h : a.1 < b.1) : reducer_argmax_f32_i32 (F := Ideal) a b = b := by
  unfold reducer_argmax_f32_i32
  simp [Ideal.cmpf_def, Ideal.cmp, h.not_gt, h.ne, Scalar.select, IntOp.ori, IntOp.andi]

theorem reducer_eq (a b : EReal × BitVec 32) (h : a.1 = b.1) :
    reducer_argmax_f32_i32 (F := Ideal) a b = if a.2.toInt < b.2.toInt then a else b := by
  obtain ⟨a, i⟩ := a
  obtain ⟨b, k⟩ := b
  obtain rfl : a = b := h
  unfold reducer_argmax_f32_i32
  by_cases hk : i.toInt < k.toInt <;>
    simp [Ideal.cmpf_def, Ideal.cmp, Scalar.select, IntOp.ori, IntOp.andi, IntOp.cmpi, BitVec.slt, hk]

/-- The best column of a row is the first of the largest. -/
theorem pick_at {N : ℕ} (h' : (⟨2, ![8, N]⟩ : Shape).ReducesTo [1] S8) (hN : N < 2 ^ 31) (h0 : 0 < N) (Y : (⟨2, ![8, N]⟩ : Shape).Idx → EReal)
    (r : Fin 8) (ψ : ℕ → EReal) (hY : ∀ n : Fin N, Y (ix2 r n) = ψ n.val) : ∃ n, IsFirst ψ N n ∧ pick h' Y (ix1 r) = BitVec.ofNat 32 n := by
  unfold pick
  rw [Ideal.argReduce_eq_reduce2]
  exact first_row h' h_S_ r (reducer_argmax_f32_i32 (F := Ideal)) reducer_gt reducer_lt reducer_eq
    hN h0 Y (constant (F := Ideal) S_ .f32 0xFF800000#32) ofBits_neg_inf (constantI S_ 32 0#32) rfl ψ hY

/-! ## The proposal -/

/-- The proposal made of the columns picked. -/
def propose (p : IVec S8 32) : FVec Ideal S8x1000001 .f32 :=
  concatenate S8x1000001 1
    [⟨S8x1, mulf (broadcastInDim S8x1 ![] bcast_S_S8x1 (constant S_ .f32 0x3F000000#32)) (broadcastInDim S8x1 ![] bcast_S_S8x1 (constant S_ .f32 0x3F800000#32))⟩,
      ⟨S8x1000000, uitofp .f32 (cmpi .eq (broadcastInDim S8x1000000 ![0, 1] bcast_S8x1_S8x1000000_0_1 (broadcastInDim S8x1 ![0] bcast_S8_S8x1_0 p))
        (broadcastInDim S8x1000000 ![0, 1] bcast_S1x1000000_S8x1000000_0_1 (iotaInDim S1x1000000 32 1)))⟩] concatenates_S8x1_S8x1000000_S8x1000001_d1

theorem propose_at (p : IVec S8 32) (r : Fin 8) (k : ℕ) (hk : k < 1000000) (hp : p (ix1 r) = BitVec.ofNat 32 k) (n : Fin 1000001) :
    propose p (ix2 r n) = if n.val = 0 then Ideal.ofBits .f32 0x3F000000#32 else if n.val = k + 1 then 1 else 0 := by
  unfold propose
  by_cases h0 : n.val = 0
  · rw [if_pos h0]
    refine (concatenate_pair_apply_left 1 _ _ concatenates_S8x1_S8x1000000_S8x1000001_d1 (ix2 r n) rfl (ix2 r 0)
      fun b => match b with | ⟨0, _⟩ => rfl | ⟨1, _⟩ => h0.symm).trans ?_
    show Ideal.ofBits .f32 0x3F000000#32 * Ideal.ofBits .f32 0x3F800000#32 = _
    rw [Ideal.ofBits_one_f32, mul_one]
  · rw [if_neg h0]
    refine (concatenate_pair_apply_right 1 _ _ concatenates_S8x1_S8x1000000_S8x1000001_d1 (ix2 r n) rfl rfl
      (ix2 r (⟨n.val - 1, by omega⟩ : Fin 1000000))
      (fun b hb => match b with | ⟨0, _⟩ => rfl | ⟨1, _⟩ => absurd rfl hb) (by show n.val - 1 + 1 = n.val; omega)).trans ?_
    have hl : broadcastInDim S8x1000000 ![0, 1] bcast_S8x1_S8x1000000_0_1 (broadcastInDim S8x1 ![0] bcast_S8_S8x1_0 p) (ix2 r (⟨n.val - 1, by omega⟩ : Fin 1000000))
        = BitVec.ofNat 32 k := (spread_at _ r _).trans ((col_at p r).trans hp)
    have hr : broadcastInDim S8x1000000 ![0, 1] bcast_S1x1000000_S8x1000000_0_1 (iotaInDim S1x1000000 32 1) (ix2 r (⟨n.val - 1, by omega⟩ : Fin 1000000))
        = BitVec.ofNat 32 (n.val - 1) := down_at _ r _
    show (((IntOp.cmpi .eq _ _).toNat : ℝ) : EReal) = _
    rw [hl, hr]
    have hi : BitVec.ofNat 32 k = BitVec.ofNat 32 (n.val - 1) ↔ n.val = k + 1 := by
      rw [← BitVec.toNat_inj, BitVec.toNat_ofNat, BitVec.toNat_ofNat, Nat.mod_eq_of_lt (by omega), Nat.mod_eq_of_lt (by omega)]
      omega
    unfold IntOp.cmpi
    by_cases h : n.val = k + 1
    · rw [if_pos h, hi.2 h]; simp
    · rw [if_neg h]
      have hne := mt hi.1 h
      simp [hne]

end Cert.ReferenceIdeal.Hand
-- ==== Proof.RefValues.lean ====
/-
  What the reference returns, the arguments' entries being reals: the log-probabilities and the proposal.
-/
module

public import proofs.«01_k».proof.Proof.RefRows

@[expose] public section

noncomputable section

namespace Cert.ReferenceIdeal.Hand

open Cert.ReferenceIdeal Cert.ReferenceIdeal.Gen Cert.Online Cert.Line Cert.Row
open Idealize.ShloMosaic Idealize.ShloMosaic.TcCoe Idealize.ShloMosaic.StableHlo Idealize.SL.Sem

variable (V : Valuation τ sig (Elt Ideal))

set_option maxHeartbeats 4000000 in
set_option maxRecDepth 100000 in
/-- The logits are the linear map of the arguments. -/
theorem linear_read : after ops V (Proc.devRef .tc main_v4)
    = linear (after ops V (Proc.devRef .tc main_arg0)) (after ops V (Proc.devRef .tc main_arg1)) (after ops V (Proc.devRef .tc main_arg2)) := by
  have e0 := (ordered (F := Ideal)).unary (x := main_arg1) (y := main_v0) 0 rfl (by decide) (by decide) V
  have e1 := (ordered (F := Ideal)).binary (a := main_arg0) (b := main_v0) (y := main_v1) 1 rfl (by decide) (by decide) (by decide) V
  have e2 := (ordered (F := Ideal)).unary (x := main_arg2) (y := main_v2) 2 rfl (by decide) (by decide) V
  have e3 := (ordered (F := Ideal)).unary (x := main_v2) (y := main_v3) 3 rfl (by decide) (by decide) V
  have e4 := (ordered (F := Ideal)).binary (a := main_v1) (b := main_v3) (y := main_v4) 4 rfl (by decide) (by decide) (by decide) V
  rw [e4, e3, e2, e1, e0]
  rfl

set_option maxHeartbeats 4000000 in
set_option maxRecDepth 100000 in
/-- The rows' maxima, before they are compared with −∞ once more. -/
theorem peak_read : after ops V (Proc.devRef .tc main_call0_v2) = peak reducesTo_S8x1000000_S8_d1 (after ops V (Proc.devRef .tc main_v4)) := by
  have e5 := (ordered (F := Ideal)).nullary (y := main_call0_cst) 5 rfl (by decide) V
  have e6 : (after ops V (Proc.devRef .tc main_call0_v0) : FVec Ideal S8 .f32)
      = Host.reduce (FloatOps.maximumf (F := Ideal) (φ := .f32)) (after ops V (Proc.devRef .tc main_v4) : FVec Ideal S8x1000000 .f32)
        (after ops V (Proc.devRef .tc main_call0_cst) : FVec Ideal S_ .f32) reducesTo_S8x1000000_S8_d1 h_S_ :=
    (ordered (F := Ideal)).tbinary (a := (.of main_v4 : TRef sig ⟨S8x1000000, .f32⟩)) (b := (.of main_call0_cst : TRef sig ⟨S_, .f32⟩))
      (y := (.of main_call0_v0 : TRef sig ⟨S8, .f32⟩)) 6 rfl (by decide) (by decide) (by decide) V
  have e7 := (ordered (F := Ideal)).nullary (y := main_call0_cst_0) 7 rfl (by decide) V
  have e8 := (ordered (F := Ideal)).unary (x := main_call0_cst_0) (y := main_call0_v1) 8 rfl (by decide) (by decide) V
  have e9 := (ordered (F := Ideal)).binary (a := main_call0_v1) (b := main_call0_v0) (y := main_call0_v2) 9 rfl (by decide) (by decide) (by decide) V
  rw [e9, e8, e7, e6, e5]
  unfold peak
  rfl

set_option maxHeartbeats 4000000 in
set_option maxRecDepth 100000 in
/-- The logits less their row's maximum. -/
theorem less_read : after ops V (Proc.devRef .tc main_call0_v5)
    = less bcast_S8x1_S8x1000000_0_1 reducesTo_S8x1000000_S8_d1 (after ops V (Proc.devRef .tc main_v4)) := by
  have e10 := (ordered (F := Ideal)).unary (x := main_call0_v2) (y := main_call0_v3) 10 rfl (by decide) (by decide) V
  have e11 := (ordered (F := Ideal)).unary (x := main_call0_v3) (y := main_call0_v4) 11 rfl (by decide) (by decide) V
  have e12 := (ordered (F := Ideal)).binary (a := main_v4) (b := main_call0_v4) (y := main_call0_v5) 12 rfl (by decide) (by decide) (by decide) V
  rw [e12, e11, e10, peak_read]
  unfold less
  rfl

set_option maxHeartbeats 4000000 in
set_option maxRecDepth 100000 in
/-- The rows' sums of exponentials. -/
theorem total_read : after ops V (Proc.devRef .tc main_call0_v7)
    = total bcast_S8x1_S8x1000000_0_1 reducesTo_S8x1000000_S8_d1 (after ops V (Proc.devRef .tc main_v4)) := by
  have e13 := (ordered (F := Ideal)).unary (x := main_call0_v5) (y := main_call0_v6) 13 rfl (by decide) (by decide) V
  have e14 := (ordered (F := Ideal)).nullary (y := main_call0_cst_1) 14 rfl (by decide) V
  have e15 : (after ops V (Proc.devRef .tc main_call0_v7) : FVec Ideal S8 .f32)
      = Host.reduceAdd (F := Ideal) (φ := .f32) (after ops V (Proc.devRef .tc main_call0_v6) : FVec Ideal S8x1000000 .f32)
        (after ops V (Proc.devRef .tc main_call0_cst_1) : FVec Ideal S_ .f32) reducesTo_S8x1000000_S8_d1 h_S_ :=
    (ordered (F := Ideal)).tbinary (a := (.of main_call0_v6 : TRef sig ⟨S8x1000000, .f32⟩)) (b := (.of main_call0_cst_1 : TRef sig ⟨S_, .f32⟩))
      (y := (.of main_call0_v7 : TRef sig ⟨S8, .f32⟩)) 15 rfl (by decide) (by decide) (by decide) V
  rw [e15, e14, e13, less_read]
  unfold total
  rfl

set_option maxHeartbeats 4000000 in
set_option maxRecDepth 100000 in
/-- The log-probabilities are the logarithm of softmax of the logits. -/
theorem softmax_read : after ops V (Proc.devRef .tc main_v5)
    = logSoftmax bcast_S8x1_S8x1000000_0_1 reducesTo_S8x1000000_S8_d1 (after ops V (Proc.devRef .tc main_v4)) := by
  have e16 := (ordered (F := Ideal)).unary (x := main_call0_v7) (y := main_call0_v8) 16 rfl (by decide) (by decide) V
  have e17 := (ordered (F := Ideal)).unary (x := main_call0_v8) (y := main_call0_v9) 17 rfl (by decide) (by decide) V
  have e18 := (ordered (F := Ideal)).unary (x := main_call0_v9) (y := main_call0_v10) 18 rfl (by decide) (by decide) V
  have e19 := (ordered (F := Ideal)).binary (a := main_call0_v5) (b := main_call0_v10) (y := main_v5) 19 rfl (by decide) (by decide) (by decide) V
  rw [e19, e18, e17, e16, total_read, less_read]
  unfold logSoftmax
  rfl

/-- The table's element at row `r`, column `n`. -/
theorem drawn (r : Fin 8) (n : Fin 1000000) : after ops V (Proc.devRef .tc main_call1_v0) (ix2 r n) = unif (F := Ideal) (stir (seed (place r.val n.val))) := by
  have hp : IntOp.addi (IntOp.muli (BitVec.ofNat 32 ((ix2 r n : S8x1000000.Idx) 0).val) 1000000#32) (BitVec.ofNat 32 ((ix2 r n : S8x1000000.Idx) 1).val)
      = place r.val n.val := by
    unfold place
    exact congrArg₂ IntOp.addi (congrArg (fun a => IntOp.muli (BitVec.ofNat 32 a) 1000000#32) rfl) (congrArg (BitVec.ofNat 32) rfl)
  exact (table (F := Ideal) V (ix2 r n)).trans (congrArg (fun w => unif (F := Ideal) (stir (seed w))) hp)

/-- One score, from the table's element. -/
theorem noised {N : ℕ} (T P : FVec Ideal ⟨2, ![8, N]⟩ .f32) (r : Fin 8) (n : Fin N) (g : EReal)
    (hT : -Ideal.log (-Ideal.log (T (ix2 r n))) = g) :
    addf (F := Ideal) (φ := .f32) (Host.negf (Host.log (Host.negf (Host.log T)))) P (ix2 r n) = g + P (ix2 r n) :=
  congrArg (fun a : EReal => a + P (ix2 r n)) hT

set_option maxHeartbeats 4000000 in
set_option maxRecDepth 100000 in
/-- The scores: the noise added to the log-probabilities. -/
theorem score_read (r : Fin 8) (n : Fin 1000000) : after ops V (Proc.devRef .tc main_v14) (ix2 r n)
    = noise r n.val + after ops V (Proc.devRef .tc main_v5) (ix2 r n) := by
  have e293 := (ordered (F := Ideal)).unary (x := main_call1_v0) (y := main_call1_v1) 293 rfl (by decide) (by decide) V
  have e294 := (ordered (F := Ideal)).unary (x := main_call1_v1) (y := main_call1_v2) 294 rfl (by decide) (by decide) V
  have e295 := (ordered (F := Ideal)).unary (x := main_call1_v2) (y := main_call1_v3) 295 rfl (by decide) (by decide) V
  have e296 := (ordered (F := Ideal)).unary (x := main_call1_v3) (y := main_v13) 296 rfl (by decide) (by decide) V
  have e297 := (ordered (F := Ideal)).binary (a := main_v13) (b := main_v5) (y := main_v14) 297 rfl (by decide) (by decide) (by decide) V
  rw [e297, e296, e295, e294, e293]
  exact noised _ _ r n (noise r n.val) (congrArg (fun a : EReal => -Ideal.log (-Ideal.log a)) (drawn V r n))

set_option maxHeartbeats 4000000 in
set_option maxRecDepth 100000 in
/-- The columns picked are those of the largest scores. -/
theorem pick_read : after ops V (Proc.devRef .tc main_v15) = pick reducesTo_S8x1000000_S8_d1 (after ops V (Proc.devRef .tc main_v14)) := by
  have e298 := (ordered (F := Ideal)).nullary (y := main_call2_v0) 298 rfl (by decide) V
  have e299 := (ordered (F := Ideal)).nullary (y := main_call2_cst) 299 rfl (by decide) V
  have e300 := (ordered (F := Ideal)).nullary (y := main_call2_c) 300 rfl (by decide) V
  have e302 := (ordered (F := Ideal)).quaternary (a := main_v14) (b := main_call2_v0) (c := main_call2_cst) (e := main_call2_c) (y := main_v15) 302 rfl
    (by decide) (by decide) (by decide) (by decide) (by decide) V
  rw [e298, e299, e300] at e302
  exact e302

set_option maxHeartbeats 4000000 in
set_option maxRecDepth 100000 in
/-- The proposal is made of the columns picked. -/
theorem propose_read : after ops V (Proc.devRef .tc main_v20) = propose (after ops V (Proc.devRef .tc main_v15)) := by
  have e303 := (ordered (F := Ideal)).unary (x := main_v15) (y := main_call3_v0) 303 rfl (by decide) (by decide) V
  have e304 := (ordered (F := Ideal)).nullary (y := main_call3_v1) 304 rfl (by decide) V
  have e305 := (ordered (F := Ideal)).unary (x := main_call3_v0) (y := main_call3_v2) 305 rfl (by decide) (by decide) V
  have e306 := (ordered (F := Ideal)).unary (x := main_call3_v1) (y := main_call3_v3) 306 rfl (by decide) (by decide) V
  have e307 := (ordered (F := Ideal)).binary (a := main_call3_v2) (b := main_call3_v3) (y := main_call3_v4) 307 rfl (by decide) (by decide) (by decide) V
  have e308 := (ordered (F := Ideal)).unary (x := main_call3_v4) (y := main_v16) 308 rfl (by decide) (by decide) V
  have e309 := (ordered (F := Ideal)).nullary (y := main_cst) 309 rfl (by decide) V
  have e310 := (ordered (F := Ideal)).unary (x := main_cst) (y := main_v17) 310 rfl (by decide) (by decide) V
  have e311 := (ordered (F := Ideal)).nullary (y := main_cst_2) 311 rfl (by decide) V
  have e312 := (ordered (F := Ideal)).unary (x := main_cst_2) (y := main_v18) 312 rfl (by decide) (by decide) V
  have e313 := (ordered (F := Ideal)).binary (a := main_v18) (b := main_v17) (y := main_v19) 313 rfl (by decide) (by decide) (by decide) V
  have e314 := (ordered (F := Ideal)).binary (a := main_v19) (b := main_v16) (y := main_v20) 314 rfl (by decide) (by decide) (by decide) V
  rw [e314, e313, e312, e311, e310, e309, e308, e307, e306, e305, e304, e303]
  rfl

variable {V} {e : Entries}
  (he : e.Of (V (Proc.devRef .tc main_arg0)) (V (Proc.devRef .tc main_arg1)) (V (Proc.devRef .tc main_arg2)))

include he in
theorem logits_at (r : Fin 8) (n : Fin 1000000) : after ops V (Proc.devRef .tc main_v4) (ix2 r n) = (e.x r n.val : EReal) := by
  have h : e.Of (after ops V (Proc.devRef .tc main_arg0)) (after ops V (Proc.devRef .tc main_arg1)) (after ops V (Proc.devRef .tc main_arg2)) := by
    rw [ordered.start (a := main_arg0) (by decide) V, ordered.start (a := main_arg1) (by decide) V, ordered.start (a := main_arg2) (by decide) V]
    exact he
  rw [linear_read V]
  exact linear_at h r n

include he in
theorem logp_at (r : Fin 8) (n : Fin 1000000) : after ops V (Proc.devRef .tc main_v5) (ix2 r n) = e.logp r n.val := by
  rw [softmax_read V]
  exact logSoftmax_at bcast_S8x1_S8x1000000_0_1 reducesTo_S8x1000000_S8_d1 reduces (x := e.x) (logits_at he) (by norm_num) r n

include he in
/-- The column the reference picks is the kernel's: subtracting the row's constant from every score moves no order. -/
theorem hit_at (r : Fin 8) : after ops V (Proc.devRef .tc main_v15) (ix1 r) = BitVec.ofNat 32 (e.hit r) := by
  rw [pick_read V]
  obtain ⟨n, hn, hp⟩ := pick_at reducesTo_S8x1000000_S8_d1 (by norm_num) (by norm_num) (after ops V (Proc.devRef .tc main_v14)) r
    (fun n => noise r n + e.logp r n) fun n => (score_read V r n).trans (congrArg (fun a : EReal => noise r n.val + a) (logp_at he r n))
  refine hp.trans (congrArg (BitVec.ofNat 32) (hn.unique ((e.hit_first r).congr fun a _ b _ => ?_)))
  have hs : ∀ n, noise r n + e.logp r n = ((e.x r n : EReal) + noise r n) + ((-lse 1000000 (e.x r) : ℝ) : EReal) := fun n => by
    unfold Entries.logp
    rw [sub_eq_add_neg, ← EReal.coe_neg, ← add_assoc, add_comm (noise r n)]
  simp only [hs]
  exact (add_coe_le_iff _ _ _).symm

include he in
theorem proposal_at (r : Fin 8) (n : Fin 1000001) : after ops V (Proc.devRef .tc main_v20) (ix2 r n) = e.proposal r n.val := by
  rw [propose_read V]
  exact propose_at _ r (e.hit r) (e.hit_first r).1 (hit_at he r) n

/-- The reference's run: its two results are the log-probabilities and the proposal, and the arguments end as they began. -/
theorem reference_run (m : (ℓ : Loc nD τ sig) → Buf (Elt Ideal) ℓ) (ρ : Dev nD → PrngReg) (e : Dev nD → Entries)
    (he : ∀ c : Dev nD, (e c).Of (m ((c.tc : Thread nD τ).loc main_arg0)) (m ((c.tc : Thread nD τ).loc main_arg1)) (m ((c.tc : Thread nD τ).loc main_arg2))) :
    θ_run (defs (F := Ideal)) (onTc (τ := τ) (main (F := Ideal))) ⟨m, fun _ => 0, ρ⟩ (fun r => ∀ c : Dev nD,
      ((∀ i : S8x1000000.Idx, r.2.mem ((c.tc : Thread nD τ).loc main_v5) i = (e c).logp (i 0) (i 1).val)
        ∧ ∀ i : S8x1000001.Idx, r.2.mem ((c.tc : Thread nD τ).loc main_v20) i = (e c).proposal (i 0) (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨⟨fun i => (congrFun (h c main_v5) i).trans ((congrArg _ (eq_ix2 i)).trans (logp_at (V := StableHlo.launchContents m c) (he c) (i 0) (i 1))),
      fun i => (congrFun (h c main_v20) i).trans ((congrArg _ (eq_ix2 i)).trans (proposal_at (V := StableHlo.launchContents m c) (he c) (i 0) (i 1)))⟩,
      (h c main_arg0).trans (ordered.start (by decide) _), (h c main_arg1).trans (ordered.start (by decide) _),
      (h c main_arg2).trans (ordered.start (by decide) _)⟩) (run_ops m ρ)

end Cert.ReferenceIdeal.Hand
-- ==== Proof.Finite.lean ====
/-
  What the precondition says: every entry of the three arguments lies strictly between the infinities.
-/
module

public import proofs.«01_k».proof.Pre_finite
public import proofs.«01_k».proof.Proof.Logits
public import Idealize.ShloMosaic.Lib.ReduceAll

@[expose] public section

noncomputable section

namespace Cert.Pre_finite.Hand

open Cert.Pre_finite Idealize.ShloMosaic Cert.Row

instance facts : Cert.Pre_finite.Facts where
  bcast_S_S8x64 := by decide
  reducesTo_S8x64_S_d0_1 := by decide
  h_S_ := by decide
  bcast_S_S1000000x64 := by decide
  reducesTo_S1000000x64_S_d0_1 := by decide
  bcast_S_S1000000 := by decide
  reducesTo_S1000000_S_d0 := by decide

/-- A scalar has one place. -/
theorem one_place : Subsingleton S_.Idx := ⟨fun _ _ => funext fun a => a.elim0⟩

theorem ofBits_inf : Ideal.ofBits .f32 0x7F800000#32 = ⊤ := by simp [Ideal.ofBits, Ideal.ieee]

/-- The magnitudes of an array all found below infinity, by one reduction. -/
theorem below {s : Shape} {axes : List (Fin s.rank)} (A : s.Idx → EReal) (hb : S_.BroadcastsInDim s (![] : Fin 0 → Fin s.rank))
    (h : s.ReducesTo axes S_) (hu : 0 < S_.numel) (j : S_.Idx)
    (e : Host.reduce IntOp.andi (cmpf (F := Ideal) (φ := .f32) .olt (Host.absf A) (broadcastInDim s ![] hb (constant S_ .f32 0x7F800000#32)))
      (constantI S_ 1 1#1) h hu j = 1#1) (i : s.Idx) : max (A i) (-A i) < ⊤ := by
  have := one_place
  have h1 := Host.reduce_andi_all _ _ h hu j e i
  have h2 : BitVec.ofBool (decide (max (A i) (-A i) < Ideal.ofBits .f32 0x7F800000#32)) = 1#1 := h1
  rw [ofBits_inf] at h2
  by_contra hc
  rw [decide_eq_false hc] at h2
  exact absurd h2 (by decide)

/-- Where the precondition holds, the arguments' entries are reals. -/
theorem entries {A0 : S8x64.Idx → EReal} {A1 : S1000000x64.Idx → EReal} {A2 : S1000000.Idx → EReal}
    (h : Cert.Pre_finite.fn (F := Ideal) A0 A1 A2 = fun _ => 1#1) : ∃ e : Entries, e.Of A0 A1 A2 := by
  have hj := congrFun h (fun a : Fin 0 => a.elim0)
  obtain ⟨h01, h2⟩ := IntOp.andi_eq_one.1 hj
  obtain ⟨h0, h1⟩ := IntOp.andi_eq_one.1 h01
  exact entries_of (below A0 _ _ _ _ h0) (below A1 _ _ _ _ h1) (below A2 _ _ _ _ h2)

end Cert.Pre_finite.Hand
-- ==== Proof.lean ====
/-
  The claims, put together: the three programs run and leave their arguments as they were, the idealised kernel is the
  kernel with its named constant, and on finite arguments the idealised kernel and the reference return the same.
-/
module

public import proofs.«01_k».proof.Defs
public import proofs.«01_k».proof.Proof.RunBits
public import proofs.«01_k».proof.Proof.RunIdeal
public import proofs.«01_k».proof.Proof.RefRun
public import proofs.«01_k».proof.Proof.Arrays
public import proofs.«01_k».proof.Proof.RefValues
public import proofs.«01_k».proof.Proof.Finite
public import Idealize.ShloMosaic.Adequacy
public import Idealize.ShloMosaic.Init

@[expose] public section

noncomputable section

namespace Cert.Proof

open Idealize.ShloMosaic Idealize.SL.Sem

theorem frame_kernel : Cert.quiescent_Kernel := fun m ρ _ => Cert.Kernel.Hand.frame_main m ρ

theorem frame_kernelIdeal : Cert.quiescent_KernelIdeal := fun m ρ _ => Cert.KernelIdeal.Hand.frame_main m ρ

theorem frame_kernelIdeal_pre : Cert.quiescent_KernelIdeal_pre_finite := fun m ρ _ => Cert.KernelIdeal.Hand.frame_main m ρ

theorem frame_reference : Cert.quiescent_ReferenceIdeal := fun m ρ _ => Cert.ReferenceIdeal.Hand.frame_ref m ρ

theorem frame_reference_pre : Cert.quiescent_ReferenceIdeal_pre_finite := fun m ρ _ => Cert.ReferenceIdeal.Hand.frame_ref m ρ

/-- The mask −1e30 is named, and stands for −∞. -/
theorem mask_named : Cert.preserves_Kernel_KernelIdeal :=
  IdealRules.named_const.statement Cert.KernelIdeal.κ "mask" .f32 0xF149F2CA#32 ⊥ rfl

/-- On finite arguments the kernel and the reference return the same proposal and the same log-probabilities: on every
    device both are functions of the reals that the arguments' entries are. -/
theorem same_results : Cert.algebraic_KernelIdeal_ReferenceIdeal_pre_finite := by
  intro m g m' g' hpre heq
  choose e he using fun c => Cert.Pre_finite.Hand.entries (hpre c)
  refine ⟨fun c i => (e c).proposal (i 0) (i 1).val, fun c i => (e c).logp (i 0) (i 1).val, ?_, ?_⟩
  · refine (θ_run Cert.KernelIdeal.defs _ _).mono (fun r h c => ?_) (Cert.KernelIdeal.Hand.kernel_run (m := m) g e he)
    obtain ⟨⟨hl, hp⟩, ha⟩ := h c
    exact ⟨funext hp, funext hl, ha⟩
  · have he' : ∀ c, (e c).Of (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2)) := fun c => by
      obtain ⟨h0, h1, h2⟩ := heq c
      rw [h0, h1, h2]
      exact he c
    refine (θ_run Cert.ReferenceIdeal.defs _ _).mono (fun r h c => ?_) (Cert.ReferenceIdeal.Hand.reference_run m' g' e he')
    obtain ⟨⟨hl, hp⟩, ha⟩ := h c
    exact ⟨funext hp, funext hl, ha⟩

theorem claim : Cert.Claim :=
  ⟨Cert.Kernel.Gen.facts, Cert.KernelIdeal.Gen.facts, Cert.ReferenceIdeal.Gen.facts,
    Cert.Pre_finite.Hand.facts, frame_kernel, frame_kernelIdeal, frame_kernelIdeal_pre, frame_reference, frame_reference_pre, mask_named,
    same_results⟩

end Cert.Proof

end
